-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_top_fits_lanes [hPre_top_fits_lanes : Cert.Pre_top_fits_lanes.Facts] (m : (ℓ : Loc Cert.KernelIdeal.nD Cert.KernelIdeal.τ Cert.KernelIdeal.sig) → Buf (Elt Ideal) ℓ) : Prop :=
  ∀ c : Dev Cert.KernelIdeal.nD,
    (Cert.Pre_top_fits_lanes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_top_fits_lanes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_top_fits_lanes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_top_fits_lanes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_top_fits_lanes [hPre_top_fits_lanes : Cert.Pre_top_fits_lanes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_top_fits_lanes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_top_fits_lanes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_top_fits_lanes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_top_fits_lanes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_top_fits_lanes [hKernelIdeal : Cert.KernelIdeal.Facts] [hPre_top_fits_lanes : Cert.Pre_top_fits_lanes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_top_fits_lanes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_top_fits_lanes [hReferenceIdeal : Cert.ReferenceIdeal.Facts] [hPre_top_fits_lanes : Cert.Pre_top_fits_lanes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_top_fits_lanes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_top_fits_lanes [hKernelIdeal : Cert.KernelIdeal.Facts] [hReferenceIdeal : Cert.ReferenceIdeal.Facts] [hPre_top_fits_lanes : Cert.Pre_top_fits_lanes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_top_fits_lanes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v23)) (v2 : (c : Dev Cert.KernelIdeal.nD) → Buf (Elt Ideal) ((c.tc : Thread Cert.KernelIdeal.nD Cert.KernelIdeal.τ).loc Cert.KernelIdeal.main_v24)) (v3 : (c : Dev Cert.KernelIdeal.nD) → Buf (Elt Ideal) ((c.tc : Thread Cert.KernelIdeal.nD Cert.KernelIdeal.τ).loc Cert.KernelIdeal.main_v25)) (v4 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_v24) = v2 c
          ∧ r.2.mem ((c.tc : Thread Cert.KernelIdeal.nD Cert.KernelIdeal.τ).loc Cert.KernelIdeal.main_v25) = v3 c
          ∧ r.2.mem ((c.tc : Thread Cert.KernelIdeal.nD Cert.KernelIdeal.τ).loc Cert.KernelIdeal.main_v30) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_v62) = v3 c
          ∧ r.2.mem ((c.tc : Thread Cert.ReferenceIdeal.nD Cert.ReferenceIdeal.τ).loc Cert.ReferenceIdeal.main_v32) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_top_fits_lanes : Cert.Pre_top_fits_lanes.Facts),
    quiescent_Kernel (hKernel := hKernel)
    ∧ quiescent_KernelIdeal (hKernelIdeal := hKernelIdeal)
    ∧ quiescent_KernelIdeal_pre_top_fits_lanes (hKernelIdeal := hKernelIdeal) (hPre_top_fits_lanes := hPre_top_fits_lanes)
    ∧ quiescent_ReferenceIdeal (hReferenceIdeal := hReferenceIdeal)
    ∧ quiescent_ReferenceIdeal_pre_top_fits_lanes (hReferenceIdeal := hReferenceIdeal) (hPre_top_fits_lanes := hPre_top_fits_lanes)
    ∧ preserves_Kernel_KernelIdeal
    ∧ algebraic_KernelIdeal_ReferenceIdeal_pre_top_fits_lanes (hKernelIdeal := hKernelIdeal) (hReferenceIdeal := hReferenceIdeal) (hPre_top_fits_lanes := hPre_top_fits_lanes)
-- ==== Pre_top_fits_lanes.lean ====
abbrev S_ : Shape := ⟨0, ![]⟩
abbrev S32x8x100000 : Shape := ⟨3, ![32, 8, 100000]⟩
abbrev S32x8x1 : Shape := ⟨3, ![32, 8, 1]⟩
abbrev S32x8x64 : Shape := ⟨3, ![32, 8, 64]⟩
abbrev S32x8x99968 : Shape := ⟨3, ![32, 8, 99968]⟩
abbrev S32x8x781x128 : Shape := ⟨4, ![32, 8, 781, 128]⟩
abbrev S32x8x128 : Shape := ⟨3, ![32, 8, 128]⟩
abbrev S32x8x32 : Shape := ⟨3, ![32, 8, 32]⟩

class Facts : Prop where
  sliceFits_S32x8x100000_S32x8x64 : S32x8x100000.Slices (fun _ => 0) S32x8x64
  slices_S32x8x64_S32x8x1_0_0_63 : S32x8x64.Slices ![0, 0, 63] S32x8x1
  bcast_S32x8x1_S32x8x100000_0_1_2 : S32x8x1.BroadcastsInDim S32x8x100000 (![0, 1, 2] : Fin 3 → Fin S32x8x100000.rank)
  natLt_1_32 : 1 < 32
  slices_S32x8x100000_S32x8x99968_0_0_0 : S32x8x100000.Slices ![0, 0, 0] S32x8x99968
  shapeCasts_S32x8x99968_S32x8x781x128 : S32x8x99968.ShapeCasts S32x8x781x128
  reducesTo_S32x8x781x128_S32x8x128_d2 : S32x8x781x128.ReducesTo [2] S32x8x128
  h_S_ : 0 < S_.numel
  slices_S32x8x100000_S32x8x32_0_0_99968 : S32x8x100000.Slices ![0, 0, 99968] S32x8x32
  pads_S32x8x32_S32x8x128_000_000_9600 : S32x8x32.Pads (![0, 0, 96] : Fin 3 → Nat) ![0, 0, 0] ![0, 0, 0] S32x8x128
  bcast_S_S32x8x128 : S_.BroadcastsInDim S32x8x128 (![] : Fin 0 → Fin S32x8x128.rank)
  bcast_S_S32x8x1 : S_.BroadcastsInDim S32x8x1 (![] : Fin 0 → Fin S32x8x1.rank)

variable [Facts]

def fn_pad {F : FTy → Type} [FloatOps F] (arg0 : IVec S32x8x32 32) (arg1 : IVec S_ 32) : IVec S32x8x128 32 :=
  let v0 : IVec S_ 32 := id arg1
  let v1 : IVec S32x8x128 32 := (fun x v => pad S32x8x128 ![0, 0, 96] ![0, 0, 0] ![0, 0, 0] x v pads_S32x8x32_S32x8x128_000_000_9600 h_S_) arg0 v0
  v1

def fn_part1 {F : FTy → Type} [FloatOps F] (main_v0 : FVec F S32x8x1 .f32) (main_v9 : IVec S32x8x128 32) (main_v10 : FVec F S32x8x1 .f32) (main_v13 : IVec S32x8x100000 32) (main_v16 : IVec S32x8x128 32) : IVec S32x8x128 1 × IVec S32x8x128 1 × IVec S32x8x1 1 × IVec S32x8x1 1 :=
  let main_v17 : IVec S32x8x32 32 := (extractStridedSlice S32x8x32 ![0, 0, 99968] · slices_S32x8x100000_S32x8x32_0_0_99968) main_v13
  let main_c_4 : IVec S_ 32 := constantI S_ 32 0#32
  let main_v18 : IVec S32x8x128 32 := fn_pad (F := F) main_v17 main_c_4
  let main_v19 : IVec S32x8x128 32 := addi main_v16 main_v18
  let main_c_5 : IVec S_ 32 := constantI S_ 32 14#32
  let main_v20 : IVec S32x8x128 32 := broadcastInDim S32x8x128 ![] bcast_S_S32x8x128 main_c_5
  let main_v21 : IVec S32x8x128 1 := cmpi .sle main_v9 main_v20
  let main_c_6 : IVec S_ 32 := constantI S_ 32 14#32
  let main_v22 : IVec S32x8x128 32 := broadcastInDim S32x8x128 ![] bcast_S_S32x8x128 main_c_6
  let main_v23 : IVec S32x8x128 1 := cmpi .sle main_v19 main_v22
  let main_cst : FVec F S_ .f32 := constant S_ .f32 0xFF800000#32
  let main_v24 : FVec F S32x8x1 .f32 := broadcastInDim S32x8x1 ![] bcast_S_S32x8x1 main_cst
  let main_v25 : IVec S32x8x1 1 := cmpf .ogt main_v0 main_v24
  let main_cst_7 : FVec F S_ .f32 := constant S_ .f32 0xFF800000#32
  let main_v26 : FVec F S32x8x1 .f32 := broadcastInDim S32x8x1 ![] bcast_S_S32x8x1 main_cst_7
  let main_v27 : IVec S32x8x1 1 := cmpf .ogt main_v10 main_v26
  (main_v21, main_v23, main_v25, main_v27)

def fn {F : FTy → Type} [FloatOps F] (main_arg0 : IVec S_ 32) (main_arg1 : FVec F S32x8x100000 .f32) (main_arg2 : FVec F S32x8x100000 .f32) (main_arg3 : FVec F S32x8x1 .f32) (main_arg4 : FVec F S32x8x1 .f32) : IVec S32x8x128 1 × IVec S32x8x128 1 × IVec S32x8x1 1 × IVec S32x8x1 1 :=
  let main_values : FVec F S32x8x64 .f32 := (fun x => (Host.topK S32x8x64 2 (FloatOps.cmpfTotal .gt) x sliceFits_S32x8x100000_S32x8x64).1) main_arg1
  let main_indices : IVec S32x8x64 32 := (fun x => (Host.topK S32x8x64 2 (FloatOps.cmpfTotal .gt) x sliceFits_S32x8x100000_S32x8x64).2) main_arg1
  let main_v0 : FVec F S32x8x1 .f32 := (extractStridedSlice S32x8x1 ![0, 0, 63] · slices_S32x8x64_S32x8x1_0_0_63) main_values
  let main_v1 : FVec F S32x8x100000 .f32 := broadcastInDim S32x8x100000 ![0, 1, 2] bcast_S32x8x1_S32x8x100000_0_1_2 main_v0
  let main_v2 : IVec S32x8x100000 1 := cmpf .oge main_arg1 main_v1
  let main_v3 : IVec S32x8x100000 32 := (extui 32 · natLt_1_32) main_v2
  let main_v4 : IVec S32x8x99968 32 := (extractStridedSlice S32x8x99968 ![0, 0, 0] · slices_S32x8x100000_S32x8x99968_0_0_0) main_v3
  let main_v5 : IVec S32x8x781x128 32 := shapeCast S32x8x781x128 main_v4 shapeCasts_S32x8x99968_S32x8x781x128
  let main_c : IVec S_ 32 := constantI S_ 32 0#32
  let main_v6 : IVec S32x8x128 32 := (fun x v => Host.reduce IntOp.addi x v reducesTo_S32x8x781x128_S32x8x128_d2 h_S_) main_v5 main_c
  let main_v7 : IVec S32x8x32 32 := (extractStridedSlice S32x8x32 ![0, 0, 99968] · slices_S32x8x100000_S32x8x32_0_0_99968) main_v3
  let main_c_0 : IVec S_ 32 := constantI S_ 32 0#32
  let main_v8 : IVec S32x8x128 32 := fn_pad (F := F) main_v7 main_c_0
  let main_v9 : IVec S32x8x128 32 := addi main_v6 main_v8
  let main_values_1 : FVec F S32x8x64 .f32 := (fun x => (Host.topK S32x8x64 2 (FloatOps.cmpfTotal .gt) x sliceFits_S32x8x100000_S32x8x64).1) main_arg2
  let main_indices_2 : IVec S32x8x64 32 := (fun x => (Host.topK S32x8x64 2 (FloatOps.cmpfTotal .gt) x sliceFits_S32x8x100000_S32x8x64).2) main_arg2
  let main_v10 : FVec F S32x8x1 .f32 := (extractStridedSlice S32x8x1 ![0, 0, 63] · slices_S32x8x64_S32x8x1_0_0_63) main_values_1
  let main_v11 : FVec F S32x8x100000 .f32 := broadcastInDim S32x8x100000 ![0, 1, 2] bcast_S32x8x1_S32x8x100000_0_1_2 main_v10
  let main_v12 : IVec S32x8x100000 1 := cmpf .oge main_arg2 main_v11
  let main_v13 : IVec S32x8x100000 32 := (extui 32 · natLt_1_32) main_v12
  let main_v14 : IVec S32x8x99968 32 := (extractStridedSlice S32x8x99968 ![0, 0, 0] · slices_S32x8x100000_S32x8x99968_0_0_0) main_v13
  let main_v15 : IVec S32x8x781x128 32 := shapeCast S32x8x781x128 main_v14 shapeCasts_S32x8x99968_S32x8x781x128
  let main_c_3 : IVec S_ 32 := constantI S_ 32 0#32
  let main_v16 : IVec S32x8x128 32 := (fun x v => Host.reduce IntOp.addi x v reducesTo_S32x8x781x128_S32x8x128_d2 h_S_) main_v15 main_c_3
  fn_part1 (F := F) main_v0 main_v9 main_v10 main_v13 main_v16
-- ==== Kernel.lean ====
abbrev S_ : Shape := ⟨0, ![]⟩
abbrev S32x8x100000 : Shape := ⟨3, ![32, 8, 100000]⟩
abbrev S32x8x1 : Shape := ⟨3, ![32, 8, 1]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S1x1 : Shape := ⟨2, ![1, 1]⟩
abbrev S256x64 : Shape := ⟨2, ![256, 64]⟩
abbrev S32x8 : Shape := ⟨2, ![32, 8]⟩
abbrev S256x1 : Shape := ⟨2, ![256, 1]⟩
abbrev S256x100000 : Shape := ⟨2, ![256, 100000]⟩
abbrev S8x100000 : Shape := ⟨2, ![8, 100000]⟩
abbrev S8x64 : Shape := ⟨2, ![8, 64]⟩
abbrev S8x1 : Shape := ⟨2, ![8, 1]⟩
abbrev S8x128 : Shape := ⟨2, ![8, 128]⟩
abbrev S8x1792 : Shape := ⟨2, ![8, 1792]⟩
abbrev S8 : Shape := ⟨1, ![8]⟩
abbrev S1x8 : Shape := ⟨2, ![1, 8]⟩
abbrev S1x1x1x8 : Shape := ⟨4, ![1, 1, 1, 8]⟩
abbrev S32x1x1x8 : Shape := ⟨4, ![32, 1, 1, 8]⟩

abbrev nBuf : Space → Nat
  | .hbm => 810
  | .vmem => 20
  | .smem => 0
  | _ => 0

abbrev hbmTy0_0 (i : Nat) : BufTy := match i % 128 with
  | 0 => ⟨S_, .i32⟩
  | 1 => ⟨S32x8x100000, .f32⟩
  | 2 => ⟨S32x8x100000, .f32⟩
  | 3 => ⟨S32x8x1, .f32⟩
  | 4 => ⟨S32x8x1, .f32⟩
  | 5 => ⟨S_, .i32⟩
  | 6 => ⟨S_, .i32⟩
  | 7 => ⟨S_, .i32⟩
  | 8 => ⟨S_, .i32⟩
  | 9 => ⟨S1, .i32⟩
  | 10 => ⟨S_, .i32⟩
  | 11 => ⟨S_, .i32⟩
  | 12 => ⟨S_, .i32⟩
  | 13 => ⟨S1, .i32⟩
  | 14 => ⟨S2, .i32⟩
  | 15 => ⟨S1, .i32⟩
  | 16 => ⟨S_, .i32⟩
  | 17 => ⟨S1, .i32⟩
  | 18 => ⟨S_, .i32⟩
  | 19 => ⟨S2, .i64⟩
  | 20 => ⟨S_, .i64⟩
  | 21 => ⟨S2, .i64⟩
  | 22 => ⟨S2, .i64⟩
  | 23 => ⟨S_, .i64⟩
  | 24 => ⟨S2, .i64⟩
  | 25 => ⟨S2, .i64⟩
  | 26 => ⟨S2, .i32⟩
  | 27 => ⟨S2, .i32⟩
  | 28 => ⟨S_, .i32⟩
  | 29 => ⟨S_, .i32⟩
  | 30 => ⟨S_, .i32⟩
  | 31 => ⟨S2, .i32⟩
  | 32 => ⟨S2, .i32⟩
  | 33 => ⟨S2, .i32⟩
  | 34 => ⟨S2, .i32⟩
  | 35 => ⟨S2, .i32⟩
  | 36 => ⟨S_, .i32⟩
  | 37 => ⟨S2, .i32⟩
  | 38 => ⟨S2, .i32⟩
  | 39 => ⟨S_, .i32⟩
  | 40 => ⟨S2, .i32⟩
  | 41 => ⟨S2, .i32⟩
  | 42 => ⟨S2, .i32⟩
  | 43 => ⟨S2, .i32⟩
  | 44 => ⟨S2, .i32⟩
  | 45 => ⟨S_, .i32⟩
  | 46 => ⟨S2, .i32⟩
  | 47 => ⟨S2, .i32⟩
  | 48 => ⟨S_, .i32⟩
  | 49 => ⟨S2, .i32⟩
  | 50 => ⟨S2, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S_, .i32⟩
  | 58 => ⟨S2, .i32⟩
  | 59 => ⟨S2, .i32⟩
  | 60 => ⟨S2, .i32⟩
  | 61 => ⟨S2, .i32⟩
  | 62 => ⟨S2, .i32⟩
  | 63 => ⟨S_, .i32⟩
  | 64 => ⟨S2, .i32⟩
  | 65 => ⟨S2, .i32⟩
  | 66 => ⟨S_, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S2, .i32⟩
  | 79 => ⟨S_, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S2, .i32⟩
  | 87 => ⟨S2, .i32⟩
  | 88 => ⟨S_, .i32⟩
  | 89 => ⟨S2, .i32⟩
  | 90 => ⟨S2, .i32⟩
  | 91 => ⟨S_, .i32⟩
  | 92 => ⟨S2, .i32⟩
  | 93 => ⟨S2, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S_, .i32⟩
  | 101 => ⟨S2, .i32⟩
  | 102 => ⟨S2, .i32⟩
  | 103 => ⟨S2, .i32⟩
  | 104 => ⟨S2, .i32⟩
  | 105 => ⟨S2, .i32⟩
  | 106 => ⟨S_, .i32⟩
  | 107 => ⟨S2, .i32⟩
  | 108 => ⟨S2, .i32⟩
  | 109 => ⟨S_, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S2, .i32⟩
  | 122 => ⟨S_, .i32⟩
  | 123 => ⟨S2, .i32⟩
  | 124 => ⟨S2, .i32⟩
  | 125 => ⟨S_, .i32⟩
  | 126 => ⟨S2, .i32⟩
  | 127 => ⟨S2, .i32⟩
  | _ => ⟨S_, .i32⟩

abbrev hbmTy0_1 (i : Nat) : BufTy := match i % 128 with
  | 0 => ⟨S2, .i32⟩
  | 1 => ⟨S2, .i32⟩
  | 2 => ⟨S2, .i32⟩
  | 3 => ⟨S_, .i32⟩
  | 4 => ⟨S2, .i32⟩
  | 5 => ⟨S2, .i32⟩
  | 6 => ⟨S_, .i32⟩
  | 7 => ⟨S2, .i32⟩
  | 8 => ⟨S2, .i32⟩
  | 9 => ⟨S2, .i32⟩
  | 10 => ⟨S2, .i32⟩
  | 11 => ⟨S2, .i32⟩
  | 12 => ⟨S_, .i32⟩
  | 13 => ⟨S2, .i32⟩
  | 14 => ⟨S2, .i32⟩
  | 15 => ⟨S_, .i32⟩
  | 16 => ⟨S2, .i32⟩
  | 17 => ⟨S2, .i32⟩
  | 18 => ⟨S2, .i32⟩
  | 19 => ⟨S2, .i32⟩
  | 20 => ⟨S2, .i32⟩
  | 21 => ⟨S_, .i32⟩
  | 22 => ⟨S2, .i32⟩
  | 23 => ⟨S2, .i32⟩
  | 24 => ⟨S_, .i32⟩
  | 25 => ⟨S2, .i32⟩
  | 26 => ⟨S2, .i32⟩
  | 27 => ⟨S2, .i32⟩
  | 28 => ⟨S2, .i32⟩
  | 29 => ⟨S2, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S2, .i32⟩
  | 37 => ⟨S_, .i32⟩
  | 38 => ⟨S2, .i32⟩
  | 39 => ⟨S2, .i32⟩
  | 40 => ⟨S_, .i32⟩
  | 41 => ⟨S2, .i32⟩
  | 42 => ⟨S2, .i32⟩
  | 43 => ⟨S2, .i32⟩
  | 44 => ⟨S2, .i32⟩
  | 45 => ⟨S2, .i32⟩
  | 46 => ⟨S_, .i32⟩
  | 47 => ⟨S2, .i32⟩
  | 48 => ⟨S2, .i32⟩
  | 49 => ⟨S_, .i32⟩
  | 50 => ⟨S2, .i32⟩
  | 51 => ⟨S2, .i32⟩
  | 52 => ⟨S2, .i32⟩
  | 53 => ⟨S2, .i32⟩
  | 54 => ⟨S2, .i32⟩
  | 55 => ⟨S_, .i32⟩
  | 56 => ⟨S2, .i32⟩
  | 57 => ⟨S2, .i32⟩
  | 58 => ⟨S_, .i32⟩
  | 59 => ⟨S2, .i32⟩
  | 60 => ⟨S2, .i32⟩
  | 61 => ⟨S2, .i32⟩
  | 62 => ⟨S2, .i32⟩
  | 63 => ⟨S2, .i32⟩
  | 64 => ⟨S_, .i32⟩
  | 65 => ⟨S2, .i32⟩
  | 66 => ⟨S2, .i32⟩
  | 67 => ⟨S_, .i32⟩
  | 68 => ⟨S2, .i32⟩
  | 69 => ⟨S2, .i32⟩
  | 70 => ⟨S2, .i32⟩
  | 71 => ⟨S2, .i32⟩
  | 72 => ⟨S2, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S2, .i32⟩
  | 80 => ⟨S_, .i32⟩
  | 81 => ⟨S2, .i32⟩
  | 82 => ⟨S2, .i32⟩
  | 83 => ⟨S_, .i32⟩
  | 84 => ⟨S2, .i32⟩
  | 85 => ⟨S2, .i32⟩
  | 86 => ⟨S2, .i32⟩
  | 87 => ⟨S2, .i32⟩
  | 88 => ⟨S2, .i32⟩
  | 89 => ⟨S_, .i32⟩
  | 90 => ⟨S2, .i32⟩
  | 91 => ⟨S2, .i32⟩
  | 92 => ⟨S_, .i32⟩
  | 93 => ⟨S2, .i32⟩
  | 94 => ⟨S2, .i32⟩
  | 95 => ⟨S2, .i32⟩
  | 96 => ⟨S2, .i32⟩
  | 97 => ⟨S2, .i32⟩
  | 98 => ⟨S_, .i32⟩
  | 99 => ⟨S2, .i32⟩
  | 100 => ⟨S2, .i32⟩
  | 101 => ⟨S_, .i32⟩
  | 102 => ⟨S2, .i32⟩
  | 103 => ⟨S2, .i32⟩
  | 104 => ⟨S2, .i32⟩
  | 105 => ⟨S2, .i32⟩
  | 106 => ⟨S2, .i32⟩
  | 107 => ⟨S_, .i32⟩
  | 108 => ⟨S2, .i32⟩
  | 109 => ⟨S2, .i32⟩
  | 110 => ⟨S_, .i32⟩
  | 111 => ⟨S2, .i32⟩
  | 112 => ⟨S2, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S_, .i32⟩
  | 120 => ⟨S2, .i32⟩
  | 121 => ⟨S2, .i32⟩
  | 122 => ⟨S2x1, .i32⟩
  | 123 => ⟨S2x1, .i32⟩
  | 124 => ⟨S2x2, .i32⟩
  | 125 => ⟨S1x2, .i32⟩
  | 126 => ⟨S2, .i32⟩
  | 127 => ⟨S1x2, .i32⟩
  | _ => ⟨S_, .i32⟩

abbrev hbmTy0_2 (i : Nat) : BufTy := match i % 128 with
  | 0 => ⟨S2, .i32⟩
  | 1 => ⟨S_, .f32⟩
  | 2 => ⟨S_, .f32⟩
  | 3 => ⟨S_, .f32⟩
  | 4 => ⟨S1x1, .f32⟩
  | 5 => ⟨S1x1, .f32⟩
  | 6 => ⟨S1, .i32⟩
  | 7 => ⟨S_, .i32⟩
  | 8 => ⟨S1, .i32⟩
  | 9 => ⟨S_, .i32⟩
  | 10 => ⟨S256x64, .i64⟩
  | 11 => ⟨S256x64, .i64⟩
  | 12 => ⟨S_, .i64⟩
  | 13 => ⟨S256x64, .i64⟩
  | 14 => ⟨S256x64, .i64⟩
  | 15 => ⟨S_, .i64⟩
  | 16 => ⟨S256x64, .i64⟩
  | 17 => ⟨S256x64, .i64⟩
  | 18 => ⟨S256x64, .i64⟩
  | 19 => ⟨S_, .i64⟩
  | 20 => ⟨S256x64, .i64⟩
  | 21 => ⟨S256x64, .i64⟩
  | 22 => ⟨S256x64, .i32⟩
  | 23 => ⟨S256x64, .i32⟩
  | 24 => ⟨S_, .i32⟩
  | 25 => ⟨S_, .i32⟩
  | 26 => ⟨S_, .i32⟩
  | 27 => ⟨S256x64, .i32⟩
  | 28 => ⟨S256x64, .i32⟩
  | 29 => ⟨S256x64, .i32⟩
  | 30 => ⟨S256x64, .i32⟩
  | 31 => ⟨S256x64, .i32⟩
  | 32 => ⟨S_, .i32⟩
  | 33 => ⟨S256x64, .i32⟩
  | 34 => ⟨S256x64, .i32⟩
  | 35 => ⟨S_, .i32⟩
  | 36 => ⟨S256x64, .i32⟩
  | 37 => ⟨S256x64, .i32⟩
  | 38 => ⟨S256x64, .i32⟩
  | 39 => ⟨S256x64, .i32⟩
  | 40 => ⟨S256x64, .i32⟩
  | 41 => ⟨S_, .i32⟩
  | 42 => ⟨S256x64, .i32⟩
  | 43 => ⟨S256x64, .i32⟩
  | 44 => ⟨S_, .i32⟩
  | 45 => ⟨S256x64, .i32⟩
  | 46 => ⟨S256x64, .i32⟩
  | 47 => ⟨S256x64, .i32⟩
  | 48 => ⟨S256x64, .i32⟩
  | 49 => ⟨S256x64, .i32⟩
  | 50 => ⟨S_, .i32⟩
  | 51 => ⟨S256x64, .i32⟩
  | 52 => ⟨S256x64, .i32⟩
  | 53 => ⟨S_, .i32⟩
  | 54 => ⟨S256x64, .i32⟩
  | 55 => ⟨S256x64, .i32⟩
  | 56 => ⟨S256x64, .i32⟩
  | 57 => ⟨S256x64, .i32⟩
  | 58 => ⟨S256x64, .i32⟩
  | 59 => ⟨S_, .i32⟩
  | 60 => ⟨S256x64, .i32⟩
  | 61 => ⟨S256x64, .i32⟩
  | 62 => ⟨S_, .i32⟩
  | 63 => ⟨S256x64, .i32⟩
  | 64 => ⟨S256x64, .i32⟩
  | 65 => ⟨S256x64, .i32⟩
  | 66 => ⟨S256x64, .i32⟩
  | 67 => ⟨S256x64, .i32⟩
  | 68 => ⟨S256x64, .i32⟩
  | 69 => ⟨S256x64, .i32⟩
  | 70 => ⟨S256x64, .i32⟩
  | 71 => ⟨S_, .i32⟩
  | 72 => ⟨S256x64, .i32⟩
  | 73 => ⟨S256x64, .i32⟩
  | 74 => ⟨S256x64, .i32⟩
  | 75 => ⟨S_, .i32⟩
  | 76 => ⟨S256x64, .i32⟩
  | 77 => ⟨S256x64, .i32⟩
  | 78 => ⟨S_, .i32⟩
  | 79 => ⟨S256x64, .i32⟩
  | 80 => ⟨S256x64, .i32⟩
  | 81 => ⟨S256x64, .i32⟩
  | 82 => ⟨S256x64, .i32⟩
  | 83 => ⟨S256x64, .i32⟩
  | 84 => ⟨S_, .i32⟩
  | 85 => ⟨S256x64, .i32⟩
  | 86 => ⟨S256x64, .i32⟩
  | 87 => ⟨S_, .i32⟩
  | 88 => ⟨S256x64, .i32⟩
  | 89 => ⟨S256x64, .i32⟩
  | 90 => ⟨S256x64, .i32⟩
  | 91 => ⟨S256x64, .i32⟩
  | 92 => ⟨S256x64, .i32⟩
  | 93 => ⟨S_, .i32⟩
  | 94 => ⟨S256x64, .i32⟩
  | 95 => ⟨S256x64, .i32⟩
  | 96 => ⟨S_, .i32⟩
  | 97 => ⟨S256x64, .i32⟩
  | 98 => ⟨S256x64, .i32⟩
  | 99 => ⟨S256x64, .i32⟩
  | 100 => ⟨S256x64, .i32⟩
  | 101 => ⟨S256x64, .i32⟩
  | 102 => ⟨S_, .i32⟩
  | 103 => ⟨S256x64, .i32⟩
  | 104 => ⟨S256x64, .i32⟩
  | 105 => ⟨S_, .i32⟩
  | 106 => ⟨S256x64, .i32⟩
  | 107 => ⟨S256x64, .i32⟩
  | 108 => ⟨S256x64, .i32⟩
  | 109 => ⟨S256x64, .i32⟩
  | 110 => ⟨S256x64, .i32⟩
  | 111 => ⟨S256x64, .i32⟩
  | 112 => ⟨S256x64, .i32⟩
  | 113 => ⟨S256x64, .i32⟩
  | 114 => ⟨S_, .i32⟩
  | 115 => ⟨S256x64, .i32⟩
  | 116 => ⟨S256x64, .i32⟩
  | 117 => ⟨S256x64, .i32⟩
  | 118 => ⟨S_, .i32⟩
  | 119 => ⟨S256x64, .i32⟩
  | 120 => ⟨S256x64, .i32⟩
  | 121 => ⟨S_, .i32⟩
  | 122 => ⟨S256x64, .i32⟩
  | 123 => ⟨S256x64, .i32⟩
  | 124 => ⟨S256x64, .i32⟩
  | 125 => ⟨S256x64, .i32⟩
  | 126 => ⟨S256x64, .i32⟩
  | 127 => ⟨S_, .i32⟩
  | _ => ⟨S_, .i32⟩

abbrev hbmTy0_3 (i : Nat) : BufTy := match i % 128 with
  | 0 => ⟨S256x64, .i32⟩
  | 1 => ⟨S256x64, .i32⟩
  | 2 => ⟨S_, .i32⟩
  | 3 => ⟨S256x64, .i32⟩
  | 4 => ⟨S256x64, .i32⟩
  | 5 => ⟨S256x64, .i32⟩
  | 6 => ⟨S256x64, .i32⟩
  | 7 => ⟨S256x64, .i32⟩
  | 8 => ⟨S_, .i32⟩
  | 9 => ⟨S256x64, .i32⟩
  | 10 => ⟨S256x64, .i32⟩
  | 11 => ⟨S_, .i32⟩
  | 12 => ⟨S256x64, .i32⟩
  | 13 => ⟨S256x64, .i32⟩
  | 14 => ⟨S256x64, .i32⟩
  | 15 => ⟨S256x64, .i32⟩
  | 16 => ⟨S256x64, .i32⟩
  | 17 => ⟨S_, .i32⟩
  | 18 => ⟨S256x64, .i32⟩
  | 19 => ⟨S256x64, .i32⟩
  | 20 => ⟨S_, .i32⟩
  | 21 => ⟨S256x64, .i32⟩
  | 22 => ⟨S256x64, .i32⟩
  | 23 => ⟨S256x64, .i32⟩
  | 24 => ⟨S256x64, .i32⟩
  | 25 => ⟨S256x64, .i32⟩
  | 26 => ⟨S256x64, .i32⟩
  | 27 => ⟨S256x64, .i32⟩
  | 28 => ⟨S256x64, .i32⟩
  | 29 => ⟨S_, .i32⟩
  | 30 => ⟨S256x64, .i32⟩
  | 31 => ⟨S256x64, .i32⟩
  | 32 => ⟨S256x64, .i32⟩
  | 33 => ⟨S_, .i32⟩
  | 34 => ⟨S256x64, .i32⟩
  | 35 => ⟨S256x64, .i32⟩
  | 36 => ⟨S_, .i32⟩
  | 37 => ⟨S256x64, .i32⟩
  | 38 => ⟨S256x64, .i32⟩
  | 39 => ⟨S256x64, .i32⟩
  | 40 => ⟨S256x64, .i32⟩
  | 41 => ⟨S256x64, .i32⟩
  | 42 => ⟨S_, .i32⟩
  | 43 => ⟨S256x64, .i32⟩
  | 44 => ⟨S256x64, .i32⟩
  | 45 => ⟨S_, .i32⟩
  | 46 => ⟨S256x64, .i32⟩
  | 47 => ⟨S256x64, .i32⟩
  | 48 => ⟨S256x64, .i32⟩
  | 49 => ⟨S256x64, .i32⟩
  | 50 => ⟨S256x64, .i32⟩
  | 51 => ⟨S_, .i32⟩
  | 52 => ⟨S256x64, .i32⟩
  | 53 => ⟨S256x64, .i32⟩
  | 54 => ⟨S_, .i32⟩
  | 55 => ⟨S256x64, .i32⟩
  | 56 => ⟨S256x64, .i32⟩
  | 57 => ⟨S256x64, .i32⟩
  | 58 => ⟨S256x64, .i32⟩
  | 59 => ⟨S256x64, .i32⟩
  | 60 => ⟨S_, .i32⟩
  | 61 => ⟨S256x64, .i32⟩
  | 62 => ⟨S256x64, .i32⟩
  | 63 => ⟨S_, .i32⟩
  | 64 => ⟨S256x64, .i32⟩
  | 65 => ⟨S256x64, .i32⟩
  | 66 => ⟨S256x64, .i32⟩
  | 67 => ⟨S256x64, .i32⟩
  | 68 => ⟨S256x64, .i32⟩
  | 69 => ⟨S256x64, .i32⟩
  | 70 => ⟨S256x64, .i32⟩
  | 71 => ⟨S256x64, .i32⟩
  | 72 => ⟨S_, .i32⟩
  | 73 => ⟨S256x64, .i32⟩
  | 74 => ⟨S256x64, .i32⟩
  | 75 => ⟨S256x64, .i32⟩
  | 76 => ⟨S_, .i32⟩
  | 77 => ⟨S256x64, .i32⟩
  | 78 => ⟨S256x64, .i32⟩
  | 79 => ⟨S_, .i32⟩
  | 80 => ⟨S256x64, .i32⟩
  | 81 => ⟨S256x64, .i32⟩
  | 82 => ⟨S256x64, .i32⟩
  | 83 => ⟨S256x64, .i32⟩
  | 84 => ⟨S256x64, .i32⟩
  | 85 => ⟨S_, .i32⟩
  | 86 => ⟨S256x64, .i32⟩
  | 87 => ⟨S256x64, .i32⟩
  | 88 => ⟨S_, .i32⟩
  | 89 => ⟨S256x64, .i32⟩
  | 90 => ⟨S256x64, .i32⟩
  | 91 => ⟨S256x64, .i32⟩
  | 92 => ⟨S256x64, .i32⟩
  | 93 => ⟨S256x64, .i32⟩
  | 94 => ⟨S_, .i32⟩
  | 95 => ⟨S256x64, .i32⟩
  | 96 => ⟨S256x64, .i32⟩
  | 97 => ⟨S_, .i32⟩
  | 98 => ⟨S256x64, .i32⟩
  | 99 => ⟨S256x64, .i32⟩
  | 100 => ⟨S256x64, .i32⟩
  | 101 => ⟨S256x64, .i32⟩
  | 102 => ⟨S256x64, .i32⟩
  | 103 => ⟨S_, .i32⟩
  | 104 => ⟨S256x64, .i32⟩
  | 105 => ⟨S256x64, .i32⟩
  | 106 => ⟨S_, .i32⟩
  | 107 => ⟨S256x64, .i32⟩
  | 108 => ⟨S256x64, .i32⟩
  | 109 => ⟨S256x64, .i32⟩
  | 110 => ⟨S256x64, .i32⟩
  | 111 => ⟨S256x64, .i32⟩
  | 112 => ⟨S256x64, .i32⟩
  | 113 => ⟨S256x64, .i32⟩
  | 114 => ⟨S256x64, .i32⟩
  | 115 => ⟨S_, .i32⟩
  | 116 => ⟨S256x64, .i32⟩
  | 117 => ⟨S256x64, .i32⟩
  | 118 => ⟨S256x64, .i32⟩
  | 119 => ⟨S_, .i32⟩
  | 120 => ⟨S256x64, .i32⟩
  | 121 => ⟨S256x64, .i32⟩
  | 122 => ⟨S_, .i32⟩
  | 123 => ⟨S256x64, .i32⟩
  | 124 => ⟨S256x64, .i32⟩
  | 125 => ⟨S256x64, .f32⟩
  | 126 => ⟨S_, .f32⟩
  | 127 => ⟨S256x64, .f32⟩
  | _ => ⟨S_, .i32⟩

abbrev hbmTy0_4 (i : Nat) : BufTy := match i % 128 with
  | 0 => ⟨S256x64, .f32⟩
  | 1 => ⟨S1x1, .f32⟩
  | 2 => ⟨S256x64, .f32⟩
  | 3 => ⟨S256x64, .f32⟩
  | 4 => ⟨S256x64, .f32⟩
  | 5 => ⟨S256x64, .f32⟩
  | 6 => ⟨S256x64, .f32⟩
  | 7 => ⟨S256x64, .f32⟩
  | 8 => ⟨S256x64, .f32⟩
  | 9 => ⟨S256x64, .f32⟩
  | 10 => ⟨S256x64, .f32⟩
  | 11 => ⟨S256x64, .f32⟩
  | 12 => ⟨S_, .f32⟩
  | 13 => ⟨S_, .f32⟩
  | 14 => ⟨S_, .f32⟩
  | 15 => ⟨S1x1, .f32⟩
  | 16 => ⟨S1x1, .f32⟩
  | 17 => ⟨S1, .i32⟩
  | 18 => ⟨S_, .i32⟩
  | 19 => ⟨S1, .i32⟩
  | 20 => ⟨S_, .i32⟩
  | 21 => ⟨S256x64, .i64⟩
  | 22 => ⟨S256x64, .i64⟩
  | 23 => ⟨S_, .i64⟩
  | 24 => ⟨S256x64, .i64⟩
  | 25 => ⟨S256x64, .i64⟩
  | 26 => ⟨S_, .i64⟩
  | 27 => ⟨S256x64, .i64⟩
  | 28 => ⟨S256x64, .i64⟩
  | 29 => ⟨S256x64, .i64⟩
  | 30 => ⟨S_, .i64⟩
  | 31 => ⟨S256x64, .i64⟩
  | 32 => ⟨S256x64, .i64⟩
  | 33 => ⟨S256x64, .i32⟩
  | 34 => ⟨S256x64, .i32⟩
  | 35 => ⟨S_, .i32⟩
  | 36 => ⟨S_, .i32⟩
  | 37 => ⟨S_, .i32⟩
  | 38 => ⟨S256x64, .i32⟩
  | 39 => ⟨S256x64, .i32⟩
  | 40 => ⟨S256x64, .i32⟩
  | 41 => ⟨S256x64, .i32⟩
  | 42 => ⟨S256x64, .i32⟩
  | 43 => ⟨S_, .i32⟩
  | 44 => ⟨S256x64, .i32⟩
  | 45 => ⟨S256x64, .i32⟩
  | 46 => ⟨S_, .i32⟩
  | 47 => ⟨S256x64, .i32⟩
  | 48 => ⟨S256x64, .i32⟩
  | 49 => ⟨S256x64, .i32⟩
  | 50 => ⟨S256x64, .i32⟩
  | 51 => ⟨S256x64, .i32⟩
  | 52 => ⟨S_, .i32⟩
  | 53 => ⟨S256x64, .i32⟩
  | 54 => ⟨S256x64, .i32⟩
  | 55 => ⟨S_, .i32⟩
  | 56 => ⟨S256x64, .i32⟩
  | 57 => ⟨S256x64, .i32⟩
  | 58 => ⟨S256x64, .i32⟩
  | 59 => ⟨S256x64, .i32⟩
  | 60 => ⟨S256x64, .i32⟩
  | 61 => ⟨S_, .i32⟩
  | 62 => ⟨S256x64, .i32⟩
  | 63 => ⟨S256x64, .i32⟩
  | 64 => ⟨S_, .i32⟩
  | 65 => ⟨S256x64, .i32⟩
  | 66 => ⟨S256x64, .i32⟩
  | 67 => ⟨S256x64, .i32⟩
  | 68 => ⟨S256x64, .i32⟩
  | 69 => ⟨S256x64, .i32⟩
  | 70 => ⟨S_, .i32⟩
  | 71 => ⟨S256x64, .i32⟩
  | 72 => ⟨S256x64, .i32⟩
  | 73 => ⟨S_, .i32⟩
  | 74 => ⟨S256x64, .i32⟩
  | 75 => ⟨S256x64, .i32⟩
  | 76 => ⟨S256x64, .i32⟩
  | 77 => ⟨S256x64, .i32⟩
  | 78 => ⟨S256x64, .i32⟩
  | 79 => ⟨S256x64, .i32⟩
  | 80 => ⟨S256x64, .i32⟩
  | 81 => ⟨S256x64, .i32⟩
  | 82 => ⟨S_, .i32⟩
  | 83 => ⟨S256x64, .i32⟩
  | 84 => ⟨S256x64, .i32⟩
  | 85 => ⟨S256x64, .i32⟩
  | 86 => ⟨S_, .i32⟩
  | 87 => ⟨S256x64, .i32⟩
  | 88 => ⟨S256x64, .i32⟩
  | 89 => ⟨S_, .i32⟩
  | 90 => ⟨S256x64, .i32⟩
  | 91 => ⟨S256x64, .i32⟩
  | 92 => ⟨S256x64, .i32⟩
  | 93 => ⟨S256x64, .i32⟩
  | 94 => ⟨S256x64, .i32⟩
  | 95 => ⟨S_, .i32⟩
  | 96 => ⟨S256x64, .i32⟩
  | 97 => ⟨S256x64, .i32⟩
  | 98 => ⟨S_, .i32⟩
  | 99 => ⟨S256x64, .i32⟩
  | 100 => ⟨S256x64, .i32⟩
  | 101 => ⟨S256x64, .i32⟩
  | 102 => ⟨S256x64, .i32⟩
  | 103 => ⟨S256x64, .i32⟩
  | 104 => ⟨S_, .i32⟩
  | 105 => ⟨S256x64, .i32⟩
  | 106 => ⟨S256x64, .i32⟩
  | 107 => ⟨S_, .i32⟩
  | 108 => ⟨S256x64, .i32⟩
  | 109 => ⟨S256x64, .i32⟩
  | 110 => ⟨S256x64, .i32⟩
  | 111 => ⟨S256x64, .i32⟩
  | 112 => ⟨S256x64, .i32⟩
  | 113 => ⟨S_, .i32⟩
  | 114 => ⟨S256x64, .i32⟩
  | 115 => ⟨S256x64, .i32⟩
  | 116 => ⟨S_, .i32⟩
  | 117 => ⟨S256x64, .i32⟩
  | 118 => ⟨S256x64, .i32⟩
  | 119 => ⟨S256x64, .i32⟩
  | 120 => ⟨S256x64, .i32⟩
  | 121 => ⟨S256x64, .i32⟩
  | 122 => ⟨S256x64, .i32⟩
  | 123 => ⟨S256x64, .i32⟩
  | 124 => ⟨S256x64, .i32⟩
  | 125 => ⟨S_, .i32⟩
  | 126 => ⟨S256x64, .i32⟩
  | 127 => ⟨S256x64, .i32⟩
  | _ => ⟨S_, .i32⟩

abbrev hbmTy0_5 (i : Nat) : BufTy := match i % 128 with
  | 0 => ⟨S256x64, .i32⟩
  | 1 => ⟨S_, .i32⟩
  | 2 => ⟨S256x64, .i32⟩
  | 3 => ⟨S256x64, .i32⟩
  | 4 => ⟨S_, .i32⟩
  | 5 => ⟨S256x64, .i32⟩
  | 6 => ⟨S256x64, .i32⟩
  | 7 => ⟨S256x64, .i32⟩
  | 8 => ⟨S256x64, .i32⟩
  | 9 => ⟨S256x64, .i32⟩
  | 10 => ⟨S_, .i32⟩
  | 11 => ⟨S256x64, .i32⟩
  | 12 => ⟨S256x64, .i32⟩
  | 13 => ⟨S_, .i32⟩
  | 14 => ⟨S256x64, .i32⟩
  | 15 => ⟨S256x64, .i32⟩
  | 16 => ⟨S256x64, .i32⟩
  | 17 => ⟨S256x64, .i32⟩
  | 18 => ⟨S256x64, .i32⟩
  | 19 => ⟨S_, .i32⟩
  | 20 => ⟨S256x64, .i32⟩
  | 21 => ⟨S256x64, .i32⟩
  | 22 => ⟨S_, .i32⟩
  | 23 => ⟨S256x64, .i32⟩
  | 24 => ⟨S256x64, .i32⟩
  | 25 => ⟨S256x64, .i32⟩
  | 26 => ⟨S256x64, .i32⟩
  | 27 => ⟨S256x64, .i32⟩
  | 28 => ⟨S_, .i32⟩
  | 29 => ⟨S256x64, .i32⟩
  | 30 => ⟨S256x64, .i32⟩
  | 31 => ⟨S_, .i32⟩
  | 32 => ⟨S256x64, .i32⟩
  | 33 => ⟨S256x64, .i32⟩
  | 34 => ⟨S256x64, .i32⟩
  | 35 => ⟨S256x64, .i32⟩
  | 36 => ⟨S256x64, .i32⟩
  | 37 => ⟨S256x64, .i32⟩
  | 38 => ⟨S256x64, .i32⟩
  | 39 => ⟨S256x64, .i32⟩
  | 40 => ⟨S_, .i32⟩
  | 41 => ⟨S256x64, .i32⟩
  | 42 => ⟨S256x64, .i32⟩
  | 43 => ⟨S256x64, .i32⟩
  | 44 => ⟨S_, .i32⟩
  | 45 => ⟨S256x64, .i32⟩
  | 46 => ⟨S256x64, .i32⟩
  | 47 => ⟨S_, .i32⟩
  | 48 => ⟨S256x64, .i32⟩
  | 49 => ⟨S256x64, .i32⟩
  | 50 => ⟨S256x64, .i32⟩
  | 51 => ⟨S256x64, .i32⟩
  | 52 => ⟨S256x64, .i32⟩
  | 53 => ⟨S_, .i32⟩
  | 54 => ⟨S256x64, .i32⟩
  | 55 => ⟨S256x64, .i32⟩
  | 56 => ⟨S_, .i32⟩
  | 57 => ⟨S256x64, .i32⟩
  | 58 => ⟨S256x64, .i32⟩
  | 59 => ⟨S256x64, .i32⟩
  | 60 => ⟨S256x64, .i32⟩
  | 61 => ⟨S256x64, .i32⟩
  | 62 => ⟨S_, .i32⟩
  | 63 => ⟨S256x64, .i32⟩
  | 64 => ⟨S256x64, .i32⟩
  | 65 => ⟨S_, .i32⟩
  | 66 => ⟨S256x64, .i32⟩
  | 67 => ⟨S256x64, .i32⟩
  | 68 => ⟨S256x64, .i32⟩
  | 69 => ⟨S256x64, .i32⟩
  | 70 => ⟨S256x64, .i32⟩
  | 71 => ⟨S_, .i32⟩
  | 72 => ⟨S256x64, .i32⟩
  | 73 => ⟨S256x64, .i32⟩
  | 74 => ⟨S_, .i32⟩
  | 75 => ⟨S256x64, .i32⟩
  | 76 => ⟨S256x64, .i32⟩
  | 77 => ⟨S256x64, .i32⟩
  | 78 => ⟨S256x64, .i32⟩
  | 79 => ⟨S256x64, .i32⟩
  | 80 => ⟨S256x64, .i32⟩
  | 81 => ⟨S256x64, .i32⟩
  | 82 => ⟨S256x64, .i32⟩
  | 83 => ⟨S_, .i32⟩
  | 84 => ⟨S256x64, .i32⟩
  | 85 => ⟨S256x64, .i32⟩
  | 86 => ⟨S256x64, .i32⟩
  | 87 => ⟨S_, .i32⟩
  | 88 => ⟨S256x64, .i32⟩
  | 89 => ⟨S256x64, .i32⟩
  | 90 => ⟨S_, .i32⟩
  | 91 => ⟨S256x64, .i32⟩
  | 92 => ⟨S256x64, .i32⟩
  | 93 => ⟨S256x64, .i32⟩
  | 94 => ⟨S256x64, .i32⟩
  | 95 => ⟨S256x64, .i32⟩
  | 96 => ⟨S_, .i32⟩
  | 97 => ⟨S256x64, .i32⟩
  | 98 => ⟨S256x64, .i32⟩
  | 99 => ⟨S_, .i32⟩
  | 100 => ⟨S256x64, .i32⟩
  | 101 => ⟨S256x64, .i32⟩
  | 102 => ⟨S256x64, .i32⟩
  | 103 => ⟨S256x64, .i32⟩
  | 104 => ⟨S256x64, .i32⟩
  | 105 => ⟨S_, .i32⟩
  | 106 => ⟨S256x64, .i32⟩
  | 107 => ⟨S256x64, .i32⟩
  | 108 => ⟨S_, .i32⟩
  | 109 => ⟨S256x64, .i32⟩
  | 110 => ⟨S256x64, .i32⟩
  | 111 => ⟨S256x64, .i32⟩
  | 112 => ⟨S256x64, .i32⟩
  | 113 => ⟨S256x64, .i32⟩
  | 114 => ⟨S_, .i32⟩
  | 115 => ⟨S256x64, .i32⟩
  | 116 => ⟨S256x64, .i32⟩
  | 117 => ⟨S_, .i32⟩
  | 118 => ⟨S256x64, .i32⟩
  | 119 => ⟨S256x64, .i32⟩
  | 120 => ⟨S256x64, .i32⟩
  | 121 => ⟨S256x64, .i32⟩
  | 122 => ⟨S256x64, .i32⟩
  | 123 => ⟨S256x64, .i32⟩
  | 124 => ⟨S256x64, .i32⟩
  | 125 => ⟨S256x64, .i32⟩
  | 126 => ⟨S_, .i32⟩
  | 127 => ⟨S256x64, .i32⟩
  | _ => ⟨S_, .i32⟩

abbrev hbmTy0_6 (i : Nat) : BufTy := match i % 128 with
  | 0 => ⟨S256x64, .i32⟩
  | 1 => ⟨S256x64, .i32⟩
  | 2 => ⟨S_, .i32⟩
  | 3 => ⟨S256x64, .i32⟩
  | 4 => ⟨S256x64, .i32⟩
  | 5 => ⟨S_, .i32⟩
  | 6 => ⟨S256x64, .i32⟩
  | 7 => ⟨S256x64, .i32⟩
  | 8 => ⟨S256x64, .f32⟩
  | 9 => ⟨S_, .f32⟩
  | 10 => ⟨S256x64, .f32⟩
  | 11 => ⟨S256x64, .f32⟩
  | 12 => ⟨S1x1, .f32⟩
  | 13 => ⟨S256x64, .f32⟩
  | 14 => ⟨S256x64, .f32⟩
  | 15 => ⟨S256x64, .f32⟩
  | 16 => ⟨S256x64, .f32⟩
  | 17 => ⟨S256x64, .f32⟩
  | 18 => ⟨S256x64, .f32⟩
  | 19 => ⟨S256x64, .f32⟩
  | 20 => ⟨S256x64, .f32⟩
  | 21 => ⟨S256x64, .f32⟩
  | 22 => ⟨S256x64, .f32⟩
  | 23 => ⟨S32x8, .f32⟩
  | 24 => ⟨S256x1, .f32⟩
  | 25 => ⟨S32x8, .f32⟩
  | 26 => ⟨S256x1, .f32⟩
  | 27 => ⟨S256x100000, .f32⟩
  | 28 => ⟨S256x1, .f32⟩
  | 29 => ⟨S256x1, .i32⟩
  | 30 => ⟨S256x100000, .f32⟩
  | 31 => ⟨S256x1, .f32⟩
  | 32 => ⟨S256x1, .i32⟩
  | 33 => ⟨S32x8, .f32⟩
  | 34 => ⟨S32x8, .f32⟩
  | 35 => ⟨S32x8, .i32⟩
  | 36 => ⟨S32x8, .i32⟩
  | 37 => ⟨S8, .i32⟩
  | 38 => ⟨S1x8, .i32⟩
  | 39 => ⟨S1x1x1x8, .i32⟩
  | 40 => ⟨S32x1x1x8, .i32⟩
  | 41 => ⟨S32x8, .i32⟩
  | _ => ⟨S_, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S_, .i32⟩

abbrev bufTy : (tb : Table) → Fin (tcTables nBuf tb) → BufTy
  | .hbm, ⟨i, _⟩ => hbmTy i
  | .local _ .vmem, ⟨0, _⟩ => ⟨S8x100000, .f32⟩
  | .local _ .vmem, ⟨1, _⟩ => ⟨S8x100000, .f32⟩
  | .local _ .vmem, ⟨2, _⟩ => ⟨S8x64, .f32⟩
  | .local _ .vmem, ⟨3, _⟩ => ⟨S8x64, .f32⟩
  | .local _ .vmem, ⟨4, _⟩ => ⟨S8x1, .f32⟩
  | .local _ .vmem, ⟨5, _⟩ => ⟨S8x1, .f32⟩
  | .local _ .vmem, ⟨6, _⟩ => ⟨S8x1, .f32⟩
  | .local _ .vmem, ⟨7, _⟩ => ⟨S8x1, .f32⟩
  | .local _ .vmem, ⟨8, _⟩ => ⟨S8x1, .i32⟩
  | .local _ .vmem, ⟨9, _⟩ => ⟨S8x1, .i32⟩
  | .local _ .vmem, ⟨10, _⟩ => ⟨S8x100000, .f32⟩
  | .local _ .vmem, ⟨11, _⟩ => ⟨S8x100000, .f32⟩
  | .local _ .vmem, ⟨12, _⟩ => ⟨S8x64, .f32⟩
  | .local _ .vmem, ⟨13, _⟩ => ⟨S8x64, .f32⟩
  | .local _ .vmem, ⟨14, _⟩ => ⟨S8x1, .f32⟩
  | .local _ .vmem, ⟨15, _⟩ => ⟨S8x1, .f32⟩
  | .local _ .vmem, ⟨16, _⟩ => ⟨S8x1, .f32⟩
  | .local _ .vmem, ⟨17, _⟩ => ⟨S8x1, .f32⟩
  | .local _ .vmem, ⟨18, _⟩ => ⟨S8x1, .i32⟩
  | .local _ .vmem, ⟨19, _⟩ => ⟨S8x1, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c : Ref sig .tc := ⟨.hbm, 20, rfl⟩
abbrev main_call0_v5 : Ref sig .tc := ⟨.hbm, 21, rfl⟩
abbrev main_call0_v6 : Ref sig .tc := ⟨.hbm, 22, rfl⟩
abbrev main_call0_c_0 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_call0_v0 : Ref sig .tc := ⟨.hbm, 28, rfl⟩
abbrev main_call0_call0_c : Ref sig .tc := ⟨.hbm, 29, rfl⟩
abbrev main_call0_call0_v1 : Ref sig .tc := ⟨.hbm, 30, rfl⟩
abbrev main_call0_call0_v2 : Ref sig .tc := ⟨.hbm, 31, rfl⟩
abbrev main_call0_call0_v3 : Ref sig .tc := ⟨.hbm, 32, rfl⟩
abbrev main_call0_call0_v4 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_c_0 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_c_1 : Ref sig .tc := ⟨.hbm, 39, rfl⟩
abbrev main_call0_call0_v9 : Ref sig .tc := ⟨.hbm, 40, rfl⟩
abbrev main_call0_call0_v10 : Ref sig .tc := ⟨.hbm, 41, rfl⟩
abbrev main_call0_call0_v11 : Ref sig .tc := ⟨.hbm, 42, rfl⟩
abbrev main_call0_call0_v12 : Ref sig .tc := ⟨.hbm, 43, rfl⟩
abbrev main_call0_call0_v13 : Ref sig .tc := ⟨.hbm, 44, rfl⟩
abbrev main_call0_call0_c_2 : Ref sig .tc := ⟨.hbm, 45, rfl⟩
abbrev main_call0_call0_v14 : Ref sig .tc := ⟨.hbm, 46, rfl⟩
abbrev main_call0_call0_v15 : Ref sig .tc := ⟨.hbm, 47, rfl⟩
abbrev main_call0_call0_c_3 : Ref sig .tc := ⟨.hbm, 48, rfl⟩
abbrev main_call0_call0_v16 : Ref sig .tc := ⟨.hbm, 49, rfl⟩
abbrev main_call0_call0_v17 : Ref sig .tc := ⟨.hbm, 50, rfl⟩
abbrev main_call0_call0_v18 : Ref sig .tc := ⟨.hbm, 51, rfl⟩
abbrev main_call0_call0_v19 : Ref sig .tc := ⟨.hbm, 52, rfl⟩
abbrev main_call0_call0_v20 : Ref sig .tc := ⟨.hbm, 53, rfl⟩
abbrev main_call0_call0_c_4 : Ref sig .tc := ⟨.hbm, 54, rfl⟩
abbrev main_call0_call0_v21 : Ref sig .tc := ⟨.hbm, 55, rfl⟩
abbrev main_call0_call0_v22 : Ref sig .tc := ⟨.hbm, 56, rfl⟩
abbrev main_call0_call0_c_5 : Ref sig .tc := ⟨.hbm, 57, rfl⟩
abbrev main_call0_call0_v23 : Ref sig .tc := ⟨.hbm, 58, rfl⟩
abbrev main_call0_call0_v24 : Ref sig .tc := ⟨.hbm, 59, rfl⟩
abbrev main_call0_call0_v25 : Ref sig .tc := ⟨.hbm, 60, rfl⟩
abbrev main_call0_call0_v26 : Ref sig .tc := ⟨.hbm, 61, rfl⟩
abbrev main_call0_call0_v27 : Ref sig .tc := ⟨.hbm, 62, rfl⟩
abbrev main_call0_call0_c_6 : Ref sig .tc := ⟨.hbm, 63, rfl⟩
abbrev main_call0_call0_v28 : Ref sig .tc := ⟨.hbm, 64, rfl⟩
abbrev main_call0_call0_v29 : Ref sig .tc := ⟨.hbm, 65, rfl⟩
abbrev main_call0_call0_c_7 : Ref sig .tc := ⟨.hbm, 66, rfl⟩
abbrev main_call0_call0_v30 : Ref sig .tc := ⟨.hbm, 67, rfl⟩
abbrev main_call0_call0_v31 : Ref sig .tc := ⟨.hbm, 68, rfl⟩
abbrev main_call0_call0_v32 : Ref sig .tc := ⟨.hbm, 69, rfl⟩
abbrev main_call0_call0_v33 : Ref sig .tc := ⟨.hbm, 70, rfl⟩
abbrev main_call0_call0_v34 : Ref sig .tc := ⟨.hbm, 71, rfl⟩
abbrev main_call0_call0_v35 : Ref sig .tc := ⟨.hbm, 72, rfl⟩
abbrev main_call0_call0_v36 : Ref sig .tc := ⟨.hbm, 73, rfl⟩
abbrev main_call0_call0_v37 : Ref sig .tc := ⟨.hbm, 74, rfl⟩
abbrev main_call0_call0_c_8 : Ref sig .tc := ⟨.hbm, 75, rfl⟩
abbrev main_call0_call0_v38 : Ref sig .tc := ⟨.hbm, 76, rfl⟩
abbrev main_call0_call0_v39 : Ref sig .tc := ⟨.hbm, 77, rfl⟩
abbrev main_call0_call0_v40 : Ref sig .tc := ⟨.hbm, 78, rfl⟩
abbrev main_call0_call0_c_9 : Ref sig .tc := ⟨.hbm, 79, rfl⟩
abbrev main_call0_call0_v41 : Ref sig .tc := ⟨.hbm, 80, rfl⟩
abbrev main_call0_call0_v42 : Ref sig .tc := ⟨.hbm, 81, rfl⟩
abbrev main_call0_call0_c_10 : Ref sig .tc := ⟨.hbm, 82, rfl⟩
abbrev main_call0_call0_v43 : Ref sig .tc := ⟨.hbm, 83, rfl⟩
abbrev main_call0_call0_v44 : Ref sig .tc := ⟨.hbm, 84, rfl⟩
abbrev main_call0_call0_v45 : Ref sig .tc := ⟨.hbm, 85, rfl⟩
abbrev main_call0_call0_v46 : Ref sig .tc := ⟨.hbm, 86, rfl⟩
abbrev main_call0_call0_v47 : Ref sig .tc := ⟨.hbm, 87, rfl⟩
abbrev main_call0_call0_c_11 : Ref sig .tc := ⟨.hbm, 88, rfl⟩
abbrev main_call0_call0_v48 : Ref sig .tc := ⟨.hbm, 89, rfl⟩
abbrev main_call0_call0_v49 : Ref sig .tc := ⟨.hbm, 90, rfl⟩
abbrev main_call0_call0_c_12 : Ref sig .tc := ⟨.hbm, 91, rfl⟩
abbrev main_call0_call0_v50 : Ref sig .tc := ⟨.hbm, 92, rfl⟩
abbrev main_call0_call0_v51 : Ref sig .tc := ⟨.hbm, 93, rfl⟩
abbrev main_call0_call0_v52 : Ref sig .tc := ⟨.hbm, 94, rfl⟩
abbrev main_call0_call0_v53 : Ref sig .tc := ⟨.hbm, 95, rfl⟩
abbrev main_call0_call0_v54 : Ref sig .tc := ⟨.hbm, 96, rfl⟩
abbrev main_call0_call0_c_13 : Ref sig .tc := ⟨.hbm, 97, rfl⟩
abbrev main_call0_call0_v55 : Ref sig .tc := ⟨.hbm, 98, rfl⟩
abbrev main_call0_call0_v56 : Ref sig .tc := ⟨.hbm, 99, rfl⟩
abbrev main_call0_call0_c_14 : Ref sig .tc := ⟨.hbm, 100, rfl⟩
abbrev main_call0_call0_v57 : Ref sig .tc := ⟨.hbm, 101, rfl⟩
abbrev main_call0_call0_v58 : Ref sig .tc := ⟨.hbm, 102, rfl⟩
abbrev main_call0_call0_v59 : Ref sig .tc := ⟨.hbm, 103, rfl⟩
abbrev main_call0_call0_v60 : Ref sig .tc := ⟨.hbm, 104, rfl⟩
abbrev main_call0_call0_v61 : Ref sig .tc := ⟨.hbm, 105, rfl⟩
abbrev main_call0_call0_c_15 : Ref sig .tc := ⟨.hbm, 106, rfl⟩
abbrev main_call0_call0_v62 : Ref sig .tc := ⟨.hbm, 107, rfl⟩
abbrev main_call0_call0_v63 : Ref sig .tc := ⟨.hbm, 108, rfl⟩
abbrev main_call0_call0_c_16 : Ref sig .tc := ⟨.hbm, 109, rfl⟩
abbrev main_call0_call0_v64 : Ref sig .tc := ⟨.hbm, 110, rfl⟩
abbrev main_call0_call0_v65 : Ref sig .tc := ⟨.hbm, 111, rfl⟩
abbrev main_call0_call0_v66 : Ref sig .tc := ⟨.hbm, 112, rfl⟩
abbrev main_call0_call0_v67 : Ref sig .tc := ⟨.hbm, 113, rfl⟩
abbrev main_call0_call0_v68 : Ref sig .tc := ⟨.hbm, 114, rfl⟩
abbrev main_call0_call0_v69 : Ref sig .tc := ⟨.hbm, 115, rfl⟩
abbrev main_call0_call0_v70 : Ref sig .tc := ⟨.hbm, 116, rfl⟩
abbrev main_call0_call0_v71 : Ref sig .tc := ⟨.hbm, 117, rfl⟩
abbrev main_call0_call0_c_17 : Ref sig .tc := ⟨.hbm, 118, rfl⟩
abbrev main_call0_call0_v72 : Ref sig .tc := ⟨.hbm, 119, rfl⟩
abbrev main_call0_call0_v73 : Ref sig .tc := ⟨.hbm, 120, rfl⟩
abbrev main_call0_call0_v74 : Ref sig .tc := ⟨.hbm, 121, rfl⟩
abbrev main_call0_call0_c_18 : Ref sig .tc := ⟨.hbm, 122, rfl⟩
abbrev main_call0_call0_v75 : Ref sig .tc := ⟨.hbm, 123, rfl⟩
abbrev main_call0_call0_v76 : Ref sig .tc := ⟨.hbm, 124, rfl⟩
abbrev main_call0_call0_c_19 : Ref sig .tc := ⟨.hbm, 125, rfl⟩
abbrev main_call0_call0_v77 : Ref sig .tc := ⟨.hbm, 126, rfl⟩
abbrev main_call0_call0_v78 : Ref sig .tc := ⟨.hbm, 127, rfl⟩
abbrev main_call0_call0_v79 : Ref sig .tc := ⟨.hbm, 128, rfl⟩
abbrev main_call0_call0_v80 : Ref sig .tc := ⟨.hbm, 129, rfl⟩
abbrev main_call0_call0_v81 : Ref sig .tc := ⟨.hbm, 130, rfl⟩
abbrev main_call0_call0_c_20 : Ref sig .tc := ⟨.hbm, 131, rfl⟩
abbrev main_call0_call0_v82 : Ref sig .tc := ⟨.hbm, 132, rfl⟩
abbrev main_call0_call0_v83 : Ref sig .tc := ⟨.hbm, 133, rfl⟩
abbrev main_call0_call0_c_21 : Ref sig .tc := ⟨.hbm, 134, rfl⟩
abbrev main_call0_call0_v84 : Ref sig .tc := ⟨.hbm, 135, rfl⟩
abbrev main_call0_call0_v85 : Ref sig .tc := ⟨.hbm, 136, rfl⟩
abbrev main_call0_call0_v86 : Ref sig .tc := ⟨.hbm, 137, rfl⟩
abbrev main_call0_call0_v87 : Ref sig .tc := ⟨.hbm, 138, rfl⟩
abbrev main_call0_call0_v88 : Ref sig .tc := ⟨.hbm, 139, rfl⟩
abbrev main_call0_call0_c_22 : Ref sig .tc := ⟨.hbm, 140, rfl⟩
abbrev main_call0_call0_v89 : Ref sig .tc := ⟨.hbm, 141, rfl⟩
abbrev main_call0_call0_v90 : Ref sig .tc := ⟨.hbm, 142, rfl⟩
abbrev main_call0_call0_c_23 : Ref sig .tc := ⟨.hbm, 143, rfl⟩
abbrev main_call0_call0_v91 : Ref sig .tc := ⟨.hbm, 144, rfl⟩
abbrev main_call0_call0_v92 : Ref sig .tc := ⟨.hbm, 145, rfl⟩
abbrev main_call0_call0_v93 : Ref sig .tc := ⟨.hbm, 146, rfl⟩
abbrev main_call0_call0_v94 : Ref sig .tc := ⟨.hbm, 147, rfl⟩
abbrev main_call0_call0_v95 : Ref sig .tc := ⟨.hbm, 148, rfl⟩
abbrev main_call0_call0_c_24 : Ref sig .tc := ⟨.hbm, 149, rfl⟩
abbrev main_call0_call0_v96 : Ref sig .tc := ⟨.hbm, 150, rfl⟩
abbrev main_call0_call0_v97 : Ref sig .tc := ⟨.hbm, 151, rfl⟩
abbrev main_call0_call0_c_25 : Ref sig .tc := ⟨.hbm, 152, rfl⟩
abbrev main_call0_call0_v98 : Ref sig .tc := ⟨.hbm, 153, rfl⟩
abbrev main_call0_call0_v99 : Ref sig .tc := ⟨.hbm, 154, rfl⟩
abbrev main_call0_call0_v100 : Ref sig .tc := ⟨.hbm, 155, rfl⟩
abbrev main_call0_call0_v101 : Ref sig .tc := ⟨.hbm, 156, rfl⟩
abbrev main_call0_call0_v102 : Ref sig .tc := ⟨.hbm, 157, rfl⟩
abbrev main_call0_call0_v103 : Ref sig .tc := ⟨.hbm, 158, rfl⟩
abbrev main_call0_call0_v104 : Ref sig .tc := ⟨.hbm, 159, rfl⟩
abbrev main_call0_call0_v105 : Ref sig .tc := ⟨.hbm, 160, rfl⟩
abbrev main_call0_call0_c_26 : Ref sig .tc := ⟨.hbm, 161, rfl⟩
abbrev main_call0_call0_v106 : Ref sig .tc := ⟨.hbm, 162, rfl⟩
abbrev main_call0_call0_v107 : Ref sig .tc := ⟨.hbm, 163, rfl⟩
abbrev main_call0_call0_v108 : Ref sig .tc := ⟨.hbm, 164, rfl⟩
abbrev main_call0_call0_c_27 : Ref sig .tc := ⟨.hbm, 165, rfl⟩
abbrev main_call0_call0_v109 : Ref sig .tc := ⟨.hbm, 166, rfl⟩
abbrev main_call0_call0_v110 : Ref sig .tc := ⟨.hbm, 167, rfl⟩
abbrev main_call0_call0_c_28 : Ref sig .tc := ⟨.hbm, 168, rfl⟩
abbrev main_call0_call0_v111 : Ref sig .tc := ⟨.hbm, 169, rfl⟩
abbrev main_call0_call0_v112 : Ref sig .tc := ⟨.hbm, 170, rfl⟩
abbrev main_call0_call0_v113 : Ref sig .tc := ⟨.hbm, 171, rfl⟩
abbrev main_call0_call0_v114 : Ref sig .tc := ⟨.hbm, 172, rfl⟩
abbrev main_call0_call0_v115 : Ref sig .tc := ⟨.hbm, 173, rfl⟩
abbrev main_call0_call0_c_29 : Ref sig .tc := ⟨.hbm, 174, rfl⟩
abbrev main_call0_call0_v116 : Ref sig .tc := ⟨.hbm, 175, rfl⟩
abbrev main_call0_call0_v117 : Ref sig .tc := ⟨.hbm, 176, rfl⟩
abbrev main_call0_call0_c_30 : Ref sig .tc := ⟨.hbm, 177, rfl⟩
abbrev main_call0_call0_v118 : Ref sig .tc := ⟨.hbm, 178, rfl⟩
abbrev main_call0_call0_v119 : Ref sig .tc := ⟨.hbm, 179, rfl⟩
abbrev main_call0_call0_v120 : Ref sig .tc := ⟨.hbm, 180, rfl⟩
abbrev main_call0_call0_v121 : Ref sig .tc := ⟨.hbm, 181, rfl⟩
abbrev main_call0_call0_v122 : Ref sig .tc := ⟨.hbm, 182, rfl⟩
abbrev main_call0_call0_c_31 : Ref sig .tc := ⟨.hbm, 183, rfl⟩
abbrev main_call0_call0_v123 : Ref sig .tc := ⟨.hbm, 184, rfl⟩
abbrev main_call0_call0_v124 : Ref sig .tc := ⟨.hbm, 185, rfl⟩
abbrev main_call0_call0_c_32 : Ref sig .tc := ⟨.hbm, 186, rfl⟩
abbrev main_call0_call0_v125 : Ref sig .tc := ⟨.hbm, 187, rfl⟩
abbrev main_call0_call0_v126 : Ref sig .tc := ⟨.hbm, 188, rfl⟩
abbrev main_call0_call0_v127 : Ref sig .tc := ⟨.hbm, 189, rfl⟩
abbrev main_call0_call0_v128 : Ref sig .tc := ⟨.hbm, 190, rfl⟩
abbrev main_call0_call0_v129 : Ref sig .tc := ⟨.hbm, 191, rfl⟩
abbrev main_call0_call0_c_33 : Ref sig .tc := ⟨.hbm, 192, rfl⟩
abbrev main_call0_call0_v130 : Ref sig .tc := ⟨.hbm, 193, rfl⟩
abbrev main_call0_call0_v131 : Ref sig .tc := ⟨.hbm, 194, rfl⟩
abbrev main_call0_call0_c_34 : Ref sig .tc := ⟨.hbm, 195, rfl⟩
abbrev main_call0_call0_v132 : Ref sig .tc := ⟨.hbm, 196, rfl⟩
abbrev main_call0_call0_v133 : Ref sig .tc := ⟨.hbm, 197, rfl⟩
abbrev main_call0_call0_v134 : Ref sig .tc := ⟨.hbm, 198, rfl⟩
abbrev main_call0_call0_v135 : Ref sig .tc := ⟨.hbm, 199, rfl⟩
abbrev main_call0_call0_v136 : Ref sig .tc := ⟨.hbm, 200, rfl⟩
abbrev main_call0_call0_v137 : Ref sig .tc := ⟨.hbm, 201, rfl⟩
abbrev main_call0_call0_v138 : Ref sig .tc := ⟨.hbm, 202, rfl⟩
abbrev main_call0_call0_v139 : Ref sig .tc := ⟨.hbm, 203, rfl⟩
abbrev main_call0_call0_c_35 : Ref sig .tc := ⟨.hbm, 204, rfl⟩
abbrev main_call0_call0_v140 : Ref sig .tc := ⟨.hbm, 205, rfl⟩
abbrev main_call0_call0_v141 : Ref sig .tc := ⟨.hbm, 206, rfl⟩
abbrev main_call0_call0_v142 : Ref sig .tc := ⟨.hbm, 207, rfl⟩
abbrev main_call0_call0_c_36 : Ref sig .tc := ⟨.hbm, 208, rfl⟩
abbrev main_call0_call0_v143 : Ref sig .tc := ⟨.hbm, 209, rfl⟩
abbrev main_call0_call0_v144 : Ref sig .tc := ⟨.hbm, 210, rfl⟩
abbrev main_call0_call0_c_37 : Ref sig .tc := ⟨.hbm, 211, rfl⟩
abbrev main_call0_call0_v145 : Ref sig .tc := ⟨.hbm, 212, rfl⟩
abbrev main_call0_call0_v146 : Ref sig .tc := ⟨.hbm, 213, rfl⟩
abbrev main_call0_call0_v147 : Ref sig .tc := ⟨.hbm, 214, rfl⟩
abbrev main_call0_call0_v148 : Ref sig .tc := ⟨.hbm, 215, rfl⟩
abbrev main_call0_call0_v149 : Ref sig .tc := ⟨.hbm, 216, rfl⟩
abbrev main_call0_call0_c_38 : Ref sig .tc := ⟨.hbm, 217, rfl⟩
abbrev main_call0_call0_v150 : Ref sig .tc := ⟨.hbm, 218, rfl⟩
abbrev main_call0_call0_v151 : Ref sig .tc := ⟨.hbm, 219, rfl⟩
abbrev main_call0_call0_c_39 : Ref sig .tc := ⟨.hbm, 220, rfl⟩
abbrev main_call0_call0_v152 : Ref sig .tc := ⟨.hbm, 221, rfl⟩
abbrev main_call0_call0_v153 : Ref sig .tc := ⟨.hbm, 222, rfl⟩
abbrev main_call0_call0_v154 : Ref sig .tc := ⟨.hbm, 223, rfl⟩
abbrev main_call0_call0_v155 : Ref sig .tc := ⟨.hbm, 224, rfl⟩
abbrev main_call0_call0_v156 : Ref sig .tc := ⟨.hbm, 225, rfl⟩
abbrev main_call0_call0_c_40 : Ref sig .tc := ⟨.hbm, 226, rfl⟩
abbrev main_call0_call0_v157 : Ref sig .tc := ⟨.hbm, 227, rfl⟩
abbrev main_call0_call0_v158 : Ref sig .tc := ⟨.hbm, 228, rfl⟩
abbrev main_call0_call0_c_41 : Ref sig .tc := ⟨.hbm, 229, rfl⟩
abbrev main_call0_call0_v159 : Ref sig .tc := ⟨.hbm, 230, rfl⟩
abbrev main_call0_call0_v160 : Ref sig .tc := ⟨.hbm, 231, rfl⟩
abbrev main_call0_call0_v161 : Ref sig .tc := ⟨.hbm, 232, rfl⟩
abbrev main_call0_call0_v162 : Ref sig .tc := ⟨.hbm, 233, rfl⟩
abbrev main_call0_call0_v163 : Ref sig .tc := ⟨.hbm, 234, rfl⟩
abbrev main_call0_call0_c_42 : Ref sig .tc := ⟨.hbm, 235, rfl⟩
abbrev main_call0_call0_v164 : Ref sig .tc := ⟨.hbm, 236, rfl⟩
abbrev main_call0_call0_v165 : Ref sig .tc := ⟨.hbm, 237, rfl⟩
abbrev main_call0_call0_c_43 : Ref sig .tc := ⟨.hbm, 238, rfl⟩
abbrev main_call0_call0_v166 : Ref sig .tc := ⟨.hbm, 239, rfl⟩
abbrev main_call0_call0_v167 : Ref sig .tc := ⟨.hbm, 240, rfl⟩
abbrev main_call0_call0_v168 : Ref sig .tc := ⟨.hbm, 241, rfl⟩
abbrev main_call0_call0_v169 : Ref sig .tc := ⟨.hbm, 242, rfl⟩
abbrev main_call0_call0_v170 : Ref sig .tc := ⟨.hbm, 243, rfl⟩
abbrev main_call0_v11_0 : Ref sig .tc := ⟨.hbm, 244, rfl⟩
abbrev main_call0_call0_v172 : Ref sig .tc := ⟨.hbm, 245, rfl⟩
abbrev main_call0_call0_v173 : Ref sig .tc := ⟨.hbm, 246, rfl⟩
abbrev main_call0_call0_c_44 : Ref sig .tc := ⟨.hbm, 247, rfl⟩
abbrev main_call0_call0_v174 : Ref sig .tc := ⟨.hbm, 248, rfl⟩
abbrev main_call0_v11_1 : Ref sig .tc := ⟨.hbm, 249, rfl⟩
abbrev main_call0_v12 : Ref sig .tc := ⟨.hbm, 250, rfl⟩
abbrev main_call0_v13 : Ref sig .tc := ⟨.hbm, 251, rfl⟩
abbrev main_v7 : Ref sig .tc := ⟨.hbm, 252, rfl⟩
abbrev main_v8 : Ref sig .tc := ⟨.hbm, 253, rfl⟩
abbrev main_v9 : Ref sig .tc := ⟨.hbm, 254, rfl⟩
abbrev main_v10 : Ref sig .tc := ⟨.hbm, 255, rfl⟩
abbrev main_v11 : Ref sig .tc := ⟨.hbm, 256, rfl⟩
abbrev main_call1_cst : Ref sig .tc := ⟨.hbm, 257, rfl⟩
abbrev main_call1_cst_0 : Ref sig .tc := ⟨.hbm, 258, rfl⟩
abbrev main_call1_call0_v0 : Ref sig .tc := ⟨.hbm, 259, rfl⟩
abbrev main_call1_call0_v1 : Ref sig .tc := ⟨.hbm, 260, rfl⟩
abbrev main_call1_call0_v2 : Ref sig .tc := ⟨.hbm, 261, rfl⟩
abbrev main_call1_call0_v3 : Ref sig .tc := ⟨.hbm, 262, rfl⟩
abbrev main_call1_call0_v4 : Ref sig .tc := ⟨.hbm, 263, rfl⟩
abbrev main_call1_call0_v5 : Ref sig .tc := ⟨.hbm, 264, rfl⟩
abbrev main_call1_call0_v6 : Ref sig .tc := ⟨.hbm, 265, rfl⟩
abbrev main_call1_call0_v7 : Ref sig .tc := ⟨.hbm, 266, rfl⟩
abbrev main_call1_call0_v8 : Ref sig .tc := ⟨.hbm, 267, rfl⟩
abbrev main_call1_call0_c : Ref sig .tc := ⟨.hbm, 268, rfl⟩
abbrev main_call1_call0_v9 : Ref sig .tc := ⟨.hbm, 269, rfl⟩
abbrev main_call1_call0_v10 : Ref sig .tc := ⟨.hbm, 270, rfl⟩
abbrev main_call1_call0_c_0 : Ref sig .tc := ⟨.hbm, 271, rfl⟩
abbrev main_call1_call0_v11 : Ref sig .tc := ⟨.hbm, 272, rfl⟩
abbrev main_call1_call0_v12 : Ref sig .tc := ⟨.hbm, 273, rfl⟩
abbrev main_call1_call0_v13 : Ref sig .tc := ⟨.hbm, 274, rfl⟩
abbrev main_call1_call0_c_1 : Ref sig .tc := ⟨.hbm, 275, rfl⟩
abbrev main_call1_call0_v14 : Ref sig .tc := ⟨.hbm, 276, rfl⟩
abbrev main_call1_call0_v15 : Ref sig .tc := ⟨.hbm, 277, rfl⟩
abbrev main_call1_call0_v16 : Ref sig .tc := ⟨.hbm, 278, rfl⟩
abbrev main_call1_call0_v17 : Ref sig .tc := ⟨.hbm, 279, rfl⟩
abbrev main_call1_call0_call0_v0 : Ref sig .tc := ⟨.hbm, 280, rfl⟩
abbrev main_call1_call0_call0_c : Ref sig .tc := ⟨.hbm, 281, rfl⟩
abbrev main_call1_call0_call0_v1 : Ref sig .tc := ⟨.hbm, 282, rfl⟩
abbrev main_call1_call0_call0_v2 : Ref sig .tc := ⟨.hbm, 283, rfl⟩
abbrev main_call1_call0_call0_v3 : Ref sig .tc := ⟨.hbm, 284, rfl⟩
abbrev main_call1_call0_call0_v4 : Ref sig .tc := ⟨.hbm, 285, rfl⟩
abbrev main_call1_call0_call0_v5 : Ref sig .tc := ⟨.hbm, 286, rfl⟩
abbrev main_call1_call0_call0_v6 : Ref sig .tc := ⟨.hbm, 287, rfl⟩
abbrev main_call1_call0_call0_c_0 : Ref sig .tc := ⟨.hbm, 288, rfl⟩
abbrev main_call1_call0_call0_v7 : Ref sig .tc := ⟨.hbm, 289, rfl⟩
abbrev main_call1_call0_call0_v8 : Ref sig .tc := ⟨.hbm, 290, rfl⟩
abbrev main_call1_call0_call0_c_1 : Ref sig .tc := ⟨.hbm, 291, rfl⟩
abbrev main_call1_call0_call0_v9 : Ref sig .tc := ⟨.hbm, 292, rfl⟩
abbrev main_call1_call0_call0_v10 : Ref sig .tc := ⟨.hbm, 293, rfl⟩
abbrev main_call1_call0_call0_v11 : Ref sig .tc := ⟨.hbm, 294, rfl⟩
abbrev main_call1_call0_call0_v12 : Ref sig .tc := ⟨.hbm, 295, rfl⟩
abbrev main_call1_call0_call0_v13 : Ref sig .tc := ⟨.hbm, 296, rfl⟩
abbrev main_call1_call0_call0_c_2 : Ref sig .tc := ⟨.hbm, 297, rfl⟩
abbrev main_call1_call0_call0_v14 : Ref sig .tc := ⟨.hbm, 298, rfl⟩
abbrev main_call1_call0_call0_v15 : Ref sig .tc := ⟨.hbm, 299, rfl⟩
abbrev main_call1_call0_call0_c_3 : Ref sig .tc := ⟨.hbm, 300, rfl⟩
abbrev main_call1_call0_call0_v16 : Ref sig .tc := ⟨.hbm, 301, rfl⟩
abbrev main_call1_call0_call0_v17 : Ref sig .tc := ⟨.hbm, 302, rfl⟩
abbrev main_call1_call0_call0_v18 : Ref sig .tc := ⟨.hbm, 303, rfl⟩
abbrev main_call1_call0_call0_v19 : Ref sig .tc := ⟨.hbm, 304, rfl⟩
abbrev main_call1_call0_call0_v20 : Ref sig .tc := ⟨.hbm, 305, rfl⟩
abbrev main_call1_call0_call0_c_4 : Ref sig .tc := ⟨.hbm, 306, rfl⟩
abbrev main_call1_call0_call0_v21 : Ref sig .tc := ⟨.hbm, 307, rfl⟩
abbrev main_call1_call0_call0_v22 : Ref sig .tc := ⟨.hbm, 308, rfl⟩
abbrev main_call1_call0_call0_c_5 : Ref sig .tc := ⟨.hbm, 309, rfl⟩
abbrev main_call1_call0_call0_v23 : Ref sig .tc := ⟨.hbm, 310, rfl⟩
abbrev main_call1_call0_call0_v24 : Ref sig .tc := ⟨.hbm, 311, rfl⟩
abbrev main_call1_call0_call0_v25 : Ref sig .tc := ⟨.hbm, 312, rfl⟩
abbrev main_call1_call0_call0_v26 : Ref sig .tc := ⟨.hbm, 313, rfl⟩
abbrev main_call1_call0_call0_v27 : Ref sig .tc := ⟨.hbm, 314, rfl⟩
abbrev main_call1_call0_call0_c_6 : Ref sig .tc := ⟨.hbm, 315, rfl⟩
abbrev main_call1_call0_call0_v28 : Ref sig .tc := ⟨.hbm, 316, rfl⟩
abbrev main_call1_call0_call0_v29 : Ref sig .tc := ⟨.hbm, 317, rfl⟩
abbrev main_call1_call0_call0_c_7 : Ref sig .tc := ⟨.hbm, 318, rfl⟩
abbrev main_call1_call0_call0_v30 : Ref sig .tc := ⟨.hbm, 319, rfl⟩
abbrev main_call1_call0_call0_v31 : Ref sig .tc := ⟨.hbm, 320, rfl⟩
abbrev main_call1_call0_call0_v32 : Ref sig .tc := ⟨.hbm, 321, rfl⟩
abbrev main_call1_call0_call0_v33 : Ref sig .tc := ⟨.hbm, 322, rfl⟩
abbrev main_call1_call0_call0_v34 : Ref sig .tc := ⟨.hbm, 323, rfl⟩
abbrev main_call1_call0_call0_v35 : Ref sig .tc := ⟨.hbm, 324, rfl⟩
abbrev main_call1_call0_call0_v36 : Ref sig .tc := ⟨.hbm, 325, rfl⟩
abbrev main_call1_call0_call0_v37 : Ref sig .tc := ⟨.hbm, 326, rfl⟩
abbrev main_call1_call0_call0_c_8 : Ref sig .tc := ⟨.hbm, 327, rfl⟩
abbrev main_call1_call0_call0_v38 : Ref sig .tc := ⟨.hbm, 328, rfl⟩
abbrev main_call1_call0_call0_v39 : Ref sig .tc := ⟨.hbm, 329, rfl⟩
abbrev main_call1_call0_call0_v40 : Ref sig .tc := ⟨.hbm, 330, rfl⟩
abbrev main_call1_call0_call0_c_9 : Ref sig .tc := ⟨.hbm, 331, rfl⟩
abbrev main_call1_call0_call0_v41 : Ref sig .tc := ⟨.hbm, 332, rfl⟩
abbrev main_call1_call0_call0_v42 : Ref sig .tc := ⟨.hbm, 333, rfl⟩
abbrev main_call1_call0_call0_c_10 : Ref sig .tc := ⟨.hbm, 334, rfl⟩
abbrev main_call1_call0_call0_v43 : Ref sig .tc := ⟨.hbm, 335, rfl⟩
abbrev main_call1_call0_call0_v44 : Ref sig .tc := ⟨.hbm, 336, rfl⟩
abbrev main_call1_call0_call0_v45 : Ref sig .tc := ⟨.hbm, 337, rfl⟩
abbrev main_call1_call0_call0_v46 : Ref sig .tc := ⟨.hbm, 338, rfl⟩
abbrev main_call1_call0_call0_v47 : Ref sig .tc := ⟨.hbm, 339, rfl⟩
abbrev main_call1_call0_call0_c_11 : Ref sig .tc := ⟨.hbm, 340, rfl⟩
abbrev main_call1_call0_call0_v48 : Ref sig .tc := ⟨.hbm, 341, rfl⟩
abbrev main_call1_call0_call0_v49 : Ref sig .tc := ⟨.hbm, 342, rfl⟩
abbrev main_call1_call0_call0_c_12 : Ref sig .tc := ⟨.hbm, 343, rfl⟩
abbrev main_call1_call0_call0_v50 : Ref sig .tc := ⟨.hbm, 344, rfl⟩
abbrev main_call1_call0_call0_v51 : Ref sig .tc := ⟨.hbm, 345, rfl⟩
abbrev main_call1_call0_call0_v52 : Ref sig .tc := ⟨.hbm, 346, rfl⟩
abbrev main_call1_call0_call0_v53 : Ref sig .tc := ⟨.hbm, 347, rfl⟩
abbrev main_call1_call0_call0_v54 : Ref sig .tc := ⟨.hbm, 348, rfl⟩
abbrev main_call1_call0_call0_c_13 : Ref sig .tc := ⟨.hbm, 349, rfl⟩
abbrev main_call1_call0_call0_v55 : Ref sig .tc := ⟨.hbm, 350, rfl⟩
abbrev main_call1_call0_call0_v56 : Ref sig .tc := ⟨.hbm, 351, rfl⟩
abbrev main_call1_call0_call0_c_14 : Ref sig .tc := ⟨.hbm, 352, rfl⟩
abbrev main_call1_call0_call0_v57 : Ref sig .tc := ⟨.hbm, 353, rfl⟩
abbrev main_call1_call0_call0_v58 : Ref sig .tc := ⟨.hbm, 354, rfl⟩
abbrev main_call1_call0_call0_v59 : Ref sig .tc := ⟨.hbm, 355, rfl⟩
abbrev main_call1_call0_call0_v60 : Ref sig .tc := ⟨.hbm, 356, rfl⟩
abbrev main_call1_call0_call0_v61 : Ref sig .tc := ⟨.hbm, 357, rfl⟩
abbrev main_call1_call0_call0_c_15 : Ref sig .tc := ⟨.hbm, 358, rfl⟩
abbrev main_call1_call0_call0_v62 : Ref sig .tc := ⟨.hbm, 359, rfl⟩
abbrev main_call1_call0_call0_v63 : Ref sig .tc := ⟨.hbm, 360, rfl⟩
abbrev main_call1_call0_call0_c_16 : Ref sig .tc := ⟨.hbm, 361, rfl⟩
abbrev main_call1_call0_call0_v64 : Ref sig .tc := ⟨.hbm, 362, rfl⟩
abbrev main_call1_call0_call0_v65 : Ref sig .tc := ⟨.hbm, 363, rfl⟩
abbrev main_call1_call0_call0_v66 : Ref sig .tc := ⟨.hbm, 364, rfl⟩
abbrev main_call1_call0_call0_v67 : Ref sig .tc := ⟨.hbm, 365, rfl⟩
abbrev main_call1_call0_call0_v68 : Ref sig .tc := ⟨.hbm, 366, rfl⟩
abbrev main_call1_call0_call0_v69 : Ref sig .tc := ⟨.hbm, 367, rfl⟩
abbrev main_call1_call0_call0_v70 : Ref sig .tc := ⟨.hbm, 368, rfl⟩
abbrev main_call1_call0_call0_v71 : Ref sig .tc := ⟨.hbm, 369, rfl⟩
abbrev main_call1_call0_call0_c_17 : Ref sig .tc := ⟨.hbm, 370, rfl⟩
abbrev main_call1_call0_call0_v72 : Ref sig .tc := ⟨.hbm, 371, rfl⟩
abbrev main_call1_call0_call0_v73 : Ref sig .tc := ⟨.hbm, 372, rfl⟩
abbrev main_call1_call0_call0_v74 : Ref sig .tc := ⟨.hbm, 373, rfl⟩
abbrev main_call1_call0_call0_c_18 : Ref sig .tc := ⟨.hbm, 374, rfl⟩
abbrev main_call1_call0_call0_v75 : Ref sig .tc := ⟨.hbm, 375, rfl⟩
abbrev main_call1_call0_call0_v76 : Ref sig .tc := ⟨.hbm, 376, rfl⟩
abbrev main_call1_call0_call0_c_19 : Ref sig .tc := ⟨.hbm, 377, rfl⟩
abbrev main_call1_call0_call0_v77 : Ref sig .tc := ⟨.hbm, 378, rfl⟩
abbrev main_call1_call0_call0_v78 : Ref sig .tc := ⟨.hbm, 379, rfl⟩
abbrev main_call1_call0_call0_v79 : Ref sig .tc := ⟨.hbm, 380, rfl⟩
abbrev main_call1_call0_call0_v80 : Ref sig .tc := ⟨.hbm, 381, rfl⟩
abbrev main_call1_call0_call0_v81 : Ref sig .tc := ⟨.hbm, 382, rfl⟩
abbrev main_call1_call0_call0_c_20 : Ref sig .tc := ⟨.hbm, 383, rfl⟩
abbrev main_call1_call0_call0_v82 : Ref sig .tc := ⟨.hbm, 384, rfl⟩
abbrev main_call1_call0_call0_v83 : Ref sig .tc := ⟨.hbm, 385, rfl⟩
abbrev main_call1_call0_call0_c_21 : Ref sig .tc := ⟨.hbm, 386, rfl⟩
abbrev main_call1_call0_call0_v84 : Ref sig .tc := ⟨.hbm, 387, rfl⟩
abbrev main_call1_call0_call0_v85 : Ref sig .tc := ⟨.hbm, 388, rfl⟩
abbrev main_call1_call0_call0_v86 : Ref sig .tc := ⟨.hbm, 389, rfl⟩
abbrev main_call1_call0_call0_v87 : Ref sig .tc := ⟨.hbm, 390, rfl⟩
abbrev main_call1_call0_call0_v88 : Ref sig .tc := ⟨.hbm, 391, rfl⟩
abbrev main_call1_call0_call0_c_22 : Ref sig .tc := ⟨.hbm, 392, rfl⟩
abbrev main_call1_call0_call0_v89 : Ref sig .tc := ⟨.hbm, 393, rfl⟩
abbrev main_call1_call0_call0_v90 : Ref sig .tc := ⟨.hbm, 394, rfl⟩
abbrev main_call1_call0_call0_c_23 : Ref sig .tc := ⟨.hbm, 395, rfl⟩
abbrev main_call1_call0_call0_v91 : Ref sig .tc := ⟨.hbm, 396, rfl⟩
abbrev main_call1_call0_call0_v92 : Ref sig .tc := ⟨.hbm, 397, rfl⟩
abbrev main_call1_call0_call0_v93 : Ref sig .tc := ⟨.hbm, 398, rfl⟩
abbrev main_call1_call0_call0_v94 : Ref sig .tc := ⟨.hbm, 399, rfl⟩
abbrev main_call1_call0_call0_v95 : Ref sig .tc := ⟨.hbm, 400, rfl⟩
abbrev main_call1_call0_call0_c_24 : Ref sig .tc := ⟨.hbm, 401, rfl⟩
abbrev main_call1_call0_call0_v96 : Ref sig .tc := ⟨.hbm, 402, rfl⟩
abbrev main_call1_call0_call0_v97 : Ref sig .tc := ⟨.hbm, 403, rfl⟩
abbrev main_call1_call0_call0_c_25 : Ref sig .tc := ⟨.hbm, 404, rfl⟩
abbrev main_call1_call0_call0_v98 : Ref sig .tc := ⟨.hbm, 405, rfl⟩
abbrev main_call1_call0_call0_v99 : Ref sig .tc := ⟨.hbm, 406, rfl⟩
abbrev main_call1_call0_call0_v100 : Ref sig .tc := ⟨.hbm, 407, rfl⟩
abbrev main_call1_call0_call0_v101 : Ref sig .tc := ⟨.hbm, 408, rfl⟩
abbrev main_call1_call0_call0_v102 : Ref sig .tc := ⟨.hbm, 409, rfl⟩
abbrev main_call1_call0_call0_v103 : Ref sig .tc := ⟨.hbm, 410, rfl⟩
abbrev main_call1_call0_call0_v104 : Ref sig .tc := ⟨.hbm, 411, rfl⟩
abbrev main_call1_call0_call0_v105 : Ref sig .tc := ⟨.hbm, 412, rfl⟩
abbrev main_call1_call0_call0_c_26 : Ref sig .tc := ⟨.hbm, 413, rfl⟩
abbrev main_call1_call0_call0_v106 : Ref sig .tc := ⟨.hbm, 414, rfl⟩
abbrev main_call1_call0_call0_v107 : Ref sig .tc := ⟨.hbm, 415, rfl⟩
abbrev main_call1_call0_call0_v108 : Ref sig .tc := ⟨.hbm, 416, rfl⟩
abbrev main_call1_call0_call0_c_27 : Ref sig .tc := ⟨.hbm, 417, rfl⟩
abbrev main_call1_call0_call0_v109 : Ref sig .tc := ⟨.hbm, 418, rfl⟩
abbrev main_call1_call0_call0_v110 : Ref sig .tc := ⟨.hbm, 419, rfl⟩
abbrev main_call1_call0_call0_c_28 : Ref sig .tc := ⟨.hbm, 420, rfl⟩
abbrev main_call1_call0_call0_v111 : Ref sig .tc := ⟨.hbm, 421, rfl⟩
abbrev main_call1_call0_call0_v112 : Ref sig .tc := ⟨.hbm, 422, rfl⟩
abbrev main_call1_call0_call0_v113 : Ref sig .tc := ⟨.hbm, 423, rfl⟩
abbrev main_call1_call0_call0_v114 : Ref sig .tc := ⟨.hbm, 424, rfl⟩
abbrev main_call1_call0_call0_v115 : Ref sig .tc := ⟨.hbm, 425, rfl⟩
abbrev main_call1_call0_call0_c_29 : Ref sig .tc := ⟨.hbm, 426, rfl⟩
abbrev main_call1_call0_call0_v116 : Ref sig .tc := ⟨.hbm, 427, rfl⟩
abbrev main_call1_call0_call0_v117 : Ref sig .tc := ⟨.hbm, 428, rfl⟩
abbrev main_call1_call0_call0_c_30 : Ref sig .tc := ⟨.hbm, 429, rfl⟩
abbrev main_call1_call0_call0_v118 : Ref sig .tc := ⟨.hbm, 430, rfl⟩
abbrev main_call1_call0_call0_v119 : Ref sig .tc := ⟨.hbm, 431, rfl⟩
abbrev main_call1_call0_call0_v120 : Ref sig .tc := ⟨.hbm, 432, rfl⟩
abbrev main_call1_call0_call0_v121 : Ref sig .tc := ⟨.hbm, 433, rfl⟩
abbrev main_call1_call0_call0_v122 : Ref sig .tc := ⟨.hbm, 434, rfl⟩
abbrev main_call1_call0_call0_c_31 : Ref sig .tc := ⟨.hbm, 435, rfl⟩
abbrev main_call1_call0_call0_v123 : Ref sig .tc := ⟨.hbm, 436, rfl⟩
abbrev main_call1_call0_call0_v124 : Ref sig .tc := ⟨.hbm, 437, rfl⟩
abbrev main_call1_call0_call0_c_32 : Ref sig .tc := ⟨.hbm, 438, rfl⟩
abbrev main_call1_call0_call0_v125 : Ref sig .tc := ⟨.hbm, 439, rfl⟩
abbrev main_call1_call0_call0_v126 : Ref sig .tc := ⟨.hbm, 440, rfl⟩
abbrev main_call1_call0_call0_v127 : Ref sig .tc := ⟨.hbm, 441, rfl⟩
abbrev main_call1_call0_call0_v128 : Ref sig .tc := ⟨.hbm, 442, rfl⟩
abbrev main_call1_call0_call0_v129 : Ref sig .tc := ⟨.hbm, 443, rfl⟩
abbrev main_call1_call0_call0_c_33 : Ref sig .tc := ⟨.hbm, 444, rfl⟩
abbrev main_call1_call0_call0_v130 : Ref sig .tc := ⟨.hbm, 445, rfl⟩
abbrev main_call1_call0_call0_v131 : Ref sig .tc := ⟨.hbm, 446, rfl⟩
abbrev main_call1_call0_call0_c_34 : Ref sig .tc := ⟨.hbm, 447, rfl⟩
abbrev main_call1_call0_call0_v132 : Ref sig .tc := ⟨.hbm, 448, rfl⟩
abbrev main_call1_call0_call0_v133 : Ref sig .tc := ⟨.hbm, 449, rfl⟩
abbrev main_call1_call0_call0_v134 : Ref sig .tc := ⟨.hbm, 450, rfl⟩
abbrev main_call1_call0_call0_v135 : Ref sig .tc := ⟨.hbm, 451, rfl⟩
abbrev main_call1_call0_call0_v136 : Ref sig .tc := ⟨.hbm, 452, rfl⟩
abbrev main_call1_call0_call0_v137 : Ref sig .tc := ⟨.hbm, 453, rfl⟩
abbrev main_call1_call0_call0_v138 : Ref sig .tc := ⟨.hbm, 454, rfl⟩
abbrev main_call1_call0_call0_v139 : Ref sig .tc := ⟨.hbm, 455, rfl⟩
abbrev main_call1_call0_call0_c_35 : Ref sig .tc := ⟨.hbm, 456, rfl⟩
abbrev main_call1_call0_call0_v140 : Ref sig .tc := ⟨.hbm, 457, rfl⟩
abbrev main_call1_call0_call0_v141 : Ref sig .tc := ⟨.hbm, 458, rfl⟩
abbrev main_call1_call0_call0_v142 : Ref sig .tc := ⟨.hbm, 459, rfl⟩
abbrev main_call1_call0_call0_c_36 : Ref sig .tc := ⟨.hbm, 460, rfl⟩
abbrev main_call1_call0_call0_v143 : Ref sig .tc := ⟨.hbm, 461, rfl⟩
abbrev main_call1_call0_call0_v144 : Ref sig .tc := ⟨.hbm, 462, rfl⟩
abbrev main_call1_call0_call0_c_37 : Ref sig .tc := ⟨.hbm, 463, rfl⟩
abbrev main_call1_call0_call0_v145 : Ref sig .tc := ⟨.hbm, 464, rfl⟩
abbrev main_call1_call0_call0_v146 : Ref sig .tc := ⟨.hbm, 465, rfl⟩
abbrev main_call1_call0_call0_v147 : Ref sig .tc := ⟨.hbm, 466, rfl⟩
abbrev main_call1_call0_call0_v148 : Ref sig .tc := ⟨.hbm, 467, rfl⟩
abbrev main_call1_call0_call0_v149 : Ref sig .tc := ⟨.hbm, 468, rfl⟩
abbrev main_call1_call0_call0_c_38 : Ref sig .tc := ⟨.hbm, 469, rfl⟩
abbrev main_call1_call0_call0_v150 : Ref sig .tc := ⟨.hbm, 470, rfl⟩
abbrev main_call1_call0_call0_v151 : Ref sig .tc := ⟨.hbm, 471, rfl⟩
abbrev main_call1_call0_call0_c_39 : Ref sig .tc := ⟨.hbm, 472, rfl⟩
abbrev main_call1_call0_call0_v152 : Ref sig .tc := ⟨.hbm, 473, rfl⟩
abbrev main_call1_call0_call0_v153 : Ref sig .tc := ⟨.hbm, 474, rfl⟩
abbrev main_call1_call0_call0_v154 : Ref sig .tc := ⟨.hbm, 475, rfl⟩
abbrev main_call1_call0_call0_v155 : Ref sig .tc := ⟨.hbm, 476, rfl⟩
abbrev main_call1_call0_call0_v156 : Ref sig .tc := ⟨.hbm, 477, rfl⟩
abbrev main_call1_call0_call0_c_40 : Ref sig .tc := ⟨.hbm, 478, rfl⟩
abbrev main_call1_call0_call0_v157 : Ref sig .tc := ⟨.hbm, 479, rfl⟩
abbrev main_call1_call0_call0_v158 : Ref sig .tc := ⟨.hbm, 480, rfl⟩
abbrev main_call1_call0_call0_c_41 : Ref sig .tc := ⟨.hbm, 481, rfl⟩
abbrev main_call1_call0_call0_v159 : Ref sig .tc := ⟨.hbm, 482, rfl⟩
abbrev main_call1_call0_call0_v160 : Ref sig .tc := ⟨.hbm, 483, rfl⟩
abbrev main_call1_call0_call0_v161 : Ref sig .tc := ⟨.hbm, 484, rfl⟩
abbrev main_call1_call0_call0_v162 : Ref sig .tc := ⟨.hbm, 485, rfl⟩
abbrev main_call1_call0_call0_v163 : Ref sig .tc := ⟨.hbm, 486, rfl⟩
abbrev main_call1_call0_call0_c_42 : Ref sig .tc := ⟨.hbm, 487, rfl⟩
abbrev main_call1_call0_call0_v164 : Ref sig .tc := ⟨.hbm, 488, rfl⟩
abbrev main_call1_call0_call0_v165 : Ref sig .tc := ⟨.hbm, 489, rfl⟩
abbrev main_call1_call0_call0_c_43 : Ref sig .tc := ⟨.hbm, 490, rfl⟩
abbrev main_call1_call0_call0_v166 : Ref sig .tc := ⟨.hbm, 491, rfl⟩
abbrev main_call1_call0_call0_v167 : Ref sig .tc := ⟨.hbm, 492, rfl⟩
abbrev main_call1_call0_call0_v168 : Ref sig .tc := ⟨.hbm, 493, rfl⟩
abbrev main_call1_call0_call0_v169 : Ref sig .tc := ⟨.hbm, 494, rfl⟩
abbrev main_call1_call0_call0_v170 : Ref sig .tc := ⟨.hbm, 495, rfl⟩
abbrev main_call1_call0_v18_0 : Ref sig .tc := ⟨.hbm, 496, rfl⟩
abbrev main_call1_call0_call0_v172 : Ref sig .tc := ⟨.hbm, 497, rfl⟩
abbrev main_call1_call0_call0_v173 : Ref sig .tc := ⟨.hbm, 498, rfl⟩
abbrev main_call1_call0_call0_c_44 : Ref sig .tc := ⟨.hbm, 499, rfl⟩
abbrev main_call1_call0_call0_v174 : Ref sig .tc := ⟨.hbm, 500, rfl⟩
abbrev main_call1_call0_v18_1 : Ref sig .tc := ⟨.hbm, 501, rfl⟩
abbrev main_call1_call0_v19 : Ref sig .tc := ⟨.hbm, 502, rfl⟩
abbrev main_call1_call0_c_2 : Ref sig .tc := ⟨.hbm, 503, rfl⟩
abbrev main_call1_call0_v20 : Ref sig .tc := ⟨.hbm, 504, rfl⟩
abbrev main_call1_call0_v21 : Ref sig .tc := ⟨.hbm, 505, rfl⟩
abbrev main_call1_call0_c_3 : Ref sig .tc := ⟨.hbm, 506, rfl⟩
abbrev main_call1_call0_v22 : Ref sig .tc := ⟨.hbm, 507, rfl⟩
abbrev main_call1_call0_v23 : Ref sig .tc := ⟨.hbm, 508, rfl⟩
abbrev main_call1_call0_v24 : Ref sig .tc := ⟨.hbm, 509, rfl⟩
abbrev main_call1_call0_cst : Ref sig .tc := ⟨.hbm, 510, rfl⟩
abbrev main_call1_call0_v25 : Ref sig .tc := ⟨.hbm, 511, rfl⟩
abbrev main_call1_call0_v26 : Ref sig .tc := ⟨.hbm, 512, rfl⟩
abbrev main_call1_call0_v27 : Ref sig .tc := ⟨.hbm, 513, rfl⟩
abbrev main_call1_call0_v28 : Ref sig .tc := ⟨.hbm, 514, rfl⟩
abbrev main_call1_call0_v29 : Ref sig .tc := ⟨.hbm, 515, rfl⟩
abbrev main_call1_call0_v30 : Ref sig .tc := ⟨.hbm, 516, rfl⟩
abbrev main_call1_call0_v31 : Ref sig .tc := ⟨.hbm, 517, rfl⟩
abbrev main_call1_call0_v32 : Ref sig .tc := ⟨.hbm, 518, rfl⟩
abbrev main_call1_v0 : Ref sig .tc := ⟨.hbm, 519, rfl⟩
abbrev main_call1_v1 : Ref sig .tc := ⟨.hbm, 520, rfl⟩
abbrev main_call1_v2 : Ref sig .tc := ⟨.hbm, 521, rfl⟩
abbrev main_call1_v3 : Ref sig .tc := ⟨.hbm, 522, rfl⟩
abbrev main_v12 : Ref sig .tc := ⟨.hbm, 523, rfl⟩
abbrev main_call2_cst : Ref sig .tc := ⟨.hbm, 524, rfl⟩
abbrev main_call2_cst_0 : Ref sig .tc := ⟨.hbm, 525, rfl⟩
abbrev main_call2_call0_v0 : Ref sig .tc := ⟨.hbm, 526, rfl⟩
abbrev main_call2_call0_v1 : Ref sig .tc := ⟨.hbm, 527, rfl⟩
abbrev main_call2_call0_v2 : Ref sig .tc := ⟨.hbm, 528, rfl⟩
abbrev main_call2_call0_v3 : Ref sig .tc := ⟨.hbm, 529, rfl⟩
abbrev main_call2_call0_v4 : Ref sig .tc := ⟨.hbm, 530, rfl⟩
abbrev main_call2_call0_v5 : Ref sig .tc := ⟨.hbm, 531, rfl⟩
abbrev main_call2_call0_v6 : Ref sig .tc := ⟨.hbm, 532, rfl⟩
abbrev main_call2_call0_v7 : Ref sig .tc := ⟨.hbm, 533, rfl⟩
abbrev main_call2_call0_v8 : Ref sig .tc := ⟨.hbm, 534, rfl⟩
abbrev main_call2_call0_c : Ref sig .tc := ⟨.hbm, 535, rfl⟩
abbrev main_call2_call0_v9 : Ref sig .tc := ⟨.hbm, 536, rfl⟩
abbrev main_call2_call0_v10 : Ref sig .tc := ⟨.hbm, 537, rfl⟩
abbrev main_call2_call0_c_0 : Ref sig .tc := ⟨.hbm, 538, rfl⟩
abbrev main_call2_call0_v11 : Ref sig .tc := ⟨.hbm, 539, rfl⟩
abbrev main_call2_call0_v12 : Ref sig .tc := ⟨.hbm, 540, rfl⟩
abbrev main_call2_call0_v13 : Ref sig .tc := ⟨.hbm, 541, rfl⟩
abbrev main_call2_call0_c_1 : Ref sig .tc := ⟨.hbm, 542, rfl⟩
abbrev main_call2_call0_v14 : Ref sig .tc := ⟨.hbm, 543, rfl⟩
abbrev main_call2_call0_v15 : Ref sig .tc := ⟨.hbm, 544, rfl⟩
abbrev main_call2_call0_v16 : Ref sig .tc := ⟨.hbm, 545, rfl⟩
abbrev main_call2_call0_v17 : Ref sig .tc := ⟨.hbm, 546, rfl⟩
abbrev main_call2_call0_call0_v0 : Ref sig .tc := ⟨.hbm, 547, rfl⟩
abbrev main_call2_call0_call0_c : Ref sig .tc := ⟨.hbm, 548, rfl⟩
abbrev main_call2_call0_call0_v1 : Ref sig .tc := ⟨.hbm, 549, rfl⟩
abbrev main_call2_call0_call0_v2 : Ref sig .tc := ⟨.hbm, 550, rfl⟩
abbrev main_call2_call0_call0_v3 : Ref sig .tc := ⟨.hbm, 551, rfl⟩
abbrev main_call2_call0_call0_v4 : Ref sig .tc := ⟨.hbm, 552, rfl⟩
abbrev main_call2_call0_call0_v5 : Ref sig .tc := ⟨.hbm, 553, rfl⟩
abbrev main_call2_call0_call0_v6 : Ref sig .tc := ⟨.hbm, 554, rfl⟩
abbrev main_call2_call0_call0_c_0 : Ref sig .tc := ⟨.hbm, 555, rfl⟩
abbrev main_call2_call0_call0_v7 : Ref sig .tc := ⟨.hbm, 556, rfl⟩
abbrev main_call2_call0_call0_v8 : Ref sig .tc := ⟨.hbm, 557, rfl⟩
abbrev main_call2_call0_call0_c_1 : Ref sig .tc := ⟨.hbm, 558, rfl⟩
abbrev main_call2_call0_call0_v9 : Ref sig .tc := ⟨.hbm, 559, rfl⟩
abbrev main_call2_call0_call0_v10 : Ref sig .tc := ⟨.hbm, 560, rfl⟩
abbrev main_call2_call0_call0_v11 : Ref sig .tc := ⟨.hbm, 561, rfl⟩
abbrev main_call2_call0_call0_v12 : Ref sig .tc := ⟨.hbm, 562, rfl⟩
abbrev main_call2_call0_call0_v13 : Ref sig .tc := ⟨.hbm, 563, rfl⟩
abbrev main_call2_call0_call0_c_2 : Ref sig .tc := ⟨.hbm, 564, rfl⟩
abbrev main_call2_call0_call0_v14 : Ref sig .tc := ⟨.hbm, 565, rfl⟩
abbrev main_call2_call0_call0_v15 : Ref sig .tc := ⟨.hbm, 566, rfl⟩
abbrev main_call2_call0_call0_c_3 : Ref sig .tc := ⟨.hbm, 567, rfl⟩
abbrev main_call2_call0_call0_v16 : Ref sig .tc := ⟨.hbm, 568, rfl⟩
abbrev main_call2_call0_call0_v17 : Ref sig .tc := ⟨.hbm, 569, rfl⟩
abbrev main_call2_call0_call0_v18 : Ref sig .tc := ⟨.hbm, 570, rfl⟩
abbrev main_call2_call0_call0_v19 : Ref sig .tc := ⟨.hbm, 571, rfl⟩
abbrev main_call2_call0_call0_v20 : Ref sig .tc := ⟨.hbm, 572, rfl⟩
abbrev main_call2_call0_call0_c_4 : Ref sig .tc := ⟨.hbm, 573, rfl⟩
abbrev main_call2_call0_call0_v21 : Ref sig .tc := ⟨.hbm, 574, rfl⟩
abbrev main_call2_call0_call0_v22 : Ref sig .tc := ⟨.hbm, 575, rfl⟩
abbrev main_call2_call0_call0_c_5 : Ref sig .tc := ⟨.hbm, 576, rfl⟩
abbrev main_call2_call0_call0_v23 : Ref sig .tc := ⟨.hbm, 577, rfl⟩
abbrev main_call2_call0_call0_v24 : Ref sig .tc := ⟨.hbm, 578, rfl⟩
abbrev main_call2_call0_call0_v25 : Ref sig .tc := ⟨.hbm, 579, rfl⟩
abbrev main_call2_call0_call0_v26 : Ref sig .tc := ⟨.hbm, 580, rfl⟩
abbrev main_call2_call0_call0_v27 : Ref sig .tc := ⟨.hbm, 581, rfl⟩
abbrev main_call2_call0_call0_c_6 : Ref sig .tc := ⟨.hbm, 582, rfl⟩
abbrev main_call2_call0_call0_v28 : Ref sig .tc := ⟨.hbm, 583, rfl⟩
abbrev main_call2_call0_call0_v29 : Ref sig .tc := ⟨.hbm, 584, rfl⟩
abbrev main_call2_call0_call0_c_7 : Ref sig .tc := ⟨.hbm, 585, rfl⟩
abbrev main_call2_call0_call0_v30 : Ref sig .tc := ⟨.hbm, 586, rfl⟩
abbrev main_call2_call0_call0_v31 : Ref sig .tc := ⟨.hbm, 587, rfl⟩
abbrev main_call2_call0_call0_v32 : Ref sig .tc := ⟨.hbm, 588, rfl⟩
abbrev main_call2_call0_call0_v33 : Ref sig .tc := ⟨.hbm, 589, rfl⟩
abbrev main_call2_call0_call0_v34 : Ref sig .tc := ⟨.hbm, 590, rfl⟩
abbrev main_call2_call0_call0_v35 : Ref sig .tc := ⟨.hbm, 591, rfl⟩
abbrev main_call2_call0_call0_v36 : Ref sig .tc := ⟨.hbm, 592, rfl⟩
abbrev main_call2_call0_call0_v37 : Ref sig .tc := ⟨.hbm, 593, rfl⟩
abbrev main_call2_call0_call0_c_8 : Ref sig .tc := ⟨.hbm, 594, rfl⟩
abbrev main_call2_call0_call0_v38 : Ref sig .tc := ⟨.hbm, 595, rfl⟩
abbrev main_call2_call0_call0_v39 : Ref sig .tc := ⟨.hbm, 596, rfl⟩
abbrev main_call2_call0_call0_v40 : Ref sig .tc := ⟨.hbm, 597, rfl⟩
abbrev main_call2_call0_call0_c_9 : Ref sig .tc := ⟨.hbm, 598, rfl⟩
abbrev main_call2_call0_call0_v41 : Ref sig .tc := ⟨.hbm, 599, rfl⟩
abbrev main_call2_call0_call0_v42 : Ref sig .tc := ⟨.hbm, 600, rfl⟩
abbrev main_call2_call0_call0_c_10 : Ref sig .tc := ⟨.hbm, 601, rfl⟩
abbrev main_call2_call0_call0_v43 : Ref sig .tc := ⟨.hbm, 602, rfl⟩
abbrev main_call2_call0_call0_v44 : Ref sig .tc := ⟨.hbm, 603, rfl⟩
abbrev main_call2_call0_call0_v45 : Ref sig .tc := ⟨.hbm, 604, rfl⟩
abbrev main_call2_call0_call0_v46 : Ref sig .tc := ⟨.hbm, 605, rfl⟩
abbrev main_call2_call0_call0_v47 : Ref sig .tc := ⟨.hbm, 606, rfl⟩
abbrev main_call2_call0_call0_c_11 : Ref sig .tc := ⟨.hbm, 607, rfl⟩
abbrev main_call2_call0_call0_v48 : Ref sig .tc := ⟨.hbm, 608, rfl⟩
abbrev main_call2_call0_call0_v49 : Ref sig .tc := ⟨.hbm, 609, rfl⟩
abbrev main_call2_call0_call0_c_12 : Ref sig .tc := ⟨.hbm, 610, rfl⟩
abbrev main_call2_call0_call0_v50 : Ref sig .tc := ⟨.hbm, 611, rfl⟩
abbrev main_call2_call0_call0_v51 : Ref sig .tc := ⟨.hbm, 612, rfl⟩
abbrev main_call2_call0_call0_v52 : Ref sig .tc := ⟨.hbm, 613, rfl⟩
abbrev main_call2_call0_call0_v53 : Ref sig .tc := ⟨.hbm, 614, rfl⟩
abbrev main_call2_call0_call0_v54 : Ref sig .tc := ⟨.hbm, 615, rfl⟩
abbrev main_call2_call0_call0_c_13 : Ref sig .tc := ⟨.hbm, 616, rfl⟩
abbrev main_call2_call0_call0_v55 : Ref sig .tc := ⟨.hbm, 617, rfl⟩
abbrev main_call2_call0_call0_v56 : Ref sig .tc := ⟨.hbm, 618, rfl⟩
abbrev main_call2_call0_call0_c_14 : Ref sig .tc := ⟨.hbm, 619, rfl⟩
abbrev main_call2_call0_call0_v57 : Ref sig .tc := ⟨.hbm, 620, rfl⟩
abbrev main_call2_call0_call0_v58 : Ref sig .tc := ⟨.hbm, 621, rfl⟩
abbrev main_call2_call0_call0_v59 : Ref sig .tc := ⟨.hbm, 622, rfl⟩
abbrev main_call2_call0_call0_v60 : Ref sig .tc := ⟨.hbm, 623, rfl⟩
abbrev main_call2_call0_call0_v61 : Ref sig .tc := ⟨.hbm, 624, rfl⟩
abbrev main_call2_call0_call0_c_15 : Ref sig .tc := ⟨.hbm, 625, rfl⟩
abbrev main_call2_call0_call0_v62 : Ref sig .tc := ⟨.hbm, 626, rfl⟩
abbrev main_call2_call0_call0_v63 : Ref sig .tc := ⟨.hbm, 627, rfl⟩
abbrev main_call2_call0_call0_c_16 : Ref sig .tc := ⟨.hbm, 628, rfl⟩
abbrev main_call2_call0_call0_v64 : Ref sig .tc := ⟨.hbm, 629, rfl⟩
abbrev main_call2_call0_call0_v65 : Ref sig .tc := ⟨.hbm, 630, rfl⟩
abbrev main_call2_call0_call0_v66 : Ref sig .tc := ⟨.hbm, 631, rfl⟩
abbrev main_call2_call0_call0_v67 : Ref sig .tc := ⟨.hbm, 632, rfl⟩
abbrev main_call2_call0_call0_v68 : Ref sig .tc := ⟨.hbm, 633, rfl⟩
abbrev main_call2_call0_call0_v69 : Ref sig .tc := ⟨.hbm, 634, rfl⟩
abbrev main_call2_call0_call0_v70 : Ref sig .tc := ⟨.hbm, 635, rfl⟩
abbrev main_call2_call0_call0_v71 : Ref sig .tc := ⟨.hbm, 636, rfl⟩
abbrev main_call2_call0_call0_c_17 : Ref sig .tc := ⟨.hbm, 637, rfl⟩
abbrev main_call2_call0_call0_v72 : Ref sig .tc := ⟨.hbm, 638, rfl⟩
abbrev main_call2_call0_call0_v73 : Ref sig .tc := ⟨.hbm, 639, rfl⟩
abbrev main_call2_call0_call0_v74 : Ref sig .tc := ⟨.hbm, 640, rfl⟩
abbrev main_call2_call0_call0_c_18 : Ref sig .tc := ⟨.hbm, 641, rfl⟩
abbrev main_call2_call0_call0_v75 : Ref sig .tc := ⟨.hbm, 642, rfl⟩
abbrev main_call2_call0_call0_v76 : Ref sig .tc := ⟨.hbm, 643, rfl⟩
abbrev main_call2_call0_call0_c_19 : Ref sig .tc := ⟨.hbm, 644, rfl⟩
abbrev main_call2_call0_call0_v77 : Ref sig .tc := ⟨.hbm, 645, rfl⟩
abbrev main_call2_call0_call0_v78 : Ref sig .tc := ⟨.hbm, 646, rfl⟩
abbrev main_call2_call0_call0_v79 : Ref sig .tc := ⟨.hbm, 647, rfl⟩
abbrev main_call2_call0_call0_v80 : Ref sig .tc := ⟨.hbm, 648, rfl⟩
abbrev main_call2_call0_call0_v81 : Ref sig .tc := ⟨.hbm, 649, rfl⟩
abbrev main_call2_call0_call0_c_20 : Ref sig .tc := ⟨.hbm, 650, rfl⟩
abbrev main_call2_call0_call0_v82 : Ref sig .tc := ⟨.hbm, 651, rfl⟩
abbrev main_call2_call0_call0_v83 : Ref sig .tc := ⟨.hbm, 652, rfl⟩
abbrev main_call2_call0_call0_c_21 : Ref sig .tc := ⟨.hbm, 653, rfl⟩
abbrev main_call2_call0_call0_v84 : Ref sig .tc := ⟨.hbm, 654, rfl⟩
abbrev main_call2_call0_call0_v85 : Ref sig .tc := ⟨.hbm, 655, rfl⟩
abbrev main_call2_call0_call0_v86 : Ref sig .tc := ⟨.hbm, 656, rfl⟩
abbrev main_call2_call0_call0_v87 : Ref sig .tc := ⟨.hbm, 657, rfl⟩
abbrev main_call2_call0_call0_v88 : Ref sig .tc := ⟨.hbm, 658, rfl⟩
abbrev main_call2_call0_call0_c_22 : Ref sig .tc := ⟨.hbm, 659, rfl⟩
abbrev main_call2_call0_call0_v89 : Ref sig .tc := ⟨.hbm, 660, rfl⟩
abbrev main_call2_call0_call0_v90 : Ref sig .tc := ⟨.hbm, 661, rfl⟩
abbrev main_call2_call0_call0_c_23 : Ref sig .tc := ⟨.hbm, 662, rfl⟩
abbrev main_call2_call0_call0_v91 : Ref sig .tc := ⟨.hbm, 663, rfl⟩
abbrev main_call2_call0_call0_v92 : Ref sig .tc := ⟨.hbm, 664, rfl⟩
abbrev main_call2_call0_call0_v93 : Ref sig .tc := ⟨.hbm, 665, rfl⟩
abbrev main_call2_call0_call0_v94 : Ref sig .tc := ⟨.hbm, 666, rfl⟩
abbrev main_call2_call0_call0_v95 : Ref sig .tc := ⟨.hbm, 667, rfl⟩
abbrev main_call2_call0_call0_c_24 : Ref sig .tc := ⟨.hbm, 668, rfl⟩
abbrev main_call2_call0_call0_v96 : Ref sig .tc := ⟨.hbm, 669, rfl⟩
abbrev main_call2_call0_call0_v97 : Ref sig .tc := ⟨.hbm, 670, rfl⟩
abbrev main_call2_call0_call0_c_25 : Ref sig .tc := ⟨.hbm, 671, rfl⟩
abbrev main_call2_call0_call0_v98 : Ref sig .tc := ⟨.hbm, 672, rfl⟩
abbrev main_call2_call0_call0_v99 : Ref sig .tc := ⟨.hbm, 673, rfl⟩
abbrev main_call2_call0_call0_v100 : Ref sig .tc := ⟨.hbm, 674, rfl⟩
abbrev main_call2_call0_call0_v101 : Ref sig .tc := ⟨.hbm, 675, rfl⟩
abbrev main_call2_call0_call0_v102 : Ref sig .tc := ⟨.hbm, 676, rfl⟩
abbrev main_call2_call0_call0_v103 : Ref sig .tc := ⟨.hbm, 677, rfl⟩
abbrev main_call2_call0_call0_v104 : Ref sig .tc := ⟨.hbm, 678, rfl⟩
abbrev main_call2_call0_call0_v105 : Ref sig .tc := ⟨.hbm, 679, rfl⟩
abbrev main_call2_call0_call0_c_26 : Ref sig .tc := ⟨.hbm, 680, rfl⟩
abbrev main_call2_call0_call0_v106 : Ref sig .tc := ⟨.hbm, 681, rfl⟩
abbrev main_call2_call0_call0_v107 : Ref sig .tc := ⟨.hbm, 682, rfl⟩
abbrev main_call2_call0_call0_v108 : Ref sig .tc := ⟨.hbm, 683, rfl⟩
abbrev main_call2_call0_call0_c_27 : Ref sig .tc := ⟨.hbm, 684, rfl⟩
abbrev main_call2_call0_call0_v109 : Ref sig .tc := ⟨.hbm, 685, rfl⟩
abbrev main_call2_call0_call0_v110 : Ref sig .tc := ⟨.hbm, 686, rfl⟩
abbrev main_call2_call0_call0_c_28 : Ref sig .tc := ⟨.hbm, 687, rfl⟩
abbrev main_call2_call0_call0_v111 : Ref sig .tc := ⟨.hbm, 688, rfl⟩
abbrev main_call2_call0_call0_v112 : Ref sig .tc := ⟨.hbm, 689, rfl⟩
abbrev main_call2_call0_call0_v113 : Ref sig .tc := ⟨.hbm, 690, rfl⟩
abbrev main_call2_call0_call0_v114 : Ref sig .tc := ⟨.hbm, 691, rfl⟩
abbrev main_call2_call0_call0_v115 : Ref sig .tc := ⟨.hbm, 692, rfl⟩
abbrev main_call2_call0_call0_c_29 : Ref sig .tc := ⟨.hbm, 693, rfl⟩
abbrev main_call2_call0_call0_v116 : Ref sig .tc := ⟨.hbm, 694, rfl⟩
abbrev main_call2_call0_call0_v117 : Ref sig .tc := ⟨.hbm, 695, rfl⟩
abbrev main_call2_call0_call0_c_30 : Ref sig .tc := ⟨.hbm, 696, rfl⟩
abbrev main_call2_call0_call0_v118 : Ref sig .tc := ⟨.hbm, 697, rfl⟩
abbrev main_call2_call0_call0_v119 : Ref sig .tc := ⟨.hbm, 698, rfl⟩
abbrev main_call2_call0_call0_v120 : Ref sig .tc := ⟨.hbm, 699, rfl⟩
abbrev main_call2_call0_call0_v121 : Ref sig .tc := ⟨.hbm, 700, rfl⟩
abbrev main_call2_call0_call0_v122 : Ref sig .tc := ⟨.hbm, 701, rfl⟩
abbrev main_call2_call0_call0_c_31 : Ref sig .tc := ⟨.hbm, 702, rfl⟩
abbrev main_call2_call0_call0_v123 : Ref sig .tc := ⟨.hbm, 703, rfl⟩
abbrev main_call2_call0_call0_v124 : Ref sig .tc := ⟨.hbm, 704, rfl⟩
abbrev main_call2_call0_call0_c_32 : Ref sig .tc := ⟨.hbm, 705, rfl⟩
abbrev main_call2_call0_call0_v125 : Ref sig .tc := ⟨.hbm, 706, rfl⟩
abbrev main_call2_call0_call0_v126 : Ref sig .tc := ⟨.hbm, 707, rfl⟩
abbrev main_call2_call0_call0_v127 : Ref sig .tc := ⟨.hbm, 708, rfl⟩
abbrev main_call2_call0_call0_v128 : Ref sig .tc := ⟨.hbm, 709, rfl⟩
abbrev main_call2_call0_call0_v129 : Ref sig .tc := ⟨.hbm, 710, rfl⟩
abbrev main_call2_call0_call0_c_33 : Ref sig .tc := ⟨.hbm, 711, rfl⟩
abbrev main_call2_call0_call0_v130 : Ref sig .tc := ⟨.hbm, 712, rfl⟩
abbrev main_call2_call0_call0_v131 : Ref sig .tc := ⟨.hbm, 713, rfl⟩
abbrev main_call2_call0_call0_c_34 : Ref sig .tc := ⟨.hbm, 714, rfl⟩
abbrev main_call2_call0_call0_v132 : Ref sig .tc := ⟨.hbm, 715, rfl⟩
abbrev main_call2_call0_call0_v133 : Ref sig .tc := ⟨.hbm, 716, rfl⟩
abbrev main_call2_call0_call0_v134 : Ref sig .tc := ⟨.hbm, 717, rfl⟩
abbrev main_call2_call0_call0_v135 : Ref sig .tc := ⟨.hbm, 718, rfl⟩
abbrev main_call2_call0_call0_v136 : Ref sig .tc := ⟨.hbm, 719, rfl⟩
abbrev main_call2_call0_call0_v137 : Ref sig .tc := ⟨.hbm, 720, rfl⟩
abbrev main_call2_call0_call0_v138 : Ref sig .tc := ⟨.hbm, 721, rfl⟩
abbrev main_call2_call0_call0_v139 : Ref sig .tc := ⟨.hbm, 722, rfl⟩
abbrev main_call2_call0_call0_c_35 : Ref sig .tc := ⟨.hbm, 723, rfl⟩
abbrev main_call2_call0_call0_v140 : Ref sig .tc := ⟨.hbm, 724, rfl⟩
abbrev main_call2_call0_call0_v141 : Ref sig .tc := ⟨.hbm, 725, rfl⟩
abbrev main_call2_call0_call0_v142 : Ref sig .tc := ⟨.hbm, 726, rfl⟩
abbrev main_call2_call0_call0_c_36 : Ref sig .tc := ⟨.hbm, 727, rfl⟩
abbrev main_call2_call0_call0_v143 : Ref sig .tc := ⟨.hbm, 728, rfl⟩
abbrev main_call2_call0_call0_v144 : Ref sig .tc := ⟨.hbm, 729, rfl⟩
abbrev main_call2_call0_call0_c_37 : Ref sig .tc := ⟨.hbm, 730, rfl⟩
abbrev main_call2_call0_call0_v145 : Ref sig .tc := ⟨.hbm, 731, rfl⟩
abbrev main_call2_call0_call0_v146 : Ref sig .tc := ⟨.hbm, 732, rfl⟩
abbrev main_call2_call0_call0_v147 : Ref sig .tc := ⟨.hbm, 733, rfl⟩
abbrev main_call2_call0_call0_v148 : Ref sig .tc := ⟨.hbm, 734, rfl⟩
abbrev main_call2_call0_call0_v149 : Ref sig .tc := ⟨.hbm, 735, rfl⟩
abbrev main_call2_call0_call0_c_38 : Ref sig .tc := ⟨.hbm, 736, rfl⟩
abbrev main_call2_call0_call0_v150 : Ref sig .tc := ⟨.hbm, 737, rfl⟩
abbrev main_call2_call0_call0_v151 : Ref sig .tc := ⟨.hbm, 738, rfl⟩
abbrev main_call2_call0_call0_c_39 : Ref sig .tc := ⟨.hbm, 739, rfl⟩
abbrev main_call2_call0_call0_v152 : Ref sig .tc := ⟨.hbm, 740, rfl⟩
abbrev main_call2_call0_call0_v153 : Ref sig .tc := ⟨.hbm, 741, rfl⟩
abbrev main_call2_call0_call0_v154 : Ref sig .tc := ⟨.hbm, 742, rfl⟩
abbrev main_call2_call0_call0_v155 : Ref sig .tc := ⟨.hbm, 743, rfl⟩
abbrev main_call2_call0_call0_v156 : Ref sig .tc := ⟨.hbm, 744, rfl⟩
abbrev main_call2_call0_call0_c_40 : Ref sig .tc := ⟨.hbm, 745, rfl⟩
abbrev main_call2_call0_call0_v157 : Ref sig .tc := ⟨.hbm, 746, rfl⟩
abbrev main_call2_call0_call0_v158 : Ref sig .tc := ⟨.hbm, 747, rfl⟩
abbrev main_call2_call0_call0_c_41 : Ref sig .tc := ⟨.hbm, 748, rfl⟩
abbrev main_call2_call0_call0_v159 : Ref sig .tc := ⟨.hbm, 749, rfl⟩
abbrev main_call2_call0_call0_v160 : Ref sig .tc := ⟨.hbm, 750, rfl⟩
abbrev main_call2_call0_call0_v161 : Ref sig .tc := ⟨.hbm, 751, rfl⟩
abbrev main_call2_call0_call0_v162 : Ref sig .tc := ⟨.hbm, 752, rfl⟩
abbrev main_call2_call0_call0_v163 : Ref sig .tc := ⟨.hbm, 753, rfl⟩
abbrev main_call2_call0_call0_c_42 : Ref sig .tc := ⟨.hbm, 754, rfl⟩
abbrev main_call2_call0_call0_v164 : Ref sig .tc := ⟨.hbm, 755, rfl⟩
abbrev main_call2_call0_call0_v165 : Ref sig .tc := ⟨.hbm, 756, rfl⟩
abbrev main_call2_call0_call0_c_43 : Ref sig .tc := ⟨.hbm, 757, rfl⟩
abbrev main_call2_call0_call0_v166 : Ref sig .tc := ⟨.hbm, 758, rfl⟩
abbrev main_call2_call0_call0_v167 : Ref sig .tc := ⟨.hbm, 759, rfl⟩
abbrev main_call2_call0_call0_v168 : Ref sig .tc := ⟨.hbm, 760, rfl⟩
abbrev main_call2_call0_call0_v169 : Ref sig .tc := ⟨.hbm, 761, rfl⟩
abbrev main_call2_call0_call0_v170 : Ref sig .tc := ⟨.hbm, 762, rfl⟩
abbrev main_call2_call0_v18_0 : Ref sig .tc := ⟨.hbm, 763, rfl⟩
abbrev main_call2_call0_call0_v172 : Ref sig .tc := ⟨.hbm, 764, rfl⟩
abbrev main_call2_call0_call0_v173 : Ref sig .tc := ⟨.hbm, 765, rfl⟩
abbrev main_call2_call0_call0_c_44 : Ref sig .tc := ⟨.hbm, 766, rfl⟩
abbrev main_call2_call0_call0_v174 : Ref sig .tc := ⟨.hbm, 767, rfl⟩
abbrev main_call2_call0_v18_1 : Ref sig .tc := ⟨.hbm, 768, rfl⟩
abbrev main_call2_call0_v19 : Ref sig .tc := ⟨.hbm, 769, rfl⟩
abbrev main_call2_call0_c_2 : Ref sig .tc := ⟨.hbm, 770, rfl⟩
abbrev main_call2_call0_v20 : Ref sig .tc := ⟨.hbm, 771, rfl⟩
abbrev main_call2_call0_v21 : Ref sig .tc := ⟨.hbm, 772, rfl⟩
abbrev main_call2_call0_c_3 : Ref sig .tc := ⟨.hbm, 773, rfl⟩
abbrev main_call2_call0_v22 : Ref sig .tc := ⟨.hbm, 774, rfl⟩
abbrev main_call2_call0_v23 : Ref sig .tc := ⟨.hbm, 775, rfl⟩
abbrev main_call2_call0_v24 : Ref sig .tc := ⟨.hbm, 776, rfl⟩
abbrev main_call2_call0_cst : Ref sig .tc := ⟨.hbm, 777, rfl⟩
abbrev main_call2_call0_v25 : Ref sig .tc := ⟨.hbm, 778, rfl⟩
abbrev main_call2_call0_v26 : Ref sig .tc := ⟨.hbm, 779, rfl⟩
abbrev main_call2_call0_v27 : Ref sig .tc := ⟨.hbm, 780, rfl⟩
abbrev main_call2_call0_v28 : Ref sig .tc := ⟨.hbm, 781, rfl⟩
abbrev main_call2_call0_v29 : Ref sig .tc := ⟨.hbm, 782, rfl⟩
abbrev main_call2_call0_v30 : Ref sig .tc := ⟨.hbm, 783, rfl⟩
abbrev main_call2_call0_v31 : Ref sig .tc := ⟨.hbm, 784, rfl⟩
abbrev main_call2_call0_v32 : Ref sig .tc := ⟨.hbm, 785, rfl⟩
abbrev main_call2_v0 : Ref sig .tc := ⟨.hbm, 786, rfl⟩
abbrev main_call2_v1 : Ref sig .tc := ⟨.hbm, 787, rfl⟩
abbrev main_call2_v2 : Ref sig .tc := ⟨.hbm, 788, rfl⟩
abbrev main_call2_v3 : Ref sig .tc := ⟨.hbm, 789, rfl⟩
abbrev main_v13 : Ref sig .tc := ⟨.hbm, 790, rfl⟩
abbrev main_v14 : Ref sig .tc := ⟨.hbm, 791, rfl⟩
abbrev main_v15 : Ref sig .tc := ⟨.hbm, 792, rfl⟩
abbrev main_v16 : Ref sig .tc := ⟨.hbm, 793, rfl⟩
abbrev main_v17 : Ref sig .tc := ⟨.hbm, 794, rfl⟩
abbrev main_v18 : Ref sig .tc := ⟨.hbm, 795, rfl⟩
abbrev main_v19_0 : Ref sig .tc := ⟨.hbm, 796, rfl⟩
abbrev main_v19_1 : Ref sig .tc := ⟨.hbm, 797, rfl⟩
abbrev main_v20 : Ref sig .tc := ⟨.hbm, 798, rfl⟩
abbrev main_v21_0 : Ref sig .tc := ⟨.hbm, 799, rfl⟩
abbrev main_v21_1 : Ref sig .tc := ⟨.hbm, 800, rfl⟩
abbrev main_v22 : Ref sig .tc := ⟨.hbm, 801, rfl⟩
abbrev main_v23 : Ref sig .tc := ⟨.hbm, 802, rfl⟩
abbrev main_v24 : Ref sig .tc := ⟨.hbm, 803, rfl⟩
abbrev main_v25 : Ref sig .tc := ⟨.hbm, 804, rfl⟩
abbrev main_v26 : Ref sig .tc := ⟨.hbm, 805, rfl⟩
abbrev main_v27 : Ref sig .tc := ⟨.hbm, 806, rfl⟩
abbrev main_v28 : Ref sig .tc := ⟨.hbm, 807, rfl⟩
abbrev main_v29 : Ref sig .tc := ⟨.hbm, 808, rfl⟩
abbrev main_v30 : Ref sig .tc := ⟨.hbm, 809, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_26 : BitVec 32 := 0#32
  let c48_i32 : BitVec 32 := 48#32
  let v30 : BitVec 32 := Scalar.addi c0_i32_26 c48_i32
  let c1_i32 : BitVec 32 := 1#32
  ⟨c0_i32_26, v30, c1_i32⟩
def k0_off1 (k0_t1 : Fin k0_t1_loop.trips) (c0_i32_64 : BitVec 32) : Fin 2 → Nat :=
  let c0_65 : Index := 0#32
  let c0_i32_26 : BitVec 32 := 0#32
  let c1_i32 : BitVec 32 := 1#32
  let arg6 : BitVec 32 := Scf.iv c0_i32_26 c1_i32 k0_t1
  let c16_i32 : BitVec 32 := 16#32
  let v1084 : BitVec 32 := Scalar.muli arg6 c16_i32
  let v1085 : BitVec 32 := Scalar.addi v1084 c0_i32_64
  let c128_i32 : BitVec 32 := 128#32
  let v1086 : BitVec 32 := Scalar.muli v1085 c128_i32
  let v1087 : Index := Scalar.indexCast v1086
  ![0, v1087.toNat]
@[reducible] def k0_t2_loop : Scf.Loop 32 :=
  let c0_i32_45 : BitVec 32 := 0#32
  let c64_i32 : BitVec 32 := 64#32
  let v1050 : BitVec 32 := Scalar.addi c0_i32_45 c64_i32
  let c1_i32_46 : BitVec 32 := 1#32
  ⟨c0_i32_45, v1050, c1_i32_46⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

@[reducible] def k1_t1_loop : Scf.Loop 32 :=
  let c0_i32_26 : BitVec 32 := 0#32
  let c48_i32 : BitVec 32 := 48#32
  let v30 : BitVec 32 := Scalar.addi c0_i32_26 c48_i32
  let c1_i32 : BitVec 32 := 1#32
  ⟨c0_i32_26, v30, c1_i32⟩
def k1_off1 (k1_t1 : Fin k1_t1_loop.trips) (c0_i32_64 : BitVec 32) : Fin 2 → Nat :=
  let c0_65 : Index := 0#32
  let c0_i32_26 : BitVec 32 := 0#32
  let c1_i32 : BitVec 32 := 1#32
  let arg6 : BitVec 32 := Scf.iv c0_i32_26 c1_i32 k1_t1
  let c16_i32 : BitVec 32 := 16#32
  let v1084 : BitVec 32 := Scalar.muli arg6 c16_i32
  let v1085 : BitVec 32 := Scalar.addi v1084 c0_i32_64
  let c128_i32 : BitVec 32 := 128#32
  let v1086 : BitVec 32 := Scalar.muli v1085 c128_i32
  let v1087 : Index := Scalar.indexCast v1086
  ![0, v1087.toNat]
@[reducible] def k1_t2_loop : Scf.Loop 32 :=
  let c0_i32_45 : BitVec 32 := 0#32
  let c64_i32 : BitVec 32 := 64#32
  let v1050 : BitVec 32 := Scalar.addi c0_i32_45 c64_i32
  let c1_i32_46 : BitVec 32 := 1#32
  ⟨c0_i32_45, v1050, c1_i32_46⟩
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x100000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S_ : Shape := ⟨0, ![]⟩
abbrev S32x8x100000 : Shape := ⟨3, ![32, 8, 100000]⟩
abbrev S32x8x1 : Shape := ⟨3, ![32, 8, 1]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S32x8x64 : Shape := ⟨3, ![32, 8, 64]⟩
abbrev S256x64 : Shape := ⟨2, ![256, 64]⟩
abbrev S1x1 : Shape := ⟨2, ![1, 1]⟩
abbrev S256 : Shape := ⟨1, ![256]⟩
abbrev S32x8 : Shape := ⟨2, ![32, 8]⟩
abbrev S32x8x1x1 : Shape := ⟨4, ![32, 8, 1, 1]⟩
abbrev S1x1x1x1 : Shape := ⟨4, ![1, 1, 1, 1]⟩
abbrev S8 : Shape := ⟨1, ![8]⟩
abbrev S1x8 : Shape := ⟨2, ![1, 8]⟩
abbrev S1x1x1x8 : Shape := ⟨4, ![1, 1, 1, 8]⟩
abbrev S32x1x1x8 : Shape := ⟨4, ![32, 1, 1, 8]⟩
abbrev S1x1x1 : Shape := ⟨3, ![1, 1, 1]⟩

abbrev nBuf : Space → Nat
  | .hbm => 1025
  | .vmem => 0
  | .smem => 0
  | _ => 0

abbrev hbmTy0_0 (i : Nat) : BufTy := match i % 128 with
  | 0 => ⟨S_, .i32⟩
  | 1 => ⟨S32x8x100000, .f32⟩
  | 2 => ⟨S32x8x100000, .f32⟩
  | 3 => ⟨S32x8x1, .f32⟩
  | 4 => ⟨S32x8x1, .f32⟩
  | 5 => ⟨S_, .i32⟩
  | 6 => ⟨S_, .i32⟩
  | 7 => ⟨S_, .i32⟩
  | 8 => ⟨S_, .i32⟩
  | 9 => ⟨S1, .i32⟩
  | 10 => ⟨S_, .i32⟩
  | 11 => ⟨S_, .i32⟩
  | 12 => ⟨S_, .i32⟩
  | 13 => ⟨S1, .i32⟩
  | 14 => ⟨S2, .i32⟩
  | 15 => ⟨S1, .i32⟩
  | 16 => ⟨S_, .i32⟩
  | 17 => ⟨S1, .i32⟩
  | 18 => ⟨S_, .i32⟩
  | 19 => ⟨S2, .i64⟩
  | 20 => ⟨S_, .i64⟩
  | 21 => ⟨S2, .i64⟩
  | 22 => ⟨S2, .i64⟩
  | 23 => ⟨S_, .i64⟩
  | 24 => ⟨S2, .i64⟩
  | 25 => ⟨S2, .i64⟩
  | 26 => ⟨S2, .i32⟩
  | 27 => ⟨S2, .i32⟩
  | 28 => ⟨S_, .i32⟩
  | 29 => ⟨S_, .i32⟩
  | 30 => ⟨S_, .i32⟩
  | 31 => ⟨S2, .i32⟩
  | 32 => ⟨S2, .i32⟩
  | 33 => ⟨S2, .i32⟩
  | 34 => ⟨S2, .i32⟩
  | 35 => ⟨S2, .i32⟩
  | 36 => ⟨S_, .i32⟩
  | 37 => ⟨S2, .i32⟩
  | 38 => ⟨S2, .i32⟩
  | 39 => ⟨S_, .i32⟩
  | 40 => ⟨S2, .i32⟩
  | 41 => ⟨S2, .i32⟩
  | 42 => ⟨S2, .i32⟩
  | 43 => ⟨S2, .i32⟩
  | 44 => ⟨S2, .i32⟩
  | 45 => ⟨S_, .i32⟩
  | 46 => ⟨S2, .i32⟩
  | 47 => ⟨S2, .i32⟩
  | 48 => ⟨S_, .i32⟩
  | 49 => ⟨S2, .i32⟩
  | 50 => ⟨S2, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S_, .i32⟩
  | 58 => ⟨S2, .i32⟩
  | 59 => ⟨S2, .i32⟩
  | 60 => ⟨S2, .i32⟩
  | 61 => ⟨S2, .i32⟩
  | 62 => ⟨S2, .i32⟩
  | 63 => ⟨S_, .i32⟩
  | 64 => ⟨S2, .i32⟩
  | 65 => ⟨S2, .i32⟩
  | 66 => ⟨S_, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S2, .i32⟩
  | 79 => ⟨S_, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S2, .i32⟩
  | 87 => ⟨S2, .i32⟩
  | 88 => ⟨S_, .i32⟩
  | 89 => ⟨S2, .i32⟩
  | 90 => ⟨S2, .i32⟩
  | 91 => ⟨S_, .i32⟩
  | 92 => ⟨S2, .i32⟩
  | 93 => ⟨S2, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S_, .i32⟩
  | 101 => ⟨S2, .i32⟩
  | 102 => ⟨S2, .i32⟩
  | 103 => ⟨S2, .i32⟩
  | 104 => ⟨S2, .i32⟩
  | 105 => ⟨S2, .i32⟩
  | 106 => ⟨S_, .i32⟩
  | 107 => ⟨S2, .i32⟩
  | 108 => ⟨S2, .i32⟩
  | 109 => ⟨S_, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S2, .i32⟩
  | 122 => ⟨S_, .i32⟩
  | 123 => ⟨S2, .i32⟩
  | 124 => ⟨S2, .i32⟩
  | 125 => ⟨S_, .i32⟩
  | 126 => ⟨S2, .i32⟩
  | 127 => ⟨S2, .i32⟩
  | _ => ⟨S_, .i32⟩

abbrev hbmTy0_1 (i : Nat) : BufTy := match i % 128 with
  | 0 => ⟨S2, .i32⟩
  | 1 => ⟨S2, .i32⟩
  | 2 => ⟨S2, .i32⟩
  | 3 => ⟨S_, .i32⟩
  | 4 => ⟨S2, .i32⟩
  | 5 => ⟨S2, .i32⟩
  | 6 => ⟨S_, .i32⟩
  | 7 => ⟨S2, .i32⟩
  | 8 => ⟨S2, .i32⟩
  | 9 => ⟨S2, .i32⟩
  | 10 => ⟨S2, .i32⟩
  | 11 => ⟨S2, .i32⟩
  | 12 => ⟨S_, .i32⟩
  | 13 => ⟨S2, .i32⟩
  | 14 => ⟨S2, .i32⟩
  | 15 => ⟨S_, .i32⟩
  | 16 => ⟨S2, .i32⟩
  | 17 => ⟨S2, .i32⟩
  | 18 => ⟨S2, .i32⟩
  | 19 => ⟨S2, .i32⟩
  | 20 => ⟨S2, .i32⟩
  | 21 => ⟨S_, .i32⟩
  | 22 => ⟨S2, .i32⟩
  | 23 => ⟨S2, .i32⟩
  | 24 => ⟨S_, .i32⟩
  | 25 => ⟨S2, .i32⟩
  | 26 => ⟨S2, .i32⟩
  | 27 => ⟨S2, .i32⟩
  | 28 => ⟨S2, .i32⟩
  | 29 => ⟨S2, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S2, .i32⟩
  | 37 => ⟨S_, .i32⟩
  | 38 => ⟨S2, .i32⟩
  | 39 => ⟨S2, .i32⟩
  | 40 => ⟨S_, .i32⟩
  | 41 => ⟨S2, .i32⟩
  | 42 => ⟨S2, .i32⟩
  | 43 => ⟨S2, .i32⟩
  | 44 => ⟨S2, .i32⟩
  | 45 => ⟨S2, .i32⟩
  | 46 => ⟨S_, .i32⟩
  | 47 => ⟨S2, .i32⟩
  | 48 => ⟨S2, .i32⟩
  | 49 => ⟨S_, .i32⟩
  | 50 => ⟨S2, .i32⟩
  | 51 => ⟨S2, .i32⟩
  | 52 => ⟨S2, .i32⟩
  | 53 => ⟨S2, .i32⟩
  | 54 => ⟨S2, .i32⟩
  | 55 => ⟨S_, .i32⟩
  | 56 => ⟨S2, .i32⟩
  | 57 => ⟨S2, .i32⟩
  | 58 => ⟨S_, .i32⟩
  | 59 => ⟨S2, .i32⟩
  | 60 => ⟨S2, .i32⟩
  | 61 => ⟨S2, .i32⟩
  | 62 => ⟨S2, .i32⟩
  | 63 => ⟨S2, .i32⟩
  | 64 => ⟨S_, .i32⟩
  | 65 => ⟨S2, .i32⟩
  | 66 => ⟨S2, .i32⟩
  | 67 => ⟨S_, .i32⟩
  | 68 => ⟨S2, .i32⟩
  | 69 => ⟨S2, .i32⟩
  | 70 => ⟨S2, .i32⟩
  | 71 => ⟨S2, .i32⟩
  | 72 => ⟨S2, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S2, .i32⟩
  | 80 => ⟨S_, .i32⟩
  | 81 => ⟨S2, .i32⟩
  | 82 => ⟨S2, .i32⟩
  | 83 => ⟨S_, .i32⟩
  | 84 => ⟨S2, .i32⟩
  | 85 => ⟨S2, .i32⟩
  | 86 => ⟨S2, .i32⟩
  | 87 => ⟨S2, .i32⟩
  | 88 => ⟨S2, .i32⟩
  | 89 => ⟨S_, .i32⟩
  | 90 => ⟨S2, .i32⟩
  | 91 => ⟨S2, .i32⟩
  | 92 => ⟨S_, .i32⟩
  | 93 => ⟨S2, .i32⟩
  | 94 => ⟨S2, .i32⟩
  | 95 => ⟨S2, .i32⟩
  | 96 => ⟨S2, .i32⟩
  | 97 => ⟨S2, .i32⟩
  | 98 => ⟨S_, .i32⟩
  | 99 => ⟨S2, .i32⟩
  | 100 => ⟨S2, .i32⟩
  | 101 => ⟨S_, .i32⟩
  | 102 => ⟨S2, .i32⟩
  | 103 => ⟨S2, .i32⟩
  | 104 => ⟨S2, .i32⟩
  | 105 => ⟨S2, .i32⟩
  | 106 => ⟨S2, .i32⟩
  | 107 => ⟨S_, .i32⟩
  | 108 => ⟨S2, .i32⟩
  | 109 => ⟨S2, .i32⟩
  | 110 => ⟨S_, .i32⟩
  | 111 => ⟨S2, .i32⟩
  | 112 => ⟨S2, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S_, .i32⟩
  | 120 => ⟨S2, .i32⟩
  | 121 => ⟨S2, .i32⟩
  | 122 => ⟨S2x1, .i32⟩
  | 123 => ⟨S2x1, .i32⟩
  | 124 => ⟨S2x2, .i32⟩
  | 125 => ⟨S1x2, .i32⟩
  | 126 => ⟨S2, .i32⟩
  | 127 => ⟨S1x2, .i32⟩
  | _ => ⟨S_, .i32⟩

abbrev hbmTy0_2 (i : Nat) : BufTy := match i % 128 with
  | 0 => ⟨S2, .i32⟩
  | 1 => ⟨S32x8x64, .f32⟩
  | 2 => ⟨S32x8x64, .i32⟩
  | 3 => ⟨S32x8x64, .f32⟩
  | 4 => ⟨S256x64, .f32⟩
  | 5 => ⟨S_, .f32⟩
  | 6 => ⟨S256x64, .f32⟩
  | 7 => ⟨S256x64, .f32⟩
  | 8 => ⟨S256x64, .f32⟩
  | 9 => ⟨S_, .f32⟩
  | 10 => ⟨S_, .f32⟩
  | 11 => ⟨S_, .f32⟩
  | 12 => ⟨S1x1, .f32⟩
  | 13 => ⟨S1x1, .f32⟩
  | 14 => ⟨S1, .i32⟩
  | 15 => ⟨S_, .i32⟩
  | 16 => ⟨S1, .i32⟩
  | 17 => ⟨S_, .i32⟩
  | 18 => ⟨S256x64, .i64⟩
  | 19 => ⟨S256x64, .i64⟩
  | 20 => ⟨S_, .i64⟩
  | 21 => ⟨S256x64, .i64⟩
  | 22 => ⟨S256x64, .i64⟩
  | 23 => ⟨S_, .i64⟩
  | 24 => ⟨S256x64, .i64⟩
  | 25 => ⟨S256x64, .i64⟩
  | 26 => ⟨S256x64, .i64⟩
  | 27 => ⟨S_, .i64⟩
  | 28 => ⟨S256x64, .i64⟩
  | 29 => ⟨S256x64, .i64⟩
  | 30 => ⟨S256x64, .i32⟩
  | 31 => ⟨S256x64, .i32⟩
  | 32 => ⟨S_, .i32⟩
  | 33 => ⟨S_, .i32⟩
  | 34 => ⟨S_, .i32⟩
  | 35 => ⟨S256x64, .i32⟩
  | 36 => ⟨S256x64, .i32⟩
  | 37 => ⟨S256x64, .i32⟩
  | 38 => ⟨S256x64, .i32⟩
  | 39 => ⟨S256x64, .i32⟩
  | 40 => ⟨S_, .i32⟩
  | 41 => ⟨S256x64, .i32⟩
  | 42 => ⟨S256x64, .i32⟩
  | 43 => ⟨S_, .i32⟩
  | 44 => ⟨S256x64, .i32⟩
  | 45 => ⟨S256x64, .i32⟩
  | 46 => ⟨S256x64, .i32⟩
  | 47 => ⟨S256x64, .i32⟩
  | 48 => ⟨S256x64, .i32⟩
  | 49 => ⟨S_, .i32⟩
  | 50 => ⟨S256x64, .i32⟩
  | 51 => ⟨S256x64, .i32⟩
  | 52 => ⟨S_, .i32⟩
  | 53 => ⟨S256x64, .i32⟩
  | 54 => ⟨S256x64, .i32⟩
  | 55 => ⟨S256x64, .i32⟩
  | 56 => ⟨S256x64, .i32⟩
  | 57 => ⟨S256x64, .i32⟩
  | 58 => ⟨S_, .i32⟩
  | 59 => ⟨S256x64, .i32⟩
  | 60 => ⟨S256x64, .i32⟩
  | 61 => ⟨S_, .i32⟩
  | 62 => ⟨S256x64, .i32⟩
  | 63 => ⟨S256x64, .i32⟩
  | 64 => ⟨S256x64, .i32⟩
  | 65 => ⟨S256x64, .i32⟩
  | 66 => ⟨S256x64, .i32⟩
  | 67 => ⟨S_, .i32⟩
  | 68 => ⟨S256x64, .i32⟩
  | 69 => ⟨S256x64, .i32⟩
  | 70 => ⟨S_, .i32⟩
  | 71 => ⟨S256x64, .i32⟩
  | 72 => ⟨S256x64, .i32⟩
  | 73 => ⟨S256x64, .i32⟩
  | 74 => ⟨S256x64, .i32⟩
  | 75 => ⟨S256x64, .i32⟩
  | 76 => ⟨S256x64, .i32⟩
  | 77 => ⟨S256x64, .i32⟩
  | 78 => ⟨S256x64, .i32⟩
  | 79 => ⟨S_, .i32⟩
  | 80 => ⟨S256x64, .i32⟩
  | 81 => ⟨S256x64, .i32⟩
  | 82 => ⟨S256x64, .i32⟩
  | 83 => ⟨S_, .i32⟩
  | 84 => ⟨S256x64, .i32⟩
  | 85 => ⟨S256x64, .i32⟩
  | 86 => ⟨S_, .i32⟩
  | 87 => ⟨S256x64, .i32⟩
  | 88 => ⟨S256x64, .i32⟩
  | 89 => ⟨S256x64, .i32⟩
  | 90 => ⟨S256x64, .i32⟩
  | 91 => ⟨S256x64, .i32⟩
  | 92 => ⟨S_, .i32⟩
  | 93 => ⟨S256x64, .i32⟩
  | 94 => ⟨S256x64, .i32⟩
  | 95 => ⟨S_, .i32⟩
  | 96 => ⟨S256x64, .i32⟩
  | 97 => ⟨S256x64, .i32⟩
  | 98 => ⟨S256x64, .i32⟩
  | 99 => ⟨S256x64, .i32⟩
  | 100 => ⟨S256x64, .i32⟩
  | 101 => ⟨S_, .i32⟩
  | 102 => ⟨S256x64, .i32⟩
  | 103 => ⟨S256x64, .i32⟩
  | 104 => ⟨S_, .i32⟩
  | 105 => ⟨S256x64, .i32⟩
  | 106 => ⟨S256x64, .i32⟩
  | 107 => ⟨S256x64, .i32⟩
  | 108 => ⟨S256x64, .i32⟩
  | 109 => ⟨S256x64, .i32⟩
  | 110 => ⟨S_, .i32⟩
  | 111 => ⟨S256x64, .i32⟩
  | 112 => ⟨S256x64, .i32⟩
  | 113 => ⟨S_, .i32⟩
  | 114 => ⟨S256x64, .i32⟩
  | 115 => ⟨S256x64, .i32⟩
  | 116 => ⟨S256x64, .i32⟩
  | 117 => ⟨S256x64, .i32⟩
  | 118 => ⟨S256x64, .i32⟩
  | 119 => ⟨S256x64, .i32⟩
  | 120 => ⟨S256x64, .i32⟩
  | 121 => ⟨S256x64, .i32⟩
  | 122 => ⟨S_, .i32⟩
  | 123 => ⟨S256x64, .i32⟩
  | 124 => ⟨S256x64, .i32⟩
  | 125 => ⟨S256x64, .i32⟩
  | 126 => ⟨S_, .i32⟩
  | 127 => ⟨S256x64, .i32⟩
  | _ => ⟨S_, .i32⟩

abbrev hbmTy0_3 (i : Nat) : BufTy := match i % 128 with
  | 0 => ⟨S256x64, .i32⟩
  | 1 => ⟨S_, .i32⟩
  | 2 => ⟨S256x64, .i32⟩
  | 3 => ⟨S256x64, .i32⟩
  | 4 => ⟨S256x64, .i32⟩
  | 5 => ⟨S256x64, .i32⟩
  | 6 => ⟨S256x64, .i32⟩
  | 7 => ⟨S_, .i32⟩
  | 8 => ⟨S256x64, .i32⟩
  | 9 => ⟨S256x64, .i32⟩
  | 10 => ⟨S_, .i32⟩
  | 11 => ⟨S256x64, .i32⟩
  | 12 => ⟨S256x64, .i32⟩
  | 13 => ⟨S256x64, .i32⟩
  | 14 => ⟨S256x64, .i32⟩
  | 15 => ⟨S256x64, .i32⟩
  | 16 => ⟨S_, .i32⟩
  | 17 => ⟨S256x64, .i32⟩
  | 18 => ⟨S256x64, .i32⟩
  | 19 => ⟨S_, .i32⟩
  | 20 => ⟨S256x64, .i32⟩
  | 21 => ⟨S256x64, .i32⟩
  | 22 => ⟨S256x64, .i32⟩
  | 23 => ⟨S256x64, .i32⟩
  | 24 => ⟨S256x64, .i32⟩
  | 25 => ⟨S_, .i32⟩
  | 26 => ⟨S256x64, .i32⟩
  | 27 => ⟨S256x64, .i32⟩
  | 28 => ⟨S_, .i32⟩
  | 29 => ⟨S256x64, .i32⟩
  | 30 => ⟨S256x64, .i32⟩
  | 31 => ⟨S256x64, .i32⟩
  | 32 => ⟨S256x64, .i32⟩
  | 33 => ⟨S256x64, .i32⟩
  | 34 => ⟨S256x64, .i32⟩
  | 35 => ⟨S256x64, .i32⟩
  | 36 => ⟨S256x64, .i32⟩
  | 37 => ⟨S_, .i32⟩
  | 38 => ⟨S256x64, .i32⟩
  | 39 => ⟨S256x64, .i32⟩
  | 40 => ⟨S256x64, .i32⟩
  | 41 => ⟨S_, .i32⟩
  | 42 => ⟨S256x64, .i32⟩
  | 43 => ⟨S256x64, .i32⟩
  | 44 => ⟨S_, .i32⟩
  | 45 => ⟨S256x64, .i32⟩
  | 46 => ⟨S256x64, .i32⟩
  | 47 => ⟨S256x64, .i32⟩
  | 48 => ⟨S256x64, .i32⟩
  | 49 => ⟨S256x64, .i32⟩
  | 50 => ⟨S_, .i32⟩
  | 51 => ⟨S256x64, .i32⟩
  | 52 => ⟨S256x64, .i32⟩
  | 53 => ⟨S_, .i32⟩
  | 54 => ⟨S256x64, .i32⟩
  | 55 => ⟨S256x64, .i32⟩
  | 56 => ⟨S256x64, .i32⟩
  | 57 => ⟨S256x64, .i32⟩
  | 58 => ⟨S256x64, .i32⟩
  | 59 => ⟨S_, .i32⟩
  | 60 => ⟨S256x64, .i32⟩
  | 61 => ⟨S256x64, .i32⟩
  | 62 => ⟨S_, .i32⟩
  | 63 => ⟨S256x64, .i32⟩
  | 64 => ⟨S256x64, .i32⟩
  | 65 => ⟨S256x64, .i32⟩
  | 66 => ⟨S256x64, .i32⟩
  | 67 => ⟨S256x64, .i32⟩
  | 68 => ⟨S_, .i32⟩
  | 69 => ⟨S256x64, .i32⟩
  | 70 => ⟨S256x64, .i32⟩
  | 71 => ⟨S_, .i32⟩
  | 72 => ⟨S256x64, .i32⟩
  | 73 => ⟨S256x64, .i32⟩
  | 74 => ⟨S256x64, .i32⟩
  | 75 => ⟨S256x64, .i32⟩
  | 76 => ⟨S256x64, .i32⟩
  | 77 => ⟨S256x64, .i32⟩
  | 78 => ⟨S256x64, .i32⟩
  | 79 => ⟨S256x64, .i32⟩
  | 80 => ⟨S_, .i32⟩
  | 81 => ⟨S256x64, .i32⟩
  | 82 => ⟨S256x64, .i32⟩
  | 83 => ⟨S256x64, .i32⟩
  | 84 => ⟨S_, .i32⟩
  | 85 => ⟨S256x64, .i32⟩
  | 86 => ⟨S256x64, .i32⟩
  | 87 => ⟨S_, .i32⟩
  | 88 => ⟨S256x64, .i32⟩
  | 89 => ⟨S256x64, .i32⟩
  | 90 => ⟨S256x64, .i32⟩
  | 91 => ⟨S256x64, .i32⟩
  | 92 => ⟨S256x64, .i32⟩
  | 93 => ⟨S_, .i32⟩
  | 94 => ⟨S256x64, .i32⟩
  | 95 => ⟨S256x64, .i32⟩
  | 96 => ⟨S_, .i32⟩
  | 97 => ⟨S256x64, .i32⟩
  | 98 => ⟨S256x64, .i32⟩
  | 99 => ⟨S256x64, .i32⟩
  | 100 => ⟨S256x64, .i32⟩
  | 101 => ⟨S256x64, .i32⟩
  | 102 => ⟨S_, .i32⟩
  | 103 => ⟨S256x64, .i32⟩
  | 104 => ⟨S256x64, .i32⟩
  | 105 => ⟨S_, .i32⟩
  | 106 => ⟨S256x64, .i32⟩
  | 107 => ⟨S256x64, .i32⟩
  | 108 => ⟨S256x64, .i32⟩
  | 109 => ⟨S256x64, .i32⟩
  | 110 => ⟨S256x64, .i32⟩
  | 111 => ⟨S_, .i32⟩
  | 112 => ⟨S256x64, .i32⟩
  | 113 => ⟨S256x64, .i32⟩
  | 114 => ⟨S_, .i32⟩
  | 115 => ⟨S256x64, .i32⟩
  | 116 => ⟨S256x64, .i32⟩
  | 117 => ⟨S256x64, .i32⟩
  | 118 => ⟨S256x64, .i32⟩
  | 119 => ⟨S256x64, .i32⟩
  | 120 => ⟨S256x64, .i32⟩
  | 121 => ⟨S256x64, .i32⟩
  | 122 => ⟨S256x64, .i32⟩
  | 123 => ⟨S_, .i32⟩
  | 124 => ⟨S256x64, .i32⟩
  | 125 => ⟨S256x64, .i32⟩
  | 126 => ⟨S256x64, .i32⟩
  | 127 => ⟨S_, .i32⟩
  | _ => ⟨S_, .i32⟩

abbrev hbmTy0_4 (i : Nat) : BufTy := match i % 128 with
  | 0 => ⟨S256x64, .i32⟩
  | 1 => ⟨S256x64, .i32⟩
  | 2 => ⟨S_, .i32⟩
  | 3 => ⟨S256x64, .i32⟩
  | 4 => ⟨S256x64, .i32⟩
  | 5 => ⟨S256x64, .f32⟩
  | 6 => ⟨S_, .f32⟩
  | 7 => ⟨S256x64, .f32⟩
  | 8 => ⟨S256x64, .f32⟩
  | 9 => ⟨S1x1, .f32⟩
  | 10 => ⟨S256x64, .f32⟩
  | 11 => ⟨S256x64, .f32⟩
  | 12 => ⟨S256x64, .f32⟩
  | 13 => ⟨S256x64, .f32⟩
  | 14 => ⟨S256x64, .f32⟩
  | 15 => ⟨S256x64, .f32⟩
  | 16 => ⟨S256x64, .f32⟩
  | 17 => ⟨S256x64, .f32⟩
  | 18 => ⟨S256x64, .f32⟩
  | 19 => ⟨S256x64, .f32⟩
  | 20 => ⟨S256x64, .f32⟩
  | 21 => ⟨S256x64, .i32⟩
  | 22 => ⟨S_, .f32⟩
  | 23 => ⟨S_, .i32⟩
  | 24 => ⟨S256, .f32⟩
  | 25 => ⟨S256, .i32⟩
  | 26 => ⟨S32x8, .i32⟩
  | 27 => ⟨S32x8x1, .i32⟩
  | 28 => ⟨S_, .i32⟩
  | 29 => ⟨S32x8x1, .i32⟩
  | 30 => ⟨S32x8x1, .i1⟩
  | 31 => ⟨S_, .i32⟩
  | 32 => ⟨S32x8x1, .i32⟩
  | 33 => ⟨S32x8x1, .i32⟩
  | 34 => ⟨S32x8x1, .i32⟩
  | 35 => ⟨S32x8x1x1, .i32⟩
  | 36 => ⟨S1, .i32⟩
  | 37 => ⟨S_, .i32⟩
  | 38 => ⟨S32x8x1x1, .i32⟩
  | 39 => ⟨S32x8x1x1, .i1⟩
  | 40 => ⟨S1x1x1x1, .i32⟩
  | 41 => ⟨S32x8x1x1, .i32⟩
  | 42 => ⟨S32x8x1x1, .i1⟩
  | 43 => ⟨S32x8x1x1, .i1⟩
  | 44 => ⟨S_, .i1⟩
  | 45 => ⟨S32x8x1, .i1⟩
  | 46 => ⟨S32x8x1, .f32⟩
  | 47 => ⟨S_, .f32⟩
  | 48 => ⟨S32x8x1, .f32⟩
  | 49 => ⟨S32x8x1, .f32⟩
  | 50 => ⟨S32x8x1, .f32⟩
  | 51 => ⟨S32x8, .f32⟩
  | 52 => ⟨S32x8x1, .i32⟩
  | 53 => ⟨S_, .i32⟩
  | 54 => ⟨S32x8x1, .i32⟩
  | 55 => ⟨S32x8x1, .i1⟩
  | 56 => ⟨S_, .i32⟩
  | 57 => ⟨S32x8x1, .i32⟩
  | 58 => ⟨S32x8x1, .i32⟩
  | 59 => ⟨S32x8x1, .i32⟩
  | 60 => ⟨S32x8x1x1, .i32⟩
  | 61 => ⟨S1, .i32⟩
  | 62 => ⟨S_, .i32⟩
  | 63 => ⟨S32x8x1x1, .i32⟩
  | 64 => ⟨S32x8x1x1, .i1⟩
  | 65 => ⟨S1x1x1x1, .i32⟩
  | 66 => ⟨S32x8x1x1, .i32⟩
  | 67 => ⟨S32x8x1x1, .i1⟩
  | 68 => ⟨S32x8x1x1, .i1⟩
  | 69 => ⟨S_, .i1⟩
  | 70 => ⟨S32x8x1, .i1⟩
  | 71 => ⟨S32x8x1, .i32⟩
  | 72 => ⟨S_, .i32⟩
  | 73 => ⟨S32x8x1, .i32⟩
  | 74 => ⟨S32x8x1, .i32⟩
  | 75 => ⟨S32x8, .i32⟩
  | 76 => ⟨S8, .i32⟩
  | 77 => ⟨S1x8, .i32⟩
  | 78 => ⟨S1x1x1x8, .i32⟩
  | 79 => ⟨S32x1x1x8, .i32⟩
  | 80 => ⟨S32x8, .i32⟩
  | 81 => ⟨S_, .i32⟩
  | 82 => ⟨S_, .i32⟩
  | 83 => ⟨S_, .i32⟩
  | 84 => ⟨S_, .i32⟩
  | 85 => ⟨S_, .i1⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S_, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S_, .i32⟩
  | 104 => ⟨S32x8x1, .f32⟩
  | 105 => ⟨S32x8, .f32⟩
  | 106 => ⟨S_, .i32⟩
  | 107 => ⟨S32x8, .i32⟩
  | 108 => ⟨S32x8, .i1⟩
  | 109 => ⟨S_, .i32⟩
  | 110 => ⟨S32x8, .i32⟩
  | 111 => ⟨S32x8, .i32⟩
  | 112 => ⟨S32x8, .i32⟩
  | 113 => ⟨S32x8x1, .i32⟩
  | 114 => ⟨S1, .i32⟩
  | 115 => ⟨S_, .i32⟩
  | 116 => ⟨S32x8x1, .i32⟩
  | 117 => ⟨S32x8x1, .i1⟩
  | 118 => ⟨S1x1x1, .i32⟩
  | 119 => ⟨S32x8x1, .i32⟩
  | 120 => ⟨S32x8x1, .i1⟩
  | 121 => ⟨S32x8x1, .i1⟩
  | 122 => ⟨S_, .i1⟩
  | 123 => ⟨S32x8, .i1⟩
  | 124 => ⟨S32x8, .f32⟩
  | 125 => ⟨S_, .f32⟩
  | 126 => ⟨S32x8, .f32⟩
  | 127 => ⟨S32x8, .f32⟩
  | _ => ⟨S_, .i32⟩

abbrev hbmTy0_5 (i : Nat) : BufTy := match i % 128 with
  | 0 => ⟨S32x8, .f32⟩
  | 1 => ⟨S32x8x64, .f32⟩
  | 2 => ⟨S32x8x64, .i32⟩
  | 3 => ⟨S32x8x64, .f32⟩
  | 4 => ⟨S256x64, .f32⟩
  | 5 => ⟨S_, .f32⟩
  | 6 => ⟨S256x64, .f32⟩
  | 7 => ⟨S256x64, .f32⟩
  | 8 => ⟨S256x64, .f32⟩
  | 9 => ⟨S_, .f32⟩
  | 10 => ⟨S_, .f32⟩
  | 11 => ⟨S_, .f32⟩
  | 12 => ⟨S1x1, .f32⟩
  | 13 => ⟨S1x1, .f32⟩
  | 14 => ⟨S1, .i32⟩
  | 15 => ⟨S_, .i32⟩
  | 16 => ⟨S1, .i32⟩
  | 17 => ⟨S_, .i32⟩
  | 18 => ⟨S256x64, .i64⟩
  | 19 => ⟨S256x64, .i64⟩
  | 20 => ⟨S_, .i64⟩
  | 21 => ⟨S256x64, .i64⟩
  | 22 => ⟨S256x64, .i64⟩
  | 23 => ⟨S_, .i64⟩
  | 24 => ⟨S256x64, .i64⟩
  | 25 => ⟨S256x64, .i64⟩
  | 26 => ⟨S256x64, .i64⟩
  | 27 => ⟨S_, .i64⟩
  | 28 => ⟨S256x64, .i64⟩
  | 29 => ⟨S256x64, .i64⟩
  | 30 => ⟨S256x64, .i32⟩
  | 31 => ⟨S256x64, .i32⟩
  | 32 => ⟨S_, .i32⟩
  | 33 => ⟨S_, .i32⟩
  | 34 => ⟨S_, .i32⟩
  | 35 => ⟨S256x64, .i32⟩
  | 36 => ⟨S256x64, .i32⟩
  | 37 => ⟨S256x64, .i32⟩
  | 38 => ⟨S256x64, .i32⟩
  | 39 => ⟨S256x64, .i32⟩
  | 40 => ⟨S_, .i32⟩
  | 41 => ⟨S256x64, .i32⟩
  | 42 => ⟨S256x64, .i32⟩
  | 43 => ⟨S_, .i32⟩
  | 44 => ⟨S256x64, .i32⟩
  | 45 => ⟨S256x64, .i32⟩
  | 46 => ⟨S256x64, .i32⟩
  | 47 => ⟨S256x64, .i32⟩
  | 48 => ⟨S256x64, .i32⟩
  | 49 => ⟨S_, .i32⟩
  | 50 => ⟨S256x64, .i32⟩
  | 51 => ⟨S256x64, .i32⟩
  | 52 => ⟨S_, .i32⟩
  | 53 => ⟨S256x64, .i32⟩
  | 54 => ⟨S256x64, .i32⟩
  | 55 => ⟨S256x64, .i32⟩
  | 56 => ⟨S256x64, .i32⟩
  | 57 => ⟨S256x64, .i32⟩
  | 58 => ⟨S_, .i32⟩
  | 59 => ⟨S256x64, .i32⟩
  | 60 => ⟨S256x64, .i32⟩
  | 61 => ⟨S_, .i32⟩
  | 62 => ⟨S256x64, .i32⟩
  | 63 => ⟨S256x64, .i32⟩
  | 64 => ⟨S256x64, .i32⟩
  | 65 => ⟨S256x64, .i32⟩
  | 66 => ⟨S256x64, .i32⟩
  | 67 => ⟨S_, .i32⟩
  | 68 => ⟨S256x64, .i32⟩
  | 69 => ⟨S256x64, .i32⟩
  | 70 => ⟨S_, .i32⟩
  | 71 => ⟨S256x64, .i32⟩
  | 72 => ⟨S256x64, .i32⟩
  | 73 => ⟨S256x64, .i32⟩
  | 74 => ⟨S256x64, .i32⟩
  | 75 => ⟨S256x64, .i32⟩
  | 76 => ⟨S256x64, .i32⟩
  | 77 => ⟨S256x64, .i32⟩
  | 78 => ⟨S256x64, .i32⟩
  | 79 => ⟨S_, .i32⟩
  | 80 => ⟨S256x64, .i32⟩
  | 81 => ⟨S256x64, .i32⟩
  | 82 => ⟨S256x64, .i32⟩
  | 83 => ⟨S_, .i32⟩
  | 84 => ⟨S256x64, .i32⟩
  | 85 => ⟨S256x64, .i32⟩
  | 86 => ⟨S_, .i32⟩
  | 87 => ⟨S256x64, .i32⟩
  | 88 => ⟨S256x64, .i32⟩
  | 89 => ⟨S256x64, .i32⟩
  | 90 => ⟨S256x64, .i32⟩
  | 91 => ⟨S256x64, .i32⟩
  | 92 => ⟨S_, .i32⟩
  | 93 => ⟨S256x64, .i32⟩
  | 94 => ⟨S256x64, .i32⟩
  | 95 => ⟨S_, .i32⟩
  | 96 => ⟨S256x64, .i32⟩
  | 97 => ⟨S256x64, .i32⟩
  | 98 => ⟨S256x64, .i32⟩
  | 99 => ⟨S256x64, .i32⟩
  | 100 => ⟨S256x64, .i32⟩
  | 101 => ⟨S_, .i32⟩
  | 102 => ⟨S256x64, .i32⟩
  | 103 => ⟨S256x64, .i32⟩
  | 104 => ⟨S_, .i32⟩
  | 105 => ⟨S256x64, .i32⟩
  | 106 => ⟨S256x64, .i32⟩
  | 107 => ⟨S256x64, .i32⟩
  | 108 => ⟨S256x64, .i32⟩
  | 109 => ⟨S256x64, .i32⟩
  | 110 => ⟨S_, .i32⟩
  | 111 => ⟨S256x64, .i32⟩
  | 112 => ⟨S256x64, .i32⟩
  | 113 => ⟨S_, .i32⟩
  | 114 => ⟨S256x64, .i32⟩
  | 115 => ⟨S256x64, .i32⟩
  | 116 => ⟨S256x64, .i32⟩
  | 117 => ⟨S256x64, .i32⟩
  | 118 => ⟨S256x64, .i32⟩
  | 119 => ⟨S256x64, .i32⟩
  | 120 => ⟨S256x64, .i32⟩
  | 121 => ⟨S256x64, .i32⟩
  | 122 => ⟨S_, .i32⟩
  | 123 => ⟨S256x64, .i32⟩
  | 124 => ⟨S256x64, .i32⟩
  | 125 => ⟨S256x64, .i32⟩
  | 126 => ⟨S_, .i32⟩
  | 127 => ⟨S256x64, .i32⟩
  | _ => ⟨S_, .i32⟩

abbrev hbmTy0_6 (i : Nat) : BufTy := match i % 128 with
  | 0 => ⟨S256x64, .i32⟩
  | 1 => ⟨S_, .i32⟩
  | 2 => ⟨S256x64, .i32⟩
  | 3 => ⟨S256x64, .i32⟩
  | 4 => ⟨S256x64, .i32⟩
  | 5 => ⟨S256x64, .i32⟩
  | 6 => ⟨S256x64, .i32⟩
  | 7 => ⟨S_, .i32⟩
  | 8 => ⟨S256x64, .i32⟩
  | 9 => ⟨S256x64, .i32⟩
  | 10 => ⟨S_, .i32⟩
  | 11 => ⟨S256x64, .i32⟩
  | 12 => ⟨S256x64, .i32⟩
  | 13 => ⟨S256x64, .i32⟩
  | 14 => ⟨S256x64, .i32⟩
  | 15 => ⟨S256x64, .i32⟩
  | 16 => ⟨S_, .i32⟩
  | 17 => ⟨S256x64, .i32⟩
  | 18 => ⟨S256x64, .i32⟩
  | 19 => ⟨S_, .i32⟩
  | 20 => ⟨S256x64, .i32⟩
  | 21 => ⟨S256x64, .i32⟩
  | 22 => ⟨S256x64, .i32⟩
  | 23 => ⟨S256x64, .i32⟩
  | 24 => ⟨S256x64, .i32⟩
  | 25 => ⟨S_, .i32⟩
  | 26 => ⟨S256x64, .i32⟩
  | 27 => ⟨S256x64, .i32⟩
  | 28 => ⟨S_, .i32⟩
  | 29 => ⟨S256x64, .i32⟩
  | 30 => ⟨S256x64, .i32⟩
  | 31 => ⟨S256x64, .i32⟩
  | 32 => ⟨S256x64, .i32⟩
  | 33 => ⟨S256x64, .i32⟩
  | 34 => ⟨S256x64, .i32⟩
  | 35 => ⟨S256x64, .i32⟩
  | 36 => ⟨S256x64, .i32⟩
  | 37 => ⟨S_, .i32⟩
  | 38 => ⟨S256x64, .i32⟩
  | 39 => ⟨S256x64, .i32⟩
  | 40 => ⟨S256x64, .i32⟩
  | 41 => ⟨S_, .i32⟩
  | 42 => ⟨S256x64, .i32⟩
  | 43 => ⟨S256x64, .i32⟩
  | 44 => ⟨S_, .i32⟩
  | 45 => ⟨S256x64, .i32⟩
  | 46 => ⟨S256x64, .i32⟩
  | 47 => ⟨S256x64, .i32⟩
  | 48 => ⟨S256x64, .i32⟩
  | 49 => ⟨S256x64, .i32⟩
  | 50 => ⟨S_, .i32⟩
  | 51 => ⟨S256x64, .i32⟩
  | 52 => ⟨S256x64, .i32⟩
  | 53 => ⟨S_, .i32⟩
  | 54 => ⟨S256x64, .i32⟩
  | 55 => ⟨S256x64, .i32⟩
  | 56 => ⟨S256x64, .i32⟩
  | 57 => ⟨S256x64, .i32⟩
  | 58 => ⟨S256x64, .i32⟩
  | 59 => ⟨S_, .i32⟩
  | 60 => ⟨S256x64, .i32⟩
  | 61 => ⟨S256x64, .i32⟩
  | 62 => ⟨S_, .i32⟩
  | 63 => ⟨S256x64, .i32⟩
  | 64 => ⟨S256x64, .i32⟩
  | 65 => ⟨S256x64, .i32⟩
  | 66 => ⟨S256x64, .i32⟩
  | 67 => ⟨S256x64, .i32⟩
  | 68 => ⟨S_, .i32⟩
  | 69 => ⟨S256x64, .i32⟩
  | 70 => ⟨S256x64, .i32⟩
  | 71 => ⟨S_, .i32⟩
  | 72 => ⟨S256x64, .i32⟩
  | 73 => ⟨S256x64, .i32⟩
  | 74 => ⟨S256x64, .i32⟩
  | 75 => ⟨S256x64, .i32⟩
  | 76 => ⟨S256x64, .i32⟩
  | 77 => ⟨S256x64, .i32⟩
  | 78 => ⟨S256x64, .i32⟩
  | 79 => ⟨S256x64, .i32⟩
  | 80 => ⟨S_, .i32⟩
  | 81 => ⟨S256x64, .i32⟩
  | 82 => ⟨S256x64, .i32⟩
  | 83 => ⟨S256x64, .i32⟩
  | 84 => ⟨S_, .i32⟩
  | 85 => ⟨S256x64, .i32⟩
  | 86 => ⟨S256x64, .i32⟩
  | 87 => ⟨S_, .i32⟩
  | 88 => ⟨S256x64, .i32⟩
  | 89 => ⟨S256x64, .i32⟩
  | 90 => ⟨S256x64, .i32⟩
  | 91 => ⟨S256x64, .i32⟩
  | 92 => ⟨S256x64, .i32⟩
  | 93 => ⟨S_, .i32⟩
  | 94 => ⟨S256x64, .i32⟩
  | 95 => ⟨S256x64, .i32⟩
  | 96 => ⟨S_, .i32⟩
  | 97 => ⟨S256x64, .i32⟩
  | 98 => ⟨S256x64, .i32⟩
  | 99 => ⟨S256x64, .i32⟩
  | 100 => ⟨S256x64, .i32⟩
  | 101 => ⟨S256x64, .i32⟩
  | 102 => ⟨S_, .i32⟩
  | 103 => ⟨S256x64, .i32⟩
  | 104 => ⟨S256x64, .i32⟩
  | 105 => ⟨S_, .i32⟩
  | 106 => ⟨S256x64, .i32⟩
  | 107 => ⟨S256x64, .i32⟩
  | 108 => ⟨S256x64, .i32⟩
  | 109 => ⟨S256x64, .i32⟩
  | 110 => ⟨S256x64, .i32⟩
  | 111 => ⟨S_, .i32⟩
  | 112 => ⟨S256x64, .i32⟩
  | 113 => ⟨S256x64, .i32⟩
  | 114 => ⟨S_, .i32⟩
  | 115 => ⟨S256x64, .i32⟩
  | 116 => ⟨S256x64, .i32⟩
  | 117 => ⟨S256x64, .i32⟩
  | 118 => ⟨S256x64, .i32⟩
  | 119 => ⟨S256x64, .i32⟩
  | 120 => ⟨S256x64, .i32⟩
  | 121 => ⟨S256x64, .i32⟩
  | 122 => ⟨S256x64, .i32⟩
  | 123 => ⟨S_, .i32⟩
  | 124 => ⟨S256x64, .i32⟩
  | 125 => ⟨S256x64, .i32⟩
  | 126 => ⟨S256x64, .i32⟩
  | 127 => ⟨S_, .i32⟩
  | _ => ⟨S_, .i32⟩

abbrev hbmTy0_7 (i : Nat) : BufTy := match i % 128 with
  | 0 => ⟨S256x64, .i32⟩
  | 1 => ⟨S256x64, .i32⟩
  | 2 => ⟨S_, .i32⟩
  | 3 => ⟨S256x64, .i32⟩
  | 4 => ⟨S256x64, .i32⟩
  | 5 => ⟨S256x64, .f32⟩
  | 6 => ⟨S_, .f32⟩
  | 7 => ⟨S256x64, .f32⟩
  | 8 => ⟨S256x64, .f32⟩
  | 9 => ⟨S1x1, .f32⟩
  | 10 => ⟨S256x64, .f32⟩
  | 11 => ⟨S256x64, .f32⟩
  | 12 => ⟨S256x64, .f32⟩
  | 13 => ⟨S256x64, .f32⟩
  | 14 => ⟨S256x64, .f32⟩
  | 15 => ⟨S256x64, .f32⟩
  | 16 => ⟨S256x64, .f32⟩
  | 17 => ⟨S256x64, .f32⟩
  | 18 => ⟨S256x64, .f32⟩
  | 19 => ⟨S256x64, .f32⟩
  | 20 => ⟨S256x64, .f32⟩
  | 21 => ⟨S256x64, .i32⟩
  | 22 => ⟨S_, .f32⟩
  | 23 => ⟨S_, .i32⟩
  | 24 => ⟨S256, .f32⟩
  | 25 => ⟨S256, .i32⟩
  | 26 => ⟨S32x8, .i32⟩
  | 27 => ⟨S32x8x1, .i32⟩
  | 28 => ⟨S_, .i32⟩
  | 29 => ⟨S32x8x1, .i32⟩
  | 30 => ⟨S32x8x1, .i1⟩
  | 31 => ⟨S_, .i32⟩
  | 32 => ⟨S32x8x1, .i32⟩
  | 33 => ⟨S32x8x1, .i32⟩
  | 34 => ⟨S32x8x1, .i32⟩
  | 35 => ⟨S32x8x1x1, .i32⟩
  | 36 => ⟨S1, .i32⟩
  | 37 => ⟨S_, .i32⟩
  | 38 => ⟨S32x8x1x1, .i32⟩
  | 39 => ⟨S32x8x1x1, .i1⟩
  | 40 => ⟨S1x1x1x1, .i32⟩
  | 41 => ⟨S32x8x1x1, .i32⟩
  | 42 => ⟨S32x8x1x1, .i1⟩
  | 43 => ⟨S32x8x1x1, .i1⟩
  | 44 => ⟨S_, .i1⟩
  | 45 => ⟨S32x8x1, .i1⟩
  | 46 => ⟨S32x8x1, .f32⟩
  | 47 => ⟨S_, .f32⟩
  | 48 => ⟨S32x8x1, .f32⟩
  | 49 => ⟨S32x8x1, .f32⟩
  | 50 => ⟨S32x8x1, .f32⟩
  | 51 => ⟨S32x8, .f32⟩
  | 52 => ⟨S32x8x1, .i32⟩
  | 53 => ⟨S_, .i32⟩
  | 54 => ⟨S32x8x1, .i32⟩
  | 55 => ⟨S32x8x1, .i1⟩
  | 56 => ⟨S_, .i32⟩
  | 57 => ⟨S32x8x1, .i32⟩
  | 58 => ⟨S32x8x1, .i32⟩
  | 59 => ⟨S32x8x1, .i32⟩
  | 60 => ⟨S32x8x1x1, .i32⟩
  | 61 => ⟨S1, .i32⟩
  | 62 => ⟨S_, .i32⟩
  | 63 => ⟨S32x8x1x1, .i32⟩
  | 64 => ⟨S32x8x1x1, .i1⟩
  | 65 => ⟨S1x1x1x1, .i32⟩
  | 66 => ⟨S32x8x1x1, .i32⟩
  | 67 => ⟨S32x8x1x1, .i1⟩
  | 68 => ⟨S32x8x1x1, .i1⟩
  | 69 => ⟨S_, .i1⟩
  | 70 => ⟨S32x8x1, .i1⟩
  | 71 => ⟨S32x8x1, .i32⟩
  | 72 => ⟨S_, .i32⟩
  | 73 => ⟨S32x8x1, .i32⟩
  | 74 => ⟨S32x8x1, .i32⟩
  | 75 => ⟨S32x8, .i32⟩
  | 76 => ⟨S8, .i32⟩
  | 77 => ⟨S1x8, .i32⟩
  | 78 => ⟨S1x1x1x8, .i32⟩
  | 79 => ⟨S32x1x1x8, .i32⟩
  | 80 => ⟨S32x8, .i32⟩
  | 81 => ⟨S_, .i32⟩
  | 82 => ⟨S_, .i32⟩
  | 83 => ⟨S_, .i32⟩
  | 84 => ⟨S_, .i32⟩
  | 85 => ⟨S_, .i1⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S_, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S_, .i32⟩
  | 104 => ⟨S32x8x1, .f32⟩
  | 105 => ⟨S32x8, .f32⟩
  | 106 => ⟨S_, .i32⟩
  | 107 => ⟨S32x8, .i32⟩
  | 108 => ⟨S32x8, .i1⟩
  | 109 => ⟨S_, .i32⟩
  | 110 => ⟨S32x8, .i32⟩
  | 111 => ⟨S32x8, .i32⟩
  | 112 => ⟨S32x8, .i32⟩
  | 113 => ⟨S32x8x1, .i32⟩
  | 114 => ⟨S1, .i32⟩
  | 115 => ⟨S_, .i32⟩
  | 116 => ⟨S32x8x1, .i32⟩
  | 117 => ⟨S32x8x1, .i1⟩
  | 118 => ⟨S1x1x1, .i32⟩
  | 119 => ⟨S32x8x1, .i32⟩
  | 120 => ⟨S32x8x1, .i1⟩
  | 121 => ⟨S32x8x1, .i1⟩
  | 122 => ⟨S_, .i1⟩
  | 123 => ⟨S32x8, .i1⟩
  | 124 => ⟨S32x8, .f32⟩
  | 125 => ⟨S_, .f32⟩
  | 126 => ⟨S32x8, .f32⟩
  | 127 => ⟨S32x8, .f32⟩
  | _ => ⟨S_, .i32⟩

abbrev hbmTy0_8 (i : Nat) : BufTy := match i % 128 with
  | 0 => ⟨S32x8, .f32⟩
  | _ => ⟨S_, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S_, .i32⟩

abbrev bufTy : (tb : Table) → Fin (tcTables nBuf tb) → BufTy
  | .hbm, ⟨i, _⟩ => hbmTy i
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c : Ref sig .tc := ⟨.hbm, 20, rfl⟩
abbrev main_call0_v5 : Ref sig .tc := ⟨.hbm, 21, rfl⟩
abbrev main_call0_v6 : Ref sig .tc := ⟨.hbm, 22, rfl⟩
abbrev main_call0_c_0 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_call0_v0 : Ref sig .tc := ⟨.hbm, 28, rfl⟩
abbrev main_call0_call0_c : Ref sig .tc := ⟨.hbm, 29, rfl⟩
abbrev main_call0_call0_v1 : Ref sig .tc := ⟨.hbm, 30, rfl⟩
abbrev main_call0_call0_v2 : Ref sig .tc := ⟨.hbm, 31, rfl⟩
abbrev main_call0_call0_v3 : Ref sig .tc := ⟨.hbm, 32, rfl⟩
abbrev main_call0_call0_v4 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_c_0 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_c_1 : Ref sig .tc := ⟨.hbm, 39, rfl⟩
abbrev main_call0_call0_v9 : Ref sig .tc := ⟨.hbm, 40, rfl⟩
abbrev main_call0_call0_v10 : Ref sig .tc := ⟨.hbm, 41, rfl⟩
abbrev main_call0_call0_v11 : Ref sig .tc := ⟨.hbm, 42, rfl⟩
abbrev main_call0_call0_v12 : Ref sig .tc := ⟨.hbm, 43, rfl⟩
abbrev main_call0_call0_v13 : Ref sig .tc := ⟨.hbm, 44, rfl⟩
abbrev main_call0_call0_c_2 : Ref sig .tc := ⟨.hbm, 45, rfl⟩
abbrev main_call0_call0_v14 : Ref sig .tc := ⟨.hbm, 46, rfl⟩
abbrev main_call0_call0_v15 : Ref sig .tc := ⟨.hbm, 47, rfl⟩
abbrev main_call0_call0_c_3 : Ref sig .tc := ⟨.hbm, 48, rfl⟩
abbrev main_call0_call0_v16 : Ref sig .tc := ⟨.hbm, 49, rfl⟩
abbrev main_call0_call0_v17 : Ref sig .tc := ⟨.hbm, 50, rfl⟩
abbrev main_call0_call0_v18 : Ref sig .tc := ⟨.hbm, 51, rfl⟩
abbrev main_call0_call0_v19 : Ref sig .tc := ⟨.hbm, 52, rfl⟩
abbrev main_call0_call0_v20 : Ref sig .tc := ⟨.hbm, 53, rfl⟩
abbrev main_call0_call0_c_4 : Ref sig .tc := ⟨.hbm, 54, rfl⟩
abbrev main_call0_call0_v21 : Ref sig .tc := ⟨.hbm, 55, rfl⟩
abbrev main_call0_call0_v22 : Ref sig .tc := ⟨.hbm, 56, rfl⟩
abbrev main_call0_call0_c_5 : Ref sig .tc := ⟨.hbm, 57, rfl⟩
abbrev main_call0_call0_v23 : Ref sig .tc := ⟨.hbm, 58, rfl⟩
abbrev main_call0_call0_v24 : Ref sig .tc := ⟨.hbm, 59, rfl⟩
abbrev main_call0_call0_v25 : Ref sig .tc := ⟨.hbm, 60, rfl⟩
abbrev main_call0_call0_v26 : Ref sig .tc := ⟨.hbm, 61, rfl⟩
abbrev main_call0_call0_v27 : Ref sig .tc := ⟨.hbm, 62, rfl⟩
abbrev main_call0_call0_c_6 : Ref sig .tc := ⟨.hbm, 63, rfl⟩
abbrev main_call0_call0_v28 : Ref sig .tc := ⟨.hbm, 64, rfl⟩
abbrev main_call0_call0_v29 : Ref sig .tc := ⟨.hbm, 65, rfl⟩
abbrev main_call0_call0_c_7 : Ref sig .tc := ⟨.hbm, 66, rfl⟩
abbrev main_call0_call0_v30 : Ref sig .tc := ⟨.hbm, 67, rfl⟩
abbrev main_call0_call0_v31 : Ref sig .tc := ⟨.hbm, 68, rfl⟩
abbrev main_call0_call0_v32 : Ref sig .tc := ⟨.hbm, 69, rfl⟩
abbrev main_call0_call0_v33 : Ref sig .tc := ⟨.hbm, 70, rfl⟩
abbrev main_call0_call0_v34 : Ref sig .tc := ⟨.hbm, 71, rfl⟩
abbrev main_call0_call0_v35 : Ref sig .tc := ⟨.hbm, 72, rfl⟩
abbrev main_call0_call0_v36 : Ref sig .tc := ⟨.hbm, 73, rfl⟩
abbrev main_call0_call0_v37 : Ref sig .tc := ⟨.hbm, 74, rfl⟩
abbrev main_call0_call0_c_8 : Ref sig .tc := ⟨.hbm, 75, rfl⟩
abbrev main_call0_call0_v38 : Ref sig .tc := ⟨.hbm, 76, rfl⟩
abbrev main_call0_call0_v39 : Ref sig .tc := ⟨.hbm, 77, rfl⟩
abbrev main_call0_call0_v40 : Ref sig .tc := ⟨.hbm, 78, rfl⟩
abbrev main_call0_call0_c_9 : Ref sig .tc := ⟨.hbm, 79, rfl⟩
abbrev main_call0_call0_v41 : Ref sig .tc := ⟨.hbm, 80, rfl⟩
abbrev main_call0_call0_v42 : Ref sig .tc := ⟨.hbm, 81, rfl⟩
abbrev main_call0_call0_c_10 : Ref sig .tc := ⟨.hbm, 82, rfl⟩
abbrev main_call0_call0_v43 : Ref sig .tc := ⟨.hbm, 83, rfl⟩
abbrev main_call0_call0_v44 : Ref sig .tc := ⟨.hbm, 84, rfl⟩
abbrev main_call0_call0_v45 : Ref sig .tc := ⟨.hbm, 85, rfl⟩
abbrev main_call0_call0_v46 : Ref sig .tc := ⟨.hbm, 86, rfl⟩
abbrev main_call0_call0_v47 : Ref sig .tc := ⟨.hbm, 87, rfl⟩
abbrev main_call0_call0_c_11 : Ref sig .tc := ⟨.hbm, 88, rfl⟩
abbrev main_call0_call0_v48 : Ref sig .tc := ⟨.hbm, 89, rfl⟩
abbrev main_call0_call0_v49 : Ref sig .tc := ⟨.hbm, 90, rfl⟩
abbrev main_call0_call0_c_12 : Ref sig .tc := ⟨.hbm, 91, rfl⟩
abbrev main_call0_call0_v50 : Ref sig .tc := ⟨.hbm, 92, rfl⟩
abbrev main_call0_call0_v51 : Ref sig .tc := ⟨.hbm, 93, rfl⟩
abbrev main_call0_call0_v52 : Ref sig .tc := ⟨.hbm, 94, rfl⟩
abbrev main_call0_call0_v53 : Ref sig .tc := ⟨.hbm, 95, rfl⟩
abbrev main_call0_call0_v54 : Ref sig .tc := ⟨.hbm, 96, rfl⟩
abbrev main_call0_call0_c_13 : Ref sig .tc := ⟨.hbm, 97, rfl⟩
abbrev main_call0_call0_v55 : Ref sig .tc := ⟨.hbm, 98, rfl⟩
abbrev main_call0_call0_v56 : Ref sig .tc := ⟨.hbm, 99, rfl⟩
abbrev main_call0_call0_c_14 : Ref sig .tc := ⟨.hbm, 100, rfl⟩
abbrev main_call0_call0_v57 : Ref sig .tc := ⟨.hbm, 101, rfl⟩
abbrev main_call0_call0_v58 : Ref sig .tc := ⟨.hbm, 102, rfl⟩
abbrev main_call0_call0_v59 : Ref sig .tc := ⟨.hbm, 103, rfl⟩
abbrev main_call0_call0_v60 : Ref sig .tc := ⟨.hbm, 104, rfl⟩
abbrev main_call0_call0_v61 : Ref sig .tc := ⟨.hbm, 105, rfl⟩
abbrev main_call0_call0_c_15 : Ref sig .tc := ⟨.hbm, 106, rfl⟩
abbrev main_call0_call0_v62 : Ref sig .tc := ⟨.hbm, 107, rfl⟩
abbrev main_call0_call0_v63 : Ref sig .tc := ⟨.hbm, 108, rfl⟩
abbrev main_call0_call0_c_16 : Ref sig .tc := ⟨.hbm, 109, rfl⟩
abbrev main_call0_call0_v64 : Ref sig .tc := ⟨.hbm, 110, rfl⟩
abbrev main_call0_call0_v65 : Ref sig .tc := ⟨.hbm, 111, rfl⟩
abbrev main_call0_call0_v66 : Ref sig .tc := ⟨.hbm, 112, rfl⟩
abbrev main_call0_call0_v67 : Ref sig .tc := ⟨.hbm, 113, rfl⟩
abbrev main_call0_call0_v68 : Ref sig .tc := ⟨.hbm, 114, rfl⟩
abbrev main_call0_call0_v69 : Ref sig .tc := ⟨.hbm, 115, rfl⟩
abbrev main_call0_call0_v70 : Ref sig .tc := ⟨.hbm, 116, rfl⟩
abbrev main_call0_call0_v71 : Ref sig .tc := ⟨.hbm, 117, rfl⟩
abbrev main_call0_call0_c_17 : Ref sig .tc := ⟨.hbm, 118, rfl⟩
abbrev main_call0_call0_v72 : Ref sig .tc := ⟨.hbm, 119, rfl⟩
abbrev main_call0_call0_v73 : Ref sig .tc := ⟨.hbm, 120, rfl⟩
abbrev main_call0_call0_v74 : Ref sig .tc := ⟨.hbm, 121, rfl⟩
abbrev main_call0_call0_c_18 : Ref sig .tc := ⟨.hbm, 122, rfl⟩
abbrev main_call0_call0_v75 : Ref sig .tc := ⟨.hbm, 123, rfl⟩
abbrev main_call0_call0_v76 : Ref sig .tc := ⟨.hbm, 124, rfl⟩
abbrev main_call0_call0_c_19 : Ref sig .tc := ⟨.hbm, 125, rfl⟩
abbrev main_call0_call0_v77 : Ref sig .tc := ⟨.hbm, 126, rfl⟩
abbrev main_call0_call0_v78 : Ref sig .tc := ⟨.hbm, 127, rfl⟩
abbrev main_call0_call0_v79 : Ref sig .tc := ⟨.hbm, 128, rfl⟩
abbrev main_call0_call0_v80 : Ref sig .tc := ⟨.hbm, 129, rfl⟩
abbrev main_call0_call0_v81 : Ref sig .tc := ⟨.hbm, 130, rfl⟩
abbrev main_call0_call0_c_20 : Ref sig .tc := ⟨.hbm, 131, rfl⟩
abbrev main_call0_call0_v82 : Ref sig .tc := ⟨.hbm, 132, rfl⟩
abbrev main_call0_call0_v83 : Ref sig .tc := ⟨.hbm, 133, rfl⟩
abbrev main_call0_call0_c_21 : Ref sig .tc := ⟨.hbm, 134, rfl⟩
abbrev main_call0_call0_v84 : Ref sig .tc := ⟨.hbm, 135, rfl⟩
abbrev main_call0_call0_v85 : Ref sig .tc := ⟨.hbm, 136, rfl⟩
abbrev main_call0_call0_v86 : Ref sig .tc := ⟨.hbm, 137, rfl⟩
abbrev main_call0_call0_v87 : Ref sig .tc := ⟨.hbm, 138, rfl⟩
abbrev main_call0_call0_v88 : Ref sig .tc := ⟨.hbm, 139, rfl⟩
abbrev main_call0_call0_c_22 : Ref sig .tc := ⟨.hbm, 140, rfl⟩
abbrev main_call0_call0_v89 : Ref sig .tc := ⟨.hbm, 141, rfl⟩
abbrev main_call0_call0_v90 : Ref sig .tc := ⟨.hbm, 142, rfl⟩
abbrev main_call0_call0_c_23 : Ref sig .tc := ⟨.hbm, 143, rfl⟩
abbrev main_call0_call0_v91 : Ref sig .tc := ⟨.hbm, 144, rfl⟩
abbrev main_call0_call0_v92 : Ref sig .tc := ⟨.hbm, 145, rfl⟩
abbrev main_call0_call0_v93 : Ref sig .tc := ⟨.hbm, 146, rfl⟩
abbrev main_call0_call0_v94 : Ref sig .tc := ⟨.hbm, 147, rfl⟩
abbrev main_call0_call0_v95 : Ref sig .tc := ⟨.hbm, 148, rfl⟩
abbrev main_call0_call0_c_24 : Ref sig .tc := ⟨.hbm, 149, rfl⟩
abbrev main_call0_call0_v96 : Ref sig .tc := ⟨.hbm, 150, rfl⟩
abbrev main_call0_call0_v97 : Ref sig .tc := ⟨.hbm, 151, rfl⟩
abbrev main_call0_call0_c_25 : Ref sig .tc := ⟨.hbm, 152, rfl⟩
abbrev main_call0_call0_v98 : Ref sig .tc := ⟨.hbm, 153, rfl⟩
abbrev main_call0_call0_v99 : Ref sig .tc := ⟨.hbm, 154, rfl⟩
abbrev main_call0_call0_v100 : Ref sig .tc := ⟨.hbm, 155, rfl⟩
abbrev main_call0_call0_v101 : Ref sig .tc := ⟨.hbm, 156, rfl⟩
abbrev main_call0_call0_v102 : Ref sig .tc := ⟨.hbm, 157, rfl⟩
abbrev main_call0_call0_v103 : Ref sig .tc := ⟨.hbm, 158, rfl⟩
abbrev main_call0_call0_v104 : Ref sig .tc := ⟨.hbm, 159, rfl⟩
abbrev main_call0_call0_v105 : Ref sig .tc := ⟨.hbm, 160, rfl⟩
abbrev main_call0_call0_c_26 : Ref sig .tc := ⟨.hbm, 161, rfl⟩
abbrev main_call0_call0_v106 : Ref sig .tc := ⟨.hbm, 162, rfl⟩
abbrev main_call0_call0_v107 : Ref sig .tc := ⟨.hbm, 163, rfl⟩
abbrev main_call0_call0_v108 : Ref sig .tc := ⟨.hbm, 164, rfl⟩
abbrev main_call0_call0_c_27 : Ref sig .tc := ⟨.hbm, 165, rfl⟩
abbrev main_call0_call0_v109 : Ref sig .tc := ⟨.hbm, 166, rfl⟩
abbrev main_call0_call0_v110 : Ref sig .tc := ⟨.hbm, 167, rfl⟩
abbrev main_call0_call0_c_28 : Ref sig .tc := ⟨.hbm, 168, rfl⟩
abbrev main_call0_call0_v111 : Ref sig .tc := ⟨.hbm, 169, rfl⟩
abbrev main_call0_call0_v112 : Ref sig .tc := ⟨.hbm, 170, rfl⟩
abbrev main_call0_call0_v113 : Ref sig .tc := ⟨.hbm, 171, rfl⟩
abbrev main_call0_call0_v114 : Ref sig .tc := ⟨.hbm, 172, rfl⟩
abbrev main_call0_call0_v115 : Ref sig .tc := ⟨.hbm, 173, rfl⟩
abbrev main_call0_call0_c_29 : Ref sig .tc := ⟨.hbm, 174, rfl⟩
abbrev main_call0_call0_v116 : Ref sig .tc := ⟨.hbm, 175, rfl⟩
abbrev main_call0_call0_v117 : Ref sig .tc := ⟨.hbm, 176, rfl⟩
abbrev main_call0_call0_c_30 : Ref sig .tc := ⟨.hbm, 177, rfl⟩
abbrev main_call0_call0_v118 : Ref sig .tc := ⟨.hbm, 178, rfl⟩
abbrev main_call0_call0_v119 : Ref sig .tc := ⟨.hbm, 179, rfl⟩
abbrev main_call0_call0_v120 : Ref sig .tc := ⟨.hbm, 180, rfl⟩
abbrev main_call0_call0_v121 : Ref sig .tc := ⟨.hbm, 181, rfl⟩
abbrev main_call0_call0_v122 : Ref sig .tc := ⟨.hbm, 182, rfl⟩
abbrev main_call0_call0_c_31 : Ref sig .tc := ⟨.hbm, 183, rfl⟩
abbrev main_call0_call0_v123 : Ref sig .tc := ⟨.hbm, 184, rfl⟩
abbrev main_call0_call0_v124 : Ref sig .tc := ⟨.hbm, 185, rfl⟩
abbrev main_call0_call0_c_32 : Ref sig .tc := ⟨.hbm, 186, rfl⟩
abbrev main_call0_call0_v125 : Ref sig .tc := ⟨.hbm, 187, rfl⟩
abbrev main_call0_call0_v126 : Ref sig .tc := ⟨.hbm, 188, rfl⟩
abbrev main_call0_call0_v127 : Ref sig .tc := ⟨.hbm, 189, rfl⟩
abbrev main_call0_call0_v128 : Ref sig .tc := ⟨.hbm, 190, rfl⟩
abbrev main_call0_call0_v129 : Ref sig .tc := ⟨.hbm, 191, rfl⟩
abbrev main_call0_call0_c_33 : Ref sig .tc := ⟨.hbm, 192, rfl⟩
abbrev main_call0_call0_v130 : Ref sig .tc := ⟨.hbm, 193, rfl⟩
abbrev main_call0_call0_v131 : Ref sig .tc := ⟨.hbm, 194, rfl⟩
abbrev main_call0_call0_c_34 : Ref sig .tc := ⟨.hbm, 195, rfl⟩
abbrev main_call0_call0_v132 : Ref sig .tc := ⟨.hbm, 196, rfl⟩
abbrev main_call0_call0_v133 : Ref sig .tc := ⟨.hbm, 197, rfl⟩
abbrev main_call0_call0_v134 : Ref sig .tc := ⟨.hbm, 198, rfl⟩
abbrev main_call0_call0_v135 : Ref sig .tc := ⟨.hbm, 199, rfl⟩
abbrev main_call0_call0_v136 : Ref sig .tc := ⟨.hbm, 200, rfl⟩
abbrev main_call0_call0_v137 : Ref sig .tc := ⟨.hbm, 201, rfl⟩
abbrev main_call0_call0_v138 : Ref sig .tc := ⟨.hbm, 202, rfl⟩
abbrev main_call0_call0_v139 : Ref sig .tc := ⟨.hbm, 203, rfl⟩
abbrev main_call0_call0_c_35 : Ref sig .tc := ⟨.hbm, 204, rfl⟩
abbrev main_call0_call0_v140 : Ref sig .tc := ⟨.hbm, 205, rfl⟩
abbrev main_call0_call0_v141 : Ref sig .tc := ⟨.hbm, 206, rfl⟩
abbrev main_call0_call0_v142 : Ref sig .tc := ⟨.hbm, 207, rfl⟩
abbrev main_call0_call0_c_36 : Ref sig .tc := ⟨.hbm, 208, rfl⟩
abbrev main_call0_call0_v143 : Ref sig .tc := ⟨.hbm, 209, rfl⟩
abbrev main_call0_call0_v144 : Ref sig .tc := ⟨.hbm, 210, rfl⟩
abbrev main_call0_call0_c_37 : Ref sig .tc := ⟨.hbm, 211, rfl⟩
abbrev main_call0_call0_v145 : Ref sig .tc := ⟨.hbm, 212, rfl⟩
abbrev main_call0_call0_v146 : Ref sig .tc := ⟨.hbm, 213, rfl⟩
abbrev main_call0_call0_v147 : Ref sig .tc := ⟨.hbm, 214, rfl⟩
abbrev main_call0_call0_v148 : Ref sig .tc := ⟨.hbm, 215, rfl⟩
abbrev main_call0_call0_v149 : Ref sig .tc := ⟨.hbm, 216, rfl⟩
abbrev main_call0_call0_c_38 : Ref sig .tc := ⟨.hbm, 217, rfl⟩
abbrev main_call0_call0_v150 : Ref sig .tc := ⟨.hbm, 218, rfl⟩
abbrev main_call0_call0_v151 : Ref sig .tc := ⟨.hbm, 219, rfl⟩
abbrev main_call0_call0_c_39 : Ref sig .tc := ⟨.hbm, 220, rfl⟩
abbrev main_call0_call0_v152 : Ref sig .tc := ⟨.hbm, 221, rfl⟩
abbrev main_call0_call0_v153 : Ref sig .tc := ⟨.hbm, 222, rfl⟩
abbrev main_call0_call0_v154 : Ref sig .tc := ⟨.hbm, 223, rfl⟩
abbrev main_call0_call0_v155 : Ref sig .tc := ⟨.hbm, 224, rfl⟩
abbrev main_call0_call0_v156 : Ref sig .tc := ⟨.hbm, 225, rfl⟩
abbrev main_call0_call0_c_40 : Ref sig .tc := ⟨.hbm, 226, rfl⟩
abbrev main_call0_call0_v157 : Ref sig .tc := ⟨.hbm, 227, rfl⟩
abbrev main_call0_call0_v158 : Ref sig .tc := ⟨.hbm, 228, rfl⟩
abbrev main_call0_call0_c_41 : Ref sig .tc := ⟨.hbm, 229, rfl⟩
abbrev main_call0_call0_v159 : Ref sig .tc := ⟨.hbm, 230, rfl⟩
abbrev main_call0_call0_v160 : Ref sig .tc := ⟨.hbm, 231, rfl⟩
abbrev main_call0_call0_v161 : Ref sig .tc := ⟨.hbm, 232, rfl⟩
abbrev main_call0_call0_v162 : Ref sig .tc := ⟨.hbm, 233, rfl⟩
abbrev main_call0_call0_v163 : Ref sig .tc := ⟨.hbm, 234, rfl⟩
abbrev main_call0_call0_c_42 : Ref sig .tc := ⟨.hbm, 235, rfl⟩
abbrev main_call0_call0_v164 : Ref sig .tc := ⟨.hbm, 236, rfl⟩
abbrev main_call0_call0_v165 : Ref sig .tc := ⟨.hbm, 237, rfl⟩
abbrev main_call0_call0_c_43 : Ref sig .tc := ⟨.hbm, 238, rfl⟩
abbrev main_call0_call0_v166 : Ref sig .tc := ⟨.hbm, 239, rfl⟩
abbrev main_call0_call0_v167 : Ref sig .tc := ⟨.hbm, 240, rfl⟩
abbrev main_call0_call0_v168 : Ref sig .tc := ⟨.hbm, 241, rfl⟩
abbrev main_call0_call0_v169 : Ref sig .tc := ⟨.hbm, 242, rfl⟩
abbrev main_call0_call0_v170 : Ref sig .tc := ⟨.hbm, 243, rfl⟩
abbrev main_call0_v11_0 : Ref sig .tc := ⟨.hbm, 244, rfl⟩
abbrev main_call0_call0_v172 : Ref sig .tc := ⟨.hbm, 245, rfl⟩
abbrev main_call0_call0_v173 : Ref sig .tc := ⟨.hbm, 246, rfl⟩
abbrev main_call0_call0_c_44 : Ref sig .tc := ⟨.hbm, 247, rfl⟩
abbrev main_call0_call0_v174 : Ref sig .tc := ⟨.hbm, 248, rfl⟩
abbrev main_call0_v11_1 : Ref sig .tc := ⟨.hbm, 249, rfl⟩
abbrev main_call0_v12 : Ref sig .tc := ⟨.hbm, 250, rfl⟩
abbrev main_call0_v13 : Ref sig .tc := ⟨.hbm, 251, rfl⟩
abbrev main_v7 : Ref sig .tc := ⟨.hbm, 252, rfl⟩
abbrev main_v8 : Ref sig .tc := ⟨.hbm, 253, rfl⟩
abbrev main_v9 : Ref sig .tc := ⟨.hbm, 254, rfl⟩
abbrev main_v10 : Ref sig .tc := ⟨.hbm, 255, rfl⟩
abbrev main_v11 : Ref sig .tc := ⟨.hbm, 256, rfl⟩
abbrev main_values : Ref sig .tc := ⟨.hbm, 257, rfl⟩
abbrev main_indices : Ref sig .tc := ⟨.hbm, 258, rfl⟩
abbrev main_v12 : Ref sig .tc := ⟨.hbm, 259, rfl⟩
abbrev main_v13 : Ref sig .tc := ⟨.hbm, 260, rfl⟩
abbrev main_cst : Ref sig .tc := ⟨.hbm, 261, rfl⟩
abbrev main_v14 : Ref sig .tc := ⟨.hbm, 262, rfl⟩
abbrev main_v15 : Ref sig .tc := ⟨.hbm, 263, rfl⟩
abbrev main_v16 : Ref sig .tc := ⟨.hbm, 264, rfl⟩
abbrev main_call1_cst : Ref sig .tc := ⟨.hbm, 265, rfl⟩
abbrev main_call1_cst_0 : Ref sig .tc := ⟨.hbm, 266, rfl⟩
abbrev main_call1_call0_v0 : Ref sig .tc := ⟨.hbm, 267, rfl⟩
abbrev main_call1_call0_v1 : Ref sig .tc := ⟨.hbm, 268, rfl⟩
abbrev main_call1_call0_v2 : Ref sig .tc := ⟨.hbm, 269, rfl⟩
abbrev main_call1_call0_v3 : Ref sig .tc := ⟨.hbm, 270, rfl⟩
abbrev main_call1_call0_v4 : Ref sig .tc := ⟨.hbm, 271, rfl⟩
abbrev main_call1_call0_v5 : Ref sig .tc := ⟨.hbm, 272, rfl⟩
abbrev main_call1_call0_v6 : Ref sig .tc := ⟨.hbm, 273, rfl⟩
abbrev main_call1_call0_v7 : Ref sig .tc := ⟨.hbm, 274, rfl⟩
abbrev main_call1_call0_v8 : Ref sig .tc := ⟨.hbm, 275, rfl⟩
abbrev main_call1_call0_c : Ref sig .tc := ⟨.hbm, 276, rfl⟩
abbrev main_call1_call0_v9 : Ref sig .tc := ⟨.hbm, 277, rfl⟩
abbrev main_call1_call0_v10 : Ref sig .tc := ⟨.hbm, 278, rfl⟩
abbrev main_call1_call0_c_0 : Ref sig .tc := ⟨.hbm, 279, rfl⟩
abbrev main_call1_call0_v11 : Ref sig .tc := ⟨.hbm, 280, rfl⟩
abbrev main_call1_call0_v12 : Ref sig .tc := ⟨.hbm, 281, rfl⟩
abbrev main_call1_call0_v13 : Ref sig .tc := ⟨.hbm, 282, rfl⟩
abbrev main_call1_call0_c_1 : Ref sig .tc := ⟨.hbm, 283, rfl⟩
abbrev main_call1_call0_v14 : Ref sig .tc := ⟨.hbm, 284, rfl⟩
abbrev main_call1_call0_v15 : Ref sig .tc := ⟨.hbm, 285, rfl⟩
abbrev main_call1_call0_v16 : Ref sig .tc := ⟨.hbm, 286, rfl⟩
abbrev main_call1_call0_v17 : Ref sig .tc := ⟨.hbm, 287, rfl⟩
abbrev main_call1_call0_call0_v0 : Ref sig .tc := ⟨.hbm, 288, rfl⟩
abbrev main_call1_call0_call0_c : Ref sig .tc := ⟨.hbm, 289, rfl⟩
abbrev main_call1_call0_call0_v1 : Ref sig .tc := ⟨.hbm, 290, rfl⟩
abbrev main_call1_call0_call0_v2 : Ref sig .tc := ⟨.hbm, 291, rfl⟩
abbrev main_call1_call0_call0_v3 : Ref sig .tc := ⟨.hbm, 292, rfl⟩
abbrev main_call1_call0_call0_v4 : Ref sig .tc := ⟨.hbm, 293, rfl⟩
abbrev main_call1_call0_call0_v5 : Ref sig .tc := ⟨.hbm, 294, rfl⟩
abbrev main_call1_call0_call0_v6 : Ref sig .tc := ⟨.hbm, 295, rfl⟩
abbrev main_call1_call0_call0_c_0 : Ref sig .tc := ⟨.hbm, 296, rfl⟩
abbrev main_call1_call0_call0_v7 : Ref sig .tc := ⟨.hbm, 297, rfl⟩
abbrev main_call1_call0_call0_v8 : Ref sig .tc := ⟨.hbm, 298, rfl⟩
abbrev main_call1_call0_call0_c_1 : Ref sig .tc := ⟨.hbm, 299, rfl⟩
abbrev main_call1_call0_call0_v9 : Ref sig .tc := ⟨.hbm, 300, rfl⟩
abbrev main_call1_call0_call0_v10 : Ref sig .tc := ⟨.hbm, 301, rfl⟩
abbrev main_call1_call0_call0_v11 : Ref sig .tc := ⟨.hbm, 302, rfl⟩
abbrev main_call1_call0_call0_v12 : Ref sig .tc := ⟨.hbm, 303, rfl⟩
abbrev main_call1_call0_call0_v13 : Ref sig .tc := ⟨.hbm, 304, rfl⟩
abbrev main_call1_call0_call0_c_2 : Ref sig .tc := ⟨.hbm, 305, rfl⟩
abbrev main_call1_call0_call0_v14 : Ref sig .tc := ⟨.hbm, 306, rfl⟩
abbrev main_call1_call0_call0_v15 : Ref sig .tc := ⟨.hbm, 307, rfl⟩
abbrev main_call1_call0_call0_c_3 : Ref sig .tc := ⟨.hbm, 308, rfl⟩
abbrev main_call1_call0_call0_v16 : Ref sig .tc := ⟨.hbm, 309, rfl⟩
abbrev main_call1_call0_call0_v17 : Ref sig .tc := ⟨.hbm, 310, rfl⟩
abbrev main_call1_call0_call0_v18 : Ref sig .tc := ⟨.hbm, 311, rfl⟩
abbrev main_call1_call0_call0_v19 : Ref sig .tc := ⟨.hbm, 312, rfl⟩
abbrev main_call1_call0_call0_v20 : Ref sig .tc := ⟨.hbm, 313, rfl⟩
abbrev main_call1_call0_call0_c_4 : Ref sig .tc := ⟨.hbm, 314, rfl⟩
abbrev main_call1_call0_call0_v21 : Ref sig .tc := ⟨.hbm, 315, rfl⟩
abbrev main_call1_call0_call0_v22 : Ref sig .tc := ⟨.hbm, 316, rfl⟩
abbrev main_call1_call0_call0_c_5 : Ref sig .tc := ⟨.hbm, 317, rfl⟩
abbrev main_call1_call0_call0_v23 : Ref sig .tc := ⟨.hbm, 318, rfl⟩
abbrev main_call1_call0_call0_v24 : Ref sig .tc := ⟨.hbm, 319, rfl⟩
abbrev main_call1_call0_call0_v25 : Ref sig .tc := ⟨.hbm, 320, rfl⟩
abbrev main_call1_call0_call0_v26 : Ref sig .tc := ⟨.hbm, 321, rfl⟩
abbrev main_call1_call0_call0_v27 : Ref sig .tc := ⟨.hbm, 322, rfl⟩
abbrev main_call1_call0_call0_c_6 : Ref sig .tc := ⟨.hbm, 323, rfl⟩
abbrev main_call1_call0_call0_v28 : Ref sig .tc := ⟨.hbm, 324, rfl⟩
abbrev main_call1_call0_call0_v29 : Ref sig .tc := ⟨.hbm, 325, rfl⟩
abbrev main_call1_call0_call0_c_7 : Ref sig .tc := ⟨.hbm, 326, rfl⟩
abbrev main_call1_call0_call0_v30 : Ref sig .tc := ⟨.hbm, 327, rfl⟩
abbrev main_call1_call0_call0_v31 : Ref sig .tc := ⟨.hbm, 328, rfl⟩
abbrev main_call1_call0_call0_v32 : Ref sig .tc := ⟨.hbm, 329, rfl⟩
abbrev main_call1_call0_call0_v33 : Ref sig .tc := ⟨.hbm, 330, rfl⟩
abbrev main_call1_call0_call0_v34 : Ref sig .tc := ⟨.hbm, 331, rfl⟩
abbrev main_call1_call0_call0_v35 : Ref sig .tc := ⟨.hbm, 332, rfl⟩
abbrev main_call1_call0_call0_v36 : Ref sig .tc := ⟨.hbm, 333, rfl⟩
abbrev main_call1_call0_call0_v37 : Ref sig .tc := ⟨.hbm, 334, rfl⟩
abbrev main_call1_call0_call0_c_8 : Ref sig .tc := ⟨.hbm, 335, rfl⟩
abbrev main_call1_call0_call0_v38 : Ref sig .tc := ⟨.hbm, 336, rfl⟩
abbrev main_call1_call0_call0_v39 : Ref sig .tc := ⟨.hbm, 337, rfl⟩
abbrev main_call1_call0_call0_v40 : Ref sig .tc := ⟨.hbm, 338, rfl⟩
abbrev main_call1_call0_call0_c_9 : Ref sig .tc := ⟨.hbm, 339, rfl⟩
abbrev main_call1_call0_call0_v41 : Ref sig .tc := ⟨.hbm, 340, rfl⟩
abbrev main_call1_call0_call0_v42 : Ref sig .tc := ⟨.hbm, 341, rfl⟩
abbrev main_call1_call0_call0_c_10 : Ref sig .tc := ⟨.hbm, 342, rfl⟩
abbrev main_call1_call0_call0_v43 : Ref sig .tc := ⟨.hbm, 343, rfl⟩
abbrev main_call1_call0_call0_v44 : Ref sig .tc := ⟨.hbm, 344, rfl⟩
abbrev main_call1_call0_call0_v45 : Ref sig .tc := ⟨.hbm, 345, rfl⟩
abbrev main_call1_call0_call0_v46 : Ref sig .tc := ⟨.hbm, 346, rfl⟩
abbrev main_call1_call0_call0_v47 : Ref sig .tc := ⟨.hbm, 347, rfl⟩
abbrev main_call1_call0_call0_c_11 : Ref sig .tc := ⟨.hbm, 348, rfl⟩
abbrev main_call1_call0_call0_v48 : Ref sig .tc := ⟨.hbm, 349, rfl⟩
abbrev main_call1_call0_call0_v49 : Ref sig .tc := ⟨.hbm, 350, rfl⟩
abbrev main_call1_call0_call0_c_12 : Ref sig .tc := ⟨.hbm, 351, rfl⟩
abbrev main_call1_call0_call0_v50 : Ref sig .tc := ⟨.hbm, 352, rfl⟩
abbrev main_call1_call0_call0_v51 : Ref sig .tc := ⟨.hbm, 353, rfl⟩
abbrev main_call1_call0_call0_v52 : Ref sig .tc := ⟨.hbm, 354, rfl⟩
abbrev main_call1_call0_call0_v53 : Ref sig .tc := ⟨.hbm, 355, rfl⟩
abbrev main_call1_call0_call0_v54 : Ref sig .tc := ⟨.hbm, 356, rfl⟩
abbrev main_call1_call0_call0_c_13 : Ref sig .tc := ⟨.hbm, 357, rfl⟩
abbrev main_call1_call0_call0_v55 : Ref sig .tc := ⟨.hbm, 358, rfl⟩
abbrev main_call1_call0_call0_v56 : Ref sig .tc := ⟨.hbm, 359, rfl⟩
abbrev main_call1_call0_call0_c_14 : Ref sig .tc := ⟨.hbm, 360, rfl⟩
abbrev main_call1_call0_call0_v57 : Ref sig .tc := ⟨.hbm, 361, rfl⟩
abbrev main_call1_call0_call0_v58 : Ref sig .tc := ⟨.hbm, 362, rfl⟩
abbrev main_call1_call0_call0_v59 : Ref sig .tc := ⟨.hbm, 363, rfl⟩
abbrev main_call1_call0_call0_v60 : Ref sig .tc := ⟨.hbm, 364, rfl⟩
abbrev main_call1_call0_call0_v61 : Ref sig .tc := ⟨.hbm, 365, rfl⟩
abbrev main_call1_call0_call0_c_15 : Ref sig .tc := ⟨.hbm, 366, rfl⟩
abbrev main_call1_call0_call0_v62 : Ref sig .tc := ⟨.hbm, 367, rfl⟩
abbrev main_call1_call0_call0_v63 : Ref sig .tc := ⟨.hbm, 368, rfl⟩
abbrev main_call1_call0_call0_c_16 : Ref sig .tc := ⟨.hbm, 369, rfl⟩
abbrev main_call1_call0_call0_v64 : Ref sig .tc := ⟨.hbm, 370, rfl⟩
abbrev main_call1_call0_call0_v65 : Ref sig .tc := ⟨.hbm, 371, rfl⟩
abbrev main_call1_call0_call0_v66 : Ref sig .tc := ⟨.hbm, 372, rfl⟩
abbrev main_call1_call0_call0_v67 : Ref sig .tc := ⟨.hbm, 373, rfl⟩
abbrev main_call1_call0_call0_v68 : Ref sig .tc := ⟨.hbm, 374, rfl⟩
abbrev main_call1_call0_call0_v69 : Ref sig .tc := ⟨.hbm, 375, rfl⟩
abbrev main_call1_call0_call0_v70 : Ref sig .tc := ⟨.hbm, 376, rfl⟩
abbrev main_call1_call0_call0_v71 : Ref sig .tc := ⟨.hbm, 377, rfl⟩
abbrev main_call1_call0_call0_c_17 : Ref sig .tc := ⟨.hbm, 378, rfl⟩
abbrev main_call1_call0_call0_v72 : Ref sig .tc := ⟨.hbm, 379, rfl⟩
abbrev main_call1_call0_call0_v73 : Ref sig .tc := ⟨.hbm, 380, rfl⟩
abbrev main_call1_call0_call0_v74 : Ref sig .tc := ⟨.hbm, 381, rfl⟩
abbrev main_call1_call0_call0_c_18 : Ref sig .tc := ⟨.hbm, 382, rfl⟩
abbrev main_call1_call0_call0_v75 : Ref sig .tc := ⟨.hbm, 383, rfl⟩
abbrev main_call1_call0_call0_v76 : Ref sig .tc := ⟨.hbm, 384, rfl⟩
abbrev main_call1_call0_call0_c_19 : Ref sig .tc := ⟨.hbm, 385, rfl⟩
abbrev main_call1_call0_call0_v77 : Ref sig .tc := ⟨.hbm, 386, rfl⟩
abbrev main_call1_call0_call0_v78 : Ref sig .tc := ⟨.hbm, 387, rfl⟩
abbrev main_call1_call0_call0_v79 : Ref sig .tc := ⟨.hbm, 388, rfl⟩
abbrev main_call1_call0_call0_v80 : Ref sig .tc := ⟨.hbm, 389, rfl⟩
abbrev main_call1_call0_call0_v81 : Ref sig .tc := ⟨.hbm, 390, rfl⟩
abbrev main_call1_call0_call0_c_20 : Ref sig .tc := ⟨.hbm, 391, rfl⟩
abbrev main_call1_call0_call0_v82 : Ref sig .tc := ⟨.hbm, 392, rfl⟩
abbrev main_call1_call0_call0_v83 : Ref sig .tc := ⟨.hbm, 393, rfl⟩
abbrev main_call1_call0_call0_c_21 : Ref sig .tc := ⟨.hbm, 394, rfl⟩
abbrev main_call1_call0_call0_v84 : Ref sig .tc := ⟨.hbm, 395, rfl⟩
abbrev main_call1_call0_call0_v85 : Ref sig .tc := ⟨.hbm, 396, rfl⟩
abbrev main_call1_call0_call0_v86 : Ref sig .tc := ⟨.hbm, 397, rfl⟩
abbrev main_call1_call0_call0_v87 : Ref sig .tc := ⟨.hbm, 398, rfl⟩
abbrev main_call1_call0_call0_v88 : Ref sig .tc := ⟨.hbm, 399, rfl⟩
abbrev main_call1_call0_call0_c_22 : Ref sig .tc := ⟨.hbm, 400, rfl⟩
abbrev main_call1_call0_call0_v89 : Ref sig .tc := ⟨.hbm, 401, rfl⟩
abbrev main_call1_call0_call0_v90 : Ref sig .tc := ⟨.hbm, 402, rfl⟩
abbrev main_call1_call0_call0_c_23 : Ref sig .tc := ⟨.hbm, 403, rfl⟩
abbrev main_call1_call0_call0_v91 : Ref sig .tc := ⟨.hbm, 404, rfl⟩
abbrev main_call1_call0_call0_v92 : Ref sig .tc := ⟨.hbm, 405, rfl⟩
abbrev main_call1_call0_call0_v93 : Ref sig .tc := ⟨.hbm, 406, rfl⟩
abbrev main_call1_call0_call0_v94 : Ref sig .tc := ⟨.hbm, 407, rfl⟩
abbrev main_call1_call0_call0_v95 : Ref sig .tc := ⟨.hbm, 408, rfl⟩
abbrev main_call1_call0_call0_c_24 : Ref sig .tc := ⟨.hbm, 409, rfl⟩
abbrev main_call1_call0_call0_v96 : Ref sig .tc := ⟨.hbm, 410, rfl⟩
abbrev main_call1_call0_call0_v97 : Ref sig .tc := ⟨.hbm, 411, rfl⟩
abbrev main_call1_call0_call0_c_25 : Ref sig .tc := ⟨.hbm, 412, rfl⟩
abbrev main_call1_call0_call0_v98 : Ref sig .tc := ⟨.hbm, 413, rfl⟩
abbrev main_call1_call0_call0_v99 : Ref sig .tc := ⟨.hbm, 414, rfl⟩
abbrev main_call1_call0_call0_v100 : Ref sig .tc := ⟨.hbm, 415, rfl⟩
abbrev main_call1_call0_call0_v101 : Ref sig .tc := ⟨.hbm, 416, rfl⟩
abbrev main_call1_call0_call0_v102 : Ref sig .tc := ⟨.hbm, 417, rfl⟩
abbrev main_call1_call0_call0_v103 : Ref sig .tc := ⟨.hbm, 418, rfl⟩
abbrev main_call1_call0_call0_v104 : Ref sig .tc := ⟨.hbm, 419, rfl⟩
abbrev main_call1_call0_call0_v105 : Ref sig .tc := ⟨.hbm, 420, rfl⟩
abbrev main_call1_call0_call0_c_26 : Ref sig .tc := ⟨.hbm, 421, rfl⟩
abbrev main_call1_call0_call0_v106 : Ref sig .tc := ⟨.hbm, 422, rfl⟩
abbrev main_call1_call0_call0_v107 : Ref sig .tc := ⟨.hbm, 423, rfl⟩
abbrev main_call1_call0_call0_v108 : Ref sig .tc := ⟨.hbm, 424, rfl⟩
abbrev main_call1_call0_call0_c_27 : Ref sig .tc := ⟨.hbm, 425, rfl⟩
abbrev main_call1_call0_call0_v109 : Ref sig .tc := ⟨.hbm, 426, rfl⟩
abbrev main_call1_call0_call0_v110 : Ref sig .tc := ⟨.hbm, 427, rfl⟩
abbrev main_call1_call0_call0_c_28 : Ref sig .tc := ⟨.hbm, 428, rfl⟩
abbrev main_call1_call0_call0_v111 : Ref sig .tc := ⟨.hbm, 429, rfl⟩
abbrev main_call1_call0_call0_v112 : Ref sig .tc := ⟨.hbm, 430, rfl⟩
abbrev main_call1_call0_call0_v113 : Ref sig .tc := ⟨.hbm, 431, rfl⟩
abbrev main_call1_call0_call0_v114 : Ref sig .tc := ⟨.hbm, 432, rfl⟩
abbrev main_call1_call0_call0_v115 : Ref sig .tc := ⟨.hbm, 433, rfl⟩
abbrev main_call1_call0_call0_c_29 : Ref sig .tc := ⟨.hbm, 434, rfl⟩
abbrev main_call1_call0_call0_v116 : Ref sig .tc := ⟨.hbm, 435, rfl⟩
abbrev main_call1_call0_call0_v117 : Ref sig .tc := ⟨.hbm, 436, rfl⟩
abbrev main_call1_call0_call0_c_30 : Ref sig .tc := ⟨.hbm, 437, rfl⟩
abbrev main_call1_call0_call0_v118 : Ref sig .tc := ⟨.hbm, 438, rfl⟩
abbrev main_call1_call0_call0_v119 : Ref sig .tc := ⟨.hbm, 439, rfl⟩
abbrev main_call1_call0_call0_v120 : Ref sig .tc := ⟨.hbm, 440, rfl⟩
abbrev main_call1_call0_call0_v121 : Ref sig .tc := ⟨.hbm, 441, rfl⟩
abbrev main_call1_call0_call0_v122 : Ref sig .tc := ⟨.hbm, 442, rfl⟩
abbrev main_call1_call0_call0_c_31 : Ref sig .tc := ⟨.hbm, 443, rfl⟩
abbrev main_call1_call0_call0_v123 : Ref sig .tc := ⟨.hbm, 444, rfl⟩
abbrev main_call1_call0_call0_v124 : Ref sig .tc := ⟨.hbm, 445, rfl⟩
abbrev main_call1_call0_call0_c_32 : Ref sig .tc := ⟨.hbm, 446, rfl⟩
abbrev main_call1_call0_call0_v125 : Ref sig .tc := ⟨.hbm, 447, rfl⟩
abbrev main_call1_call0_call0_v126 : Ref sig .tc := ⟨.hbm, 448, rfl⟩
abbrev main_call1_call0_call0_v127 : Ref sig .tc := ⟨.hbm, 449, rfl⟩
abbrev main_call1_call0_call0_v128 : Ref sig .tc := ⟨.hbm, 450, rfl⟩
abbrev main_call1_call0_call0_v129 : Ref sig .tc := ⟨.hbm, 451, rfl⟩
abbrev main_call1_call0_call0_c_33 : Ref sig .tc := ⟨.hbm, 452, rfl⟩
abbrev main_call1_call0_call0_v130 : Ref sig .tc := ⟨.hbm, 453, rfl⟩
abbrev main_call1_call0_call0_v131 : Ref sig .tc := ⟨.hbm, 454, rfl⟩
abbrev main_call1_call0_call0_c_34 : Ref sig .tc := ⟨.hbm, 455, rfl⟩
abbrev main_call1_call0_call0_v132 : Ref sig .tc := ⟨.hbm, 456, rfl⟩
abbrev main_call1_call0_call0_v133 : Ref sig .tc := ⟨.hbm, 457, rfl⟩
abbrev main_call1_call0_call0_v134 : Ref sig .tc := ⟨.hbm, 458, rfl⟩
abbrev main_call1_call0_call0_v135 : Ref sig .tc := ⟨.hbm, 459, rfl⟩
abbrev main_call1_call0_call0_v136 : Ref sig .tc := ⟨.hbm, 460, rfl⟩
abbrev main_call1_call0_call0_v137 : Ref sig .tc := ⟨.hbm, 461, rfl⟩
abbrev main_call1_call0_call0_v138 : Ref sig .tc := ⟨.hbm, 462, rfl⟩
abbrev main_call1_call0_call0_v139 : Ref sig .tc := ⟨.hbm, 463, rfl⟩
abbrev main_call1_call0_call0_c_35 : Ref sig .tc := ⟨.hbm, 464, rfl⟩
abbrev main_call1_call0_call0_v140 : Ref sig .tc := ⟨.hbm, 465, rfl⟩
abbrev main_call1_call0_call0_v141 : Ref sig .tc := ⟨.hbm, 466, rfl⟩
abbrev main_call1_call0_call0_v142 : Ref sig .tc := ⟨.hbm, 467, rfl⟩
abbrev main_call1_call0_call0_c_36 : Ref sig .tc := ⟨.hbm, 468, rfl⟩
abbrev main_call1_call0_call0_v143 : Ref sig .tc := ⟨.hbm, 469, rfl⟩
abbrev main_call1_call0_call0_v144 : Ref sig .tc := ⟨.hbm, 470, rfl⟩
abbrev main_call1_call0_call0_c_37 : Ref sig .tc := ⟨.hbm, 471, rfl⟩
abbrev main_call1_call0_call0_v145 : Ref sig .tc := ⟨.hbm, 472, rfl⟩
abbrev main_call1_call0_call0_v146 : Ref sig .tc := ⟨.hbm, 473, rfl⟩
abbrev main_call1_call0_call0_v147 : Ref sig .tc := ⟨.hbm, 474, rfl⟩
abbrev main_call1_call0_call0_v148 : Ref sig .tc := ⟨.hbm, 475, rfl⟩
abbrev main_call1_call0_call0_v149 : Ref sig .tc := ⟨.hbm, 476, rfl⟩
abbrev main_call1_call0_call0_c_38 : Ref sig .tc := ⟨.hbm, 477, rfl⟩
abbrev main_call1_call0_call0_v150 : Ref sig .tc := ⟨.hbm, 478, rfl⟩
abbrev main_call1_call0_call0_v151 : Ref sig .tc := ⟨.hbm, 479, rfl⟩
abbrev main_call1_call0_call0_c_39 : Ref sig .tc := ⟨.hbm, 480, rfl⟩
abbrev main_call1_call0_call0_v152 : Ref sig .tc := ⟨.hbm, 481, rfl⟩
abbrev main_call1_call0_call0_v153 : Ref sig .tc := ⟨.hbm, 482, rfl⟩
abbrev main_call1_call0_call0_v154 : Ref sig .tc := ⟨.hbm, 483, rfl⟩
abbrev main_call1_call0_call0_v155 : Ref sig .tc := ⟨.hbm, 484, rfl⟩
abbrev main_call1_call0_call0_v156 : Ref sig .tc := ⟨.hbm, 485, rfl⟩
abbrev main_call1_call0_call0_c_40 : Ref sig .tc := ⟨.hbm, 486, rfl⟩
abbrev main_call1_call0_call0_v157 : Ref sig .tc := ⟨.hbm, 487, rfl⟩
abbrev main_call1_call0_call0_v158 : Ref sig .tc := ⟨.hbm, 488, rfl⟩
abbrev main_call1_call0_call0_c_41 : Ref sig .tc := ⟨.hbm, 489, rfl⟩
abbrev main_call1_call0_call0_v159 : Ref sig .tc := ⟨.hbm, 490, rfl⟩
abbrev main_call1_call0_call0_v160 : Ref sig .tc := ⟨.hbm, 491, rfl⟩
abbrev main_call1_call0_call0_v161 : Ref sig .tc := ⟨.hbm, 492, rfl⟩
abbrev main_call1_call0_call0_v162 : Ref sig .tc := ⟨.hbm, 493, rfl⟩
abbrev main_call1_call0_call0_v163 : Ref sig .tc := ⟨.hbm, 494, rfl⟩
abbrev main_call1_call0_call0_c_42 : Ref sig .tc := ⟨.hbm, 495, rfl⟩
abbrev main_call1_call0_call0_v164 : Ref sig .tc := ⟨.hbm, 496, rfl⟩
abbrev main_call1_call0_call0_v165 : Ref sig .tc := ⟨.hbm, 497, rfl⟩
abbrev main_call1_call0_call0_c_43 : Ref sig .tc := ⟨.hbm, 498, rfl⟩
abbrev main_call1_call0_call0_v166 : Ref sig .tc := ⟨.hbm, 499, rfl⟩
abbrev main_call1_call0_call0_v167 : Ref sig .tc := ⟨.hbm, 500, rfl⟩
abbrev main_call1_call0_call0_v168 : Ref sig .tc := ⟨.hbm, 501, rfl⟩
abbrev main_call1_call0_call0_v169 : Ref sig .tc := ⟨.hbm, 502, rfl⟩
abbrev main_call1_call0_call0_v170 : Ref sig .tc := ⟨.hbm, 503, rfl⟩
abbrev main_call1_call0_v18_0 : Ref sig .tc := ⟨.hbm, 504, rfl⟩
abbrev main_call1_call0_call0_v172 : Ref sig .tc := ⟨.hbm, 505, rfl⟩
abbrev main_call1_call0_call0_v173 : Ref sig .tc := ⟨.hbm, 506, rfl⟩
abbrev main_call1_call0_call0_c_44 : Ref sig .tc := ⟨.hbm, 507, rfl⟩
abbrev main_call1_call0_call0_v174 : Ref sig .tc := ⟨.hbm, 508, rfl⟩
abbrev main_call1_call0_v18_1 : Ref sig .tc := ⟨.hbm, 509, rfl⟩
abbrev main_call1_call0_v19 : Ref sig .tc := ⟨.hbm, 510, rfl⟩
abbrev main_call1_call0_c_2 : Ref sig .tc := ⟨.hbm, 511, rfl⟩
abbrev main_call1_call0_v20 : Ref sig .tc := ⟨.hbm, 512, rfl⟩
abbrev main_call1_call0_v21 : Ref sig .tc := ⟨.hbm, 513, rfl⟩
abbrev main_call1_call0_c_3 : Ref sig .tc := ⟨.hbm, 514, rfl⟩
abbrev main_call1_call0_v22 : Ref sig .tc := ⟨.hbm, 515, rfl⟩
abbrev main_call1_call0_v23 : Ref sig .tc := ⟨.hbm, 516, rfl⟩
abbrev main_call1_call0_v24 : Ref sig .tc := ⟨.hbm, 517, rfl⟩
abbrev main_call1_call0_cst : Ref sig .tc := ⟨.hbm, 518, rfl⟩
abbrev main_call1_call0_v25 : Ref sig .tc := ⟨.hbm, 519, rfl⟩
abbrev main_call1_call0_v26 : Ref sig .tc := ⟨.hbm, 520, rfl⟩
abbrev main_call1_call0_v27 : Ref sig .tc := ⟨.hbm, 521, rfl⟩
abbrev main_call1_call0_v28 : Ref sig .tc := ⟨.hbm, 522, rfl⟩
abbrev main_call1_call0_v29 : Ref sig .tc := ⟨.hbm, 523, rfl⟩
abbrev main_call1_call0_v30 : Ref sig .tc := ⟨.hbm, 524, rfl⟩
abbrev main_call1_call0_v31 : Ref sig .tc := ⟨.hbm, 525, rfl⟩
abbrev main_call1_call0_v32 : Ref sig .tc := ⟨.hbm, 526, rfl⟩
abbrev main_call1_v0 : Ref sig .tc := ⟨.hbm, 527, rfl⟩
abbrev main_call1_v1 : Ref sig .tc := ⟨.hbm, 528, rfl⟩
abbrev main_call1_v2 : Ref sig .tc := ⟨.hbm, 529, rfl⟩
abbrev main_call1_v3 : Ref sig .tc := ⟨.hbm, 530, rfl⟩
abbrev main_v17 : Ref sig .tc := ⟨.hbm, 531, rfl⟩
abbrev main_v18 : Ref sig .tc := ⟨.hbm, 532, rfl⟩
abbrev main_call2_v0 : Ref sig .tc := ⟨.hbm, 533, rfl⟩
abbrev main_call2_cst : Ref sig .tc := ⟨.hbm, 534, rfl⟩
abbrev main_call2_c : Ref sig .tc := ⟨.hbm, 535, rfl⟩
abbrev main_call2_v1_0 : Ref sig .tc := ⟨.hbm, 536, rfl⟩
abbrev main_v19 : Ref sig .tc := ⟨.hbm, 537, rfl⟩
abbrev main_v20 : Ref sig .tc := ⟨.hbm, 538, rfl⟩
abbrev main_v21 : Ref sig .tc := ⟨.hbm, 539, rfl⟩
abbrev main_call3_c : Ref sig .tc := ⟨.hbm, 540, rfl⟩
abbrev main_call3_v0 : Ref sig .tc := ⟨.hbm, 541, rfl⟩
abbrev main_call3_v1 : Ref sig .tc := ⟨.hbm, 542, rfl⟩
abbrev main_call3_c_0 : Ref sig .tc := ⟨.hbm, 543, rfl⟩
abbrev main_call3_v2 : Ref sig .tc := ⟨.hbm, 544, rfl⟩
abbrev main_call3_v3 : Ref sig .tc := ⟨.hbm, 545, rfl⟩
abbrev main_call3_v4 : Ref sig .tc := ⟨.hbm, 546, rfl⟩
abbrev main_call3_v5 : Ref sig .tc := ⟨.hbm, 547, rfl⟩
abbrev main_call3_c_1 : Ref sig .tc := ⟨.hbm, 548, rfl⟩
abbrev main_call3_c_2 : Ref sig .tc := ⟨.hbm, 549, rfl⟩
abbrev main_call3_v6 : Ref sig .tc := ⟨.hbm, 550, rfl⟩
abbrev main_call3_v7 : Ref sig .tc := ⟨.hbm, 551, rfl⟩
abbrev main_call3_v8 : Ref sig .tc := ⟨.hbm, 552, rfl⟩
abbrev main_call3_v9 : Ref sig .tc := ⟨.hbm, 553, rfl⟩
abbrev main_call3_v10 : Ref sig .tc := ⟨.hbm, 554, rfl⟩
abbrev main_call3_v11 : Ref sig .tc := ⟨.hbm, 555, rfl⟩
abbrev main_call3_c_3 : Ref sig .tc := ⟨.hbm, 556, rfl⟩
abbrev main_call3_v12 : Ref sig .tc := ⟨.hbm, 557, rfl⟩
abbrev main_call3_v13 : Ref sig .tc := ⟨.hbm, 558, rfl⟩
abbrev main_call3_cst : Ref sig .tc := ⟨.hbm, 559, rfl⟩
abbrev main_call3_v14 : Ref sig .tc := ⟨.hbm, 560, rfl⟩
abbrev main_v22 : Ref sig .tc := ⟨.hbm, 561, rfl⟩
abbrev main_v23 : Ref sig .tc := ⟨.hbm, 562, rfl⟩
abbrev main_v24 : Ref sig .tc := ⟨.hbm, 563, rfl⟩
abbrev main_v25 : Ref sig .tc := ⟨.hbm, 564, rfl⟩
abbrev main_call4_c : Ref sig .tc := ⟨.hbm, 565, rfl⟩
abbrev main_call4_v0 : Ref sig .tc := ⟨.hbm, 566, rfl⟩
abbrev main_call4_v1 : Ref sig .tc := ⟨.hbm, 567, rfl⟩
abbrev main_call4_c_0 : Ref sig .tc := ⟨.hbm, 568, rfl⟩
abbrev main_call4_v2 : Ref sig .tc := ⟨.hbm, 569, rfl⟩
abbrev main_call4_v3 : Ref sig .tc := ⟨.hbm, 570, rfl⟩
abbrev main_call4_v4 : Ref sig .tc := ⟨.hbm, 571, rfl⟩
abbrev main_call4_v5 : Ref sig .tc := ⟨.hbm, 572, rfl⟩
abbrev main_call4_c_1 : Ref sig .tc := ⟨.hbm, 573, rfl⟩
abbrev main_call4_c_2 : Ref sig .tc := ⟨.hbm, 574, rfl⟩
abbrev main_call4_v6 : Ref sig .tc := ⟨.hbm, 575, rfl⟩
abbrev main_call4_v7 : Ref sig .tc := ⟨.hbm, 576, rfl⟩
abbrev main_call4_v8 : Ref sig .tc := ⟨.hbm, 577, rfl⟩
abbrev main_call4_v9 : Ref sig .tc := ⟨.hbm, 578, rfl⟩
abbrev main_call4_v10 : Ref sig .tc := ⟨.hbm, 579, rfl⟩
abbrev main_call4_v11 : Ref sig .tc := ⟨.hbm, 580, rfl⟩
abbrev main_call4_c_3 : Ref sig .tc := ⟨.hbm, 581, rfl⟩
abbrev main_call4_v12 : Ref sig .tc := ⟨.hbm, 582, rfl⟩
abbrev main_call4_v13 : Ref sig .tc := ⟨.hbm, 583, rfl⟩
abbrev main_call4_c_4 : Ref sig .tc := ⟨.hbm, 584, rfl⟩
abbrev main_call4_v14 : Ref sig .tc := ⟨.hbm, 585, rfl⟩
abbrev main_v26 : Ref sig .tc := ⟨.hbm, 586, rfl⟩
abbrev main_v27 : Ref sig .tc := ⟨.hbm, 587, rfl⟩
abbrev main_v28 : Ref sig .tc := ⟨.hbm, 588, rfl⟩
abbrev main_v29 : Ref sig .tc := ⟨.hbm, 589, rfl⟩
abbrev main_v30 : Ref sig .tc := ⟨.hbm, 590, rfl⟩
abbrev main_v31 : Ref sig .tc := ⟨.hbm, 591, rfl⟩
abbrev main_v32 : Ref sig .tc := ⟨.hbm, 592, rfl⟩
abbrev main_c_2 : Ref sig .tc := ⟨.hbm, 593, rfl⟩
abbrev main_v33 : Ref sig .tc := ⟨.hbm, 594, rfl⟩
abbrev main_c_3 : Ref sig .tc := ⟨.hbm, 595, rfl⟩
abbrev main_c_4 : Ref sig .tc := ⟨.hbm, 596, rfl⟩
abbrev main_v34 : Ref sig .tc := ⟨.hbm, 597, rfl⟩
abbrev main_c_5 : Ref sig .tc := ⟨.hbm, 598, rfl⟩
abbrev main_c_6 : Ref sig .tc := ⟨.hbm, 599, rfl⟩
abbrev main_v35 : Ref sig .tc := ⟨.hbm, 600, rfl⟩
abbrev main_c_7 : Ref sig .tc := ⟨.hbm, 601, rfl⟩
abbrev main_v36 : Ref sig .tc := ⟨.hbm, 602, rfl⟩
abbrev main_c_8 : Ref sig .tc := ⟨.hbm, 603, rfl⟩
abbrev main_c_9 : Ref sig .tc := ⟨.hbm, 604, rfl⟩
abbrev main_v37 : Ref sig .tc := ⟨.hbm, 605, rfl⟩
abbrev main_c_10 : Ref sig .tc := ⟨.hbm, 606, rfl⟩
abbrev main_c_11 : Ref sig .tc := ⟨.hbm, 607, rfl⟩
abbrev main_v38 : Ref sig .tc := ⟨.hbm, 608, rfl⟩
abbrev main_c_12 : Ref sig .tc := ⟨.hbm, 609, rfl⟩
abbrev main_v39 : Ref sig .tc := ⟨.hbm, 610, rfl⟩
abbrev main_c_13 : Ref sig .tc := ⟨.hbm, 611, rfl⟩
abbrev main_v40 : Ref sig .tc := ⟨.hbm, 612, rfl⟩
abbrev main_c_14 : Ref sig .tc := ⟨.hbm, 613, rfl⟩
abbrev main_v41 : Ref sig .tc := ⟨.hbm, 614, rfl⟩
abbrev main_v42 : Ref sig .tc := ⟨.hbm, 615, rfl⟩
abbrev main_v43 : Ref sig .tc := ⟨.hbm, 616, rfl⟩
abbrev main_v44 : Ref sig .tc := ⟨.hbm, 617, rfl⟩
abbrev main_call5_c : Ref sig .tc := ⟨.hbm, 618, rfl⟩
abbrev main_call5_v0 : Ref sig .tc := ⟨.hbm, 619, rfl⟩
abbrev main_call5_v1 : Ref sig .tc := ⟨.hbm, 620, rfl⟩
abbrev main_call5_c_0 : Ref sig .tc := ⟨.hbm, 621, rfl⟩
abbrev main_call5_v2 : Ref sig .tc := ⟨.hbm, 622, rfl⟩
abbrev main_call5_v3 : Ref sig .tc := ⟨.hbm, 623, rfl⟩
abbrev main_call5_v4 : Ref sig .tc := ⟨.hbm, 624, rfl⟩
abbrev main_call5_v5 : Ref sig .tc := ⟨.hbm, 625, rfl⟩
abbrev main_call5_c_1 : Ref sig .tc := ⟨.hbm, 626, rfl⟩
abbrev main_call5_c_2 : Ref sig .tc := ⟨.hbm, 627, rfl⟩
abbrev main_call5_v6 : Ref sig .tc := ⟨.hbm, 628, rfl⟩
abbrev main_call5_v7 : Ref sig .tc := ⟨.hbm, 629, rfl⟩
abbrev main_call5_v8 : Ref sig .tc := ⟨.hbm, 630, rfl⟩
abbrev main_call5_v9 : Ref sig .tc := ⟨.hbm, 631, rfl⟩
abbrev main_call5_v10 : Ref sig .tc := ⟨.hbm, 632, rfl⟩
abbrev main_call5_v11 : Ref sig .tc := ⟨.hbm, 633, rfl⟩
abbrev main_call5_c_3 : Ref sig .tc := ⟨.hbm, 634, rfl⟩
abbrev main_call5_v12 : Ref sig .tc := ⟨.hbm, 635, rfl⟩
abbrev main_call5_v13 : Ref sig .tc := ⟨.hbm, 636, rfl⟩
abbrev main_call5_cst : Ref sig .tc := ⟨.hbm, 637, rfl⟩
abbrev main_call5_v14 : Ref sig .tc := ⟨.hbm, 638, rfl⟩
abbrev main_v45 : Ref sig .tc := ⟨.hbm, 639, rfl⟩
abbrev main_v46 : Ref sig .tc := ⟨.hbm, 640, rfl⟩
abbrev main_values_15 : Ref sig .tc := ⟨.hbm, 641, rfl⟩
abbrev main_indices_16 : Ref sig .tc := ⟨.hbm, 642, rfl⟩
abbrev main_v47 : Ref sig .tc := ⟨.hbm, 643, rfl⟩
abbrev main_v48 : Ref sig .tc := ⟨.hbm, 644, rfl⟩
abbrev main_cst_17 : Ref sig .tc := ⟨.hbm, 645, rfl⟩
abbrev main_v49 : Ref sig .tc := ⟨.hbm, 646, rfl⟩
abbrev main_v50 : Ref sig .tc := ⟨.hbm, 647, rfl⟩
abbrev main_v51 : Ref sig .tc := ⟨.hbm, 648, rfl⟩
abbrev main_call6_cst : Ref sig .tc := ⟨.hbm, 649, rfl⟩
abbrev main_call6_cst_0 : Ref sig .tc := ⟨.hbm, 650, rfl⟩
abbrev main_call6_call0_v0 : Ref sig .tc := ⟨.hbm, 651, rfl⟩
abbrev main_call6_call0_v1 : Ref sig .tc := ⟨.hbm, 652, rfl⟩
abbrev main_call6_call0_v2 : Ref sig .tc := ⟨.hbm, 653, rfl⟩
abbrev main_call6_call0_v3 : Ref sig .tc := ⟨.hbm, 654, rfl⟩
abbrev main_call6_call0_v4 : Ref sig .tc := ⟨.hbm, 655, rfl⟩
abbrev main_call6_call0_v5 : Ref sig .tc := ⟨.hbm, 656, rfl⟩
abbrev main_call6_call0_v6 : Ref sig .tc := ⟨.hbm, 657, rfl⟩
abbrev main_call6_call0_v7 : Ref sig .tc := ⟨.hbm, 658, rfl⟩
abbrev main_call6_call0_v8 : Ref sig .tc := ⟨.hbm, 659, rfl⟩
abbrev main_call6_call0_c : Ref sig .tc := ⟨.hbm, 660, rfl⟩
abbrev main_call6_call0_v9 : Ref sig .tc := ⟨.hbm, 661, rfl⟩
abbrev main_call6_call0_v10 : Ref sig .tc := ⟨.hbm, 662, rfl⟩
abbrev main_call6_call0_c_0 : Ref sig .tc := ⟨.hbm, 663, rfl⟩
abbrev main_call6_call0_v11 : Ref sig .tc := ⟨.hbm, 664, rfl⟩
abbrev main_call6_call0_v12 : Ref sig .tc := ⟨.hbm, 665, rfl⟩
abbrev main_call6_call0_v13 : Ref sig .tc := ⟨.hbm, 666, rfl⟩
abbrev main_call6_call0_c_1 : Ref sig .tc := ⟨.hbm, 667, rfl⟩
abbrev main_call6_call0_v14 : Ref sig .tc := ⟨.hbm, 668, rfl⟩
abbrev main_call6_call0_v15 : Ref sig .tc := ⟨.hbm, 669, rfl⟩
abbrev main_call6_call0_v16 : Ref sig .tc := ⟨.hbm, 670, rfl⟩
abbrev main_call6_call0_v17 : Ref sig .tc := ⟨.hbm, 671, rfl⟩
abbrev main_call6_call0_call0_v0 : Ref sig .tc := ⟨.hbm, 672, rfl⟩
abbrev main_call6_call0_call0_c : Ref sig .tc := ⟨.hbm, 673, rfl⟩
abbrev main_call6_call0_call0_v1 : Ref sig .tc := ⟨.hbm, 674, rfl⟩
abbrev main_call6_call0_call0_v2 : Ref sig .tc := ⟨.hbm, 675, rfl⟩
abbrev main_call6_call0_call0_v3 : Ref sig .tc := ⟨.hbm, 676, rfl⟩
abbrev main_call6_call0_call0_v4 : Ref sig .tc := ⟨.hbm, 677, rfl⟩
abbrev main_call6_call0_call0_v5 : Ref sig .tc := ⟨.hbm, 678, rfl⟩
abbrev main_call6_call0_call0_v6 : Ref sig .tc := ⟨.hbm, 679, rfl⟩
abbrev main_call6_call0_call0_c_0 : Ref sig .tc := ⟨.hbm, 680, rfl⟩
abbrev main_call6_call0_call0_v7 : Ref sig .tc := ⟨.hbm, 681, rfl⟩
abbrev main_call6_call0_call0_v8 : Ref sig .tc := ⟨.hbm, 682, rfl⟩
abbrev main_call6_call0_call0_c_1 : Ref sig .tc := ⟨.hbm, 683, rfl⟩
abbrev main_call6_call0_call0_v9 : Ref sig .tc := ⟨.hbm, 684, rfl⟩
abbrev main_call6_call0_call0_v10 : Ref sig .tc := ⟨.hbm, 685, rfl⟩
abbrev main_call6_call0_call0_v11 : Ref sig .tc := ⟨.hbm, 686, rfl⟩
abbrev main_call6_call0_call0_v12 : Ref sig .tc := ⟨.hbm, 687, rfl⟩
abbrev main_call6_call0_call0_v13 : Ref sig .tc := ⟨.hbm, 688, rfl⟩
abbrev main_call6_call0_call0_c_2 : Ref sig .tc := ⟨.hbm, 689, rfl⟩
abbrev main_call6_call0_call0_v14 : Ref sig .tc := ⟨.hbm, 690, rfl⟩
abbrev main_call6_call0_call0_v15 : Ref sig .tc := ⟨.hbm, 691, rfl⟩
abbrev main_call6_call0_call0_c_3 : Ref sig .tc := ⟨.hbm, 692, rfl⟩
abbrev main_call6_call0_call0_v16 : Ref sig .tc := ⟨.hbm, 693, rfl⟩
abbrev main_call6_call0_call0_v17 : Ref sig .tc := ⟨.hbm, 694, rfl⟩
abbrev main_call6_call0_call0_v18 : Ref sig .tc := ⟨.hbm, 695, rfl⟩
abbrev main_call6_call0_call0_v19 : Ref sig .tc := ⟨.hbm, 696, rfl⟩
abbrev main_call6_call0_call0_v20 : Ref sig .tc := ⟨.hbm, 697, rfl⟩
abbrev main_call6_call0_call0_c_4 : Ref sig .tc := ⟨.hbm, 698, rfl⟩
abbrev main_call6_call0_call0_v21 : Ref sig .tc := ⟨.hbm, 699, rfl⟩
abbrev main_call6_call0_call0_v22 : Ref sig .tc := ⟨.hbm, 700, rfl⟩
abbrev main_call6_call0_call0_c_5 : Ref sig .tc := ⟨.hbm, 701, rfl⟩
abbrev main_call6_call0_call0_v23 : Ref sig .tc := ⟨.hbm, 702, rfl⟩
abbrev main_call6_call0_call0_v24 : Ref sig .tc := ⟨.hbm, 703, rfl⟩
abbrev main_call6_call0_call0_v25 : Ref sig .tc := ⟨.hbm, 704, rfl⟩
abbrev main_call6_call0_call0_v26 : Ref sig .tc := ⟨.hbm, 705, rfl⟩
abbrev main_call6_call0_call0_v27 : Ref sig .tc := ⟨.hbm, 706, rfl⟩
abbrev main_call6_call0_call0_c_6 : Ref sig .tc := ⟨.hbm, 707, rfl⟩
abbrev main_call6_call0_call0_v28 : Ref sig .tc := ⟨.hbm, 708, rfl⟩
abbrev main_call6_call0_call0_v29 : Ref sig .tc := ⟨.hbm, 709, rfl⟩
abbrev main_call6_call0_call0_c_7 : Ref sig .tc := ⟨.hbm, 710, rfl⟩
abbrev main_call6_call0_call0_v30 : Ref sig .tc := ⟨.hbm, 711, rfl⟩
abbrev main_call6_call0_call0_v31 : Ref sig .tc := ⟨.hbm, 712, rfl⟩
abbrev main_call6_call0_call0_v32 : Ref sig .tc := ⟨.hbm, 713, rfl⟩
abbrev main_call6_call0_call0_v33 : Ref sig .tc := ⟨.hbm, 714, rfl⟩
abbrev main_call6_call0_call0_v34 : Ref sig .tc := ⟨.hbm, 715, rfl⟩
abbrev main_call6_call0_call0_v35 : Ref sig .tc := ⟨.hbm, 716, rfl⟩
abbrev main_call6_call0_call0_v36 : Ref sig .tc := ⟨.hbm, 717, rfl⟩
abbrev main_call6_call0_call0_v37 : Ref sig .tc := ⟨.hbm, 718, rfl⟩
abbrev main_call6_call0_call0_c_8 : Ref sig .tc := ⟨.hbm, 719, rfl⟩
abbrev main_call6_call0_call0_v38 : Ref sig .tc := ⟨.hbm, 720, rfl⟩
abbrev main_call6_call0_call0_v39 : Ref sig .tc := ⟨.hbm, 721, rfl⟩
abbrev main_call6_call0_call0_v40 : Ref sig .tc := ⟨.hbm, 722, rfl⟩
abbrev main_call6_call0_call0_c_9 : Ref sig .tc := ⟨.hbm, 723, rfl⟩
abbrev main_call6_call0_call0_v41 : Ref sig .tc := ⟨.hbm, 724, rfl⟩
abbrev main_call6_call0_call0_v42 : Ref sig .tc := ⟨.hbm, 725, rfl⟩
abbrev main_call6_call0_call0_c_10 : Ref sig .tc := ⟨.hbm, 726, rfl⟩
abbrev main_call6_call0_call0_v43 : Ref sig .tc := ⟨.hbm, 727, rfl⟩
abbrev main_call6_call0_call0_v44 : Ref sig .tc := ⟨.hbm, 728, rfl⟩
abbrev main_call6_call0_call0_v45 : Ref sig .tc := ⟨.hbm, 729, rfl⟩
abbrev main_call6_call0_call0_v46 : Ref sig .tc := ⟨.hbm, 730, rfl⟩
abbrev main_call6_call0_call0_v47 : Ref sig .tc := ⟨.hbm, 731, rfl⟩
abbrev main_call6_call0_call0_c_11 : Ref sig .tc := ⟨.hbm, 732, rfl⟩
abbrev main_call6_call0_call0_v48 : Ref sig .tc := ⟨.hbm, 733, rfl⟩
abbrev main_call6_call0_call0_v49 : Ref sig .tc := ⟨.hbm, 734, rfl⟩
abbrev main_call6_call0_call0_c_12 : Ref sig .tc := ⟨.hbm, 735, rfl⟩
abbrev main_call6_call0_call0_v50 : Ref sig .tc := ⟨.hbm, 736, rfl⟩
abbrev main_call6_call0_call0_v51 : Ref sig .tc := ⟨.hbm, 737, rfl⟩
abbrev main_call6_call0_call0_v52 : Ref sig .tc := ⟨.hbm, 738, rfl⟩
abbrev main_call6_call0_call0_v53 : Ref sig .tc := ⟨.hbm, 739, rfl⟩
abbrev main_call6_call0_call0_v54 : Ref sig .tc := ⟨.hbm, 740, rfl⟩
abbrev main_call6_call0_call0_c_13 : Ref sig .tc := ⟨.hbm, 741, rfl⟩
abbrev main_call6_call0_call0_v55 : Ref sig .tc := ⟨.hbm, 742, rfl⟩
abbrev main_call6_call0_call0_v56 : Ref sig .tc := ⟨.hbm, 743, rfl⟩
abbrev main_call6_call0_call0_c_14 : Ref sig .tc := ⟨.hbm, 744, rfl⟩
abbrev main_call6_call0_call0_v57 : Ref sig .tc := ⟨.hbm, 745, rfl⟩
abbrev main_call6_call0_call0_v58 : Ref sig .tc := ⟨.hbm, 746, rfl⟩
abbrev main_call6_call0_call0_v59 : Ref sig .tc := ⟨.hbm, 747, rfl⟩
abbrev main_call6_call0_call0_v60 : Ref sig .tc := ⟨.hbm, 748, rfl⟩
abbrev main_call6_call0_call0_v61 : Ref sig .tc := ⟨.hbm, 749, rfl⟩
abbrev main_call6_call0_call0_c_15 : Ref sig .tc := ⟨.hbm, 750, rfl⟩
abbrev main_call6_call0_call0_v62 : Ref sig .tc := ⟨.hbm, 751, rfl⟩
abbrev main_call6_call0_call0_v63 : Ref sig .tc := ⟨.hbm, 752, rfl⟩
abbrev main_call6_call0_call0_c_16 : Ref sig .tc := ⟨.hbm, 753, rfl⟩
abbrev main_call6_call0_call0_v64 : Ref sig .tc := ⟨.hbm, 754, rfl⟩
abbrev main_call6_call0_call0_v65 : Ref sig .tc := ⟨.hbm, 755, rfl⟩
abbrev main_call6_call0_call0_v66 : Ref sig .tc := ⟨.hbm, 756, rfl⟩
abbrev main_call6_call0_call0_v67 : Ref sig .tc := ⟨.hbm, 757, rfl⟩
abbrev main_call6_call0_call0_v68 : Ref sig .tc := ⟨.hbm, 758, rfl⟩
abbrev main_call6_call0_call0_v69 : Ref sig .tc := ⟨.hbm, 759, rfl⟩
abbrev main_call6_call0_call0_v70 : Ref sig .tc := ⟨.hbm, 760, rfl⟩
abbrev main_call6_call0_call0_v71 : Ref sig .tc := ⟨.hbm, 761, rfl⟩
abbrev main_call6_call0_call0_c_17 : Ref sig .tc := ⟨.hbm, 762, rfl⟩
abbrev main_call6_call0_call0_v72 : Ref sig .tc := ⟨.hbm, 763, rfl⟩
abbrev main_call6_call0_call0_v73 : Ref sig .tc := ⟨.hbm, 764, rfl⟩
abbrev main_call6_call0_call0_v74 : Ref sig .tc := ⟨.hbm, 765, rfl⟩
abbrev main_call6_call0_call0_c_18 : Ref sig .tc := ⟨.hbm, 766, rfl⟩
abbrev main_call6_call0_call0_v75 : Ref sig .tc := ⟨.hbm, 767, rfl⟩
abbrev main_call6_call0_call0_v76 : Ref sig .tc := ⟨.hbm, 768, rfl⟩
abbrev main_call6_call0_call0_c_19 : Ref sig .tc := ⟨.hbm, 769, rfl⟩
abbrev main_call6_call0_call0_v77 : Ref sig .tc := ⟨.hbm, 770, rfl⟩
abbrev main_call6_call0_call0_v78 : Ref sig .tc := ⟨.hbm, 771, rfl⟩
abbrev main_call6_call0_call0_v79 : Ref sig .tc := ⟨.hbm, 772, rfl⟩
abbrev main_call6_call0_call0_v80 : Ref sig .tc := ⟨.hbm, 773, rfl⟩
abbrev main_call6_call0_call0_v81 : Ref sig .tc := ⟨.hbm, 774, rfl⟩
abbrev main_call6_call0_call0_c_20 : Ref sig .tc := ⟨.hbm, 775, rfl⟩
abbrev main_call6_call0_call0_v82 : Ref sig .tc := ⟨.hbm, 776, rfl⟩
abbrev main_call6_call0_call0_v83 : Ref sig .tc := ⟨.hbm, 777, rfl⟩
abbrev main_call6_call0_call0_c_21 : Ref sig .tc := ⟨.hbm, 778, rfl⟩
abbrev main_call6_call0_call0_v84 : Ref sig .tc := ⟨.hbm, 779, rfl⟩
abbrev main_call6_call0_call0_v85 : Ref sig .tc := ⟨.hbm, 780, rfl⟩
abbrev main_call6_call0_call0_v86 : Ref sig .tc := ⟨.hbm, 781, rfl⟩
abbrev main_call6_call0_call0_v87 : Ref sig .tc := ⟨.hbm, 782, rfl⟩
abbrev main_call6_call0_call0_v88 : Ref sig .tc := ⟨.hbm, 783, rfl⟩
abbrev main_call6_call0_call0_c_22 : Ref sig .tc := ⟨.hbm, 784, rfl⟩
abbrev main_call6_call0_call0_v89 : Ref sig .tc := ⟨.hbm, 785, rfl⟩
abbrev main_call6_call0_call0_v90 : Ref sig .tc := ⟨.hbm, 786, rfl⟩
abbrev main_call6_call0_call0_c_23 : Ref sig .tc := ⟨.hbm, 787, rfl⟩
abbrev main_call6_call0_call0_v91 : Ref sig .tc := ⟨.hbm, 788, rfl⟩
abbrev main_call6_call0_call0_v92 : Ref sig .tc := ⟨.hbm, 789, rfl⟩
abbrev main_call6_call0_call0_v93 : Ref sig .tc := ⟨.hbm, 790, rfl⟩
abbrev main_call6_call0_call0_v94 : Ref sig .tc := ⟨.hbm, 791, rfl⟩
abbrev main_call6_call0_call0_v95 : Ref sig .tc := ⟨.hbm, 792, rfl⟩
abbrev main_call6_call0_call0_c_24 : Ref sig .tc := ⟨.hbm, 793, rfl⟩
abbrev main_call6_call0_call0_v96 : Ref sig .tc := ⟨.hbm, 794, rfl⟩
abbrev main_call6_call0_call0_v97 : Ref sig .tc := ⟨.hbm, 795, rfl⟩
abbrev main_call6_call0_call0_c_25 : Ref sig .tc := ⟨.hbm, 796, rfl⟩
abbrev main_call6_call0_call0_v98 : Ref sig .tc := ⟨.hbm, 797, rfl⟩
abbrev main_call6_call0_call0_v99 : Ref sig .tc := ⟨.hbm, 798, rfl⟩
abbrev main_call6_call0_call0_v100 : Ref sig .tc := ⟨.hbm, 799, rfl⟩
abbrev main_call6_call0_call0_v101 : Ref sig .tc := ⟨.hbm, 800, rfl⟩
abbrev main_call6_call0_call0_v102 : Ref sig .tc := ⟨.hbm, 801, rfl⟩
abbrev main_call6_call0_call0_v103 : Ref sig .tc := ⟨.hbm, 802, rfl⟩
abbrev main_call6_call0_call0_v104 : Ref sig .tc := ⟨.hbm, 803, rfl⟩
abbrev main_call6_call0_call0_v105 : Ref sig .tc := ⟨.hbm, 804, rfl⟩
abbrev main_call6_call0_call0_c_26 : Ref sig .tc := ⟨.hbm, 805, rfl⟩
abbrev main_call6_call0_call0_v106 : Ref sig .tc := ⟨.hbm, 806, rfl⟩
abbrev main_call6_call0_call0_v107 : Ref sig .tc := ⟨.hbm, 807, rfl⟩
abbrev main_call6_call0_call0_v108 : Ref sig .tc := ⟨.hbm, 808, rfl⟩
abbrev main_call6_call0_call0_c_27 : Ref sig .tc := ⟨.hbm, 809, rfl⟩
abbrev main_call6_call0_call0_v109 : Ref sig .tc := ⟨.hbm, 810, rfl⟩
abbrev main_call6_call0_call0_v110 : Ref sig .tc := ⟨.hbm, 811, rfl⟩
abbrev main_call6_call0_call0_c_28 : Ref sig .tc := ⟨.hbm, 812, rfl⟩
abbrev main_call6_call0_call0_v111 : Ref sig .tc := ⟨.hbm, 813, rfl⟩
abbrev main_call6_call0_call0_v112 : Ref sig .tc := ⟨.hbm, 814, rfl⟩
abbrev main_call6_call0_call0_v113 : Ref sig .tc := ⟨.hbm, 815, rfl⟩
abbrev main_call6_call0_call0_v114 : Ref sig .tc := ⟨.hbm, 816, rfl⟩
abbrev main_call6_call0_call0_v115 : Ref sig .tc := ⟨.hbm, 817, rfl⟩
abbrev main_call6_call0_call0_c_29 : Ref sig .tc := ⟨.hbm, 818, rfl⟩
abbrev main_call6_call0_call0_v116 : Ref sig .tc := ⟨.hbm, 819, rfl⟩
abbrev main_call6_call0_call0_v117 : Ref sig .tc := ⟨.hbm, 820, rfl⟩
abbrev main_call6_call0_call0_c_30 : Ref sig .tc := ⟨.hbm, 821, rfl⟩
abbrev main_call6_call0_call0_v118 : Ref sig .tc := ⟨.hbm, 822, rfl⟩
abbrev main_call6_call0_call0_v119 : Ref sig .tc := ⟨.hbm, 823, rfl⟩
abbrev main_call6_call0_call0_v120 : Ref sig .tc := ⟨.hbm, 824, rfl⟩
abbrev main_call6_call0_call0_v121 : Ref sig .tc := ⟨.hbm, 825, rfl⟩
abbrev main_call6_call0_call0_v122 : Ref sig .tc := ⟨.hbm, 826, rfl⟩
abbrev main_call6_call0_call0_c_31 : Ref sig .tc := ⟨.hbm, 827, rfl⟩
abbrev main_call6_call0_call0_v123 : Ref sig .tc := ⟨.hbm, 828, rfl⟩
abbrev main_call6_call0_call0_v124 : Ref sig .tc := ⟨.hbm, 829, rfl⟩
abbrev main_call6_call0_call0_c_32 : Ref sig .tc := ⟨.hbm, 830, rfl⟩
abbrev main_call6_call0_call0_v125 : Ref sig .tc := ⟨.hbm, 831, rfl⟩
abbrev main_call6_call0_call0_v126 : Ref sig .tc := ⟨.hbm, 832, rfl⟩
abbrev main_call6_call0_call0_v127 : Ref sig .tc := ⟨.hbm, 833, rfl⟩
abbrev main_call6_call0_call0_v128 : Ref sig .tc := ⟨.hbm, 834, rfl⟩
abbrev main_call6_call0_call0_v129 : Ref sig .tc := ⟨.hbm, 835, rfl⟩
abbrev main_call6_call0_call0_c_33 : Ref sig .tc := ⟨.hbm, 836, rfl⟩
abbrev main_call6_call0_call0_v130 : Ref sig .tc := ⟨.hbm, 837, rfl⟩
abbrev main_call6_call0_call0_v131 : Ref sig .tc := ⟨.hbm, 838, rfl⟩
abbrev main_call6_call0_call0_c_34 : Ref sig .tc := ⟨.hbm, 839, rfl⟩
abbrev main_call6_call0_call0_v132 : Ref sig .tc := ⟨.hbm, 840, rfl⟩
abbrev main_call6_call0_call0_v133 : Ref sig .tc := ⟨.hbm, 841, rfl⟩
abbrev main_call6_call0_call0_v134 : Ref sig .tc := ⟨.hbm, 842, rfl⟩
abbrev main_call6_call0_call0_v135 : Ref sig .tc := ⟨.hbm, 843, rfl⟩
abbrev main_call6_call0_call0_v136 : Ref sig .tc := ⟨.hbm, 844, rfl⟩
abbrev main_call6_call0_call0_v137 : Ref sig .tc := ⟨.hbm, 845, rfl⟩
abbrev main_call6_call0_call0_v138 : Ref sig .tc := ⟨.hbm, 846, rfl⟩
abbrev main_call6_call0_call0_v139 : Ref sig .tc := ⟨.hbm, 847, rfl⟩
abbrev main_call6_call0_call0_c_35 : Ref sig .tc := ⟨.hbm, 848, rfl⟩
abbrev main_call6_call0_call0_v140 : Ref sig .tc := ⟨.hbm, 849, rfl⟩
abbrev main_call6_call0_call0_v141 : Ref sig .tc := ⟨.hbm, 850, rfl⟩
abbrev main_call6_call0_call0_v142 : Ref sig .tc := ⟨.hbm, 851, rfl⟩
abbrev main_call6_call0_call0_c_36 : Ref sig .tc := ⟨.hbm, 852, rfl⟩
abbrev main_call6_call0_call0_v143 : Ref sig .tc := ⟨.hbm, 853, rfl⟩
abbrev main_call6_call0_call0_v144 : Ref sig .tc := ⟨.hbm, 854, rfl⟩
abbrev main_call6_call0_call0_c_37 : Ref sig .tc := ⟨.hbm, 855, rfl⟩
abbrev main_call6_call0_call0_v145 : Ref sig .tc := ⟨.hbm, 856, rfl⟩
abbrev main_call6_call0_call0_v146 : Ref sig .tc := ⟨.hbm, 857, rfl⟩
abbrev main_call6_call0_call0_v147 : Ref sig .tc := ⟨.hbm, 858, rfl⟩
abbrev main_call6_call0_call0_v148 : Ref sig .tc := ⟨.hbm, 859, rfl⟩
abbrev main_call6_call0_call0_v149 : Ref sig .tc := ⟨.hbm, 860, rfl⟩
abbrev main_call6_call0_call0_c_38 : Ref sig .tc := ⟨.hbm, 861, rfl⟩
abbrev main_call6_call0_call0_v150 : Ref sig .tc := ⟨.hbm, 862, rfl⟩
abbrev main_call6_call0_call0_v151 : Ref sig .tc := ⟨.hbm, 863, rfl⟩
abbrev main_call6_call0_call0_c_39 : Ref sig .tc := ⟨.hbm, 864, rfl⟩
abbrev main_call6_call0_call0_v152 : Ref sig .tc := ⟨.hbm, 865, rfl⟩
abbrev main_call6_call0_call0_v153 : Ref sig .tc := ⟨.hbm, 866, rfl⟩
abbrev main_call6_call0_call0_v154 : Ref sig .tc := ⟨.hbm, 867, rfl⟩
abbrev main_call6_call0_call0_v155 : Ref sig .tc := ⟨.hbm, 868, rfl⟩
abbrev main_call6_call0_call0_v156 : Ref sig .tc := ⟨.hbm, 869, rfl⟩
abbrev main_call6_call0_call0_c_40 : Ref sig .tc := ⟨.hbm, 870, rfl⟩
abbrev main_call6_call0_call0_v157 : Ref sig .tc := ⟨.hbm, 871, rfl⟩
abbrev main_call6_call0_call0_v158 : Ref sig .tc := ⟨.hbm, 872, rfl⟩
abbrev main_call6_call0_call0_c_41 : Ref sig .tc := ⟨.hbm, 873, rfl⟩
abbrev main_call6_call0_call0_v159 : Ref sig .tc := ⟨.hbm, 874, rfl⟩
abbrev main_call6_call0_call0_v160 : Ref sig .tc := ⟨.hbm, 875, rfl⟩
abbrev main_call6_call0_call0_v161 : Ref sig .tc := ⟨.hbm, 876, rfl⟩
abbrev main_call6_call0_call0_v162 : Ref sig .tc := ⟨.hbm, 877, rfl⟩
abbrev main_call6_call0_call0_v163 : Ref sig .tc := ⟨.hbm, 878, rfl⟩
abbrev main_call6_call0_call0_c_42 : Ref sig .tc := ⟨.hbm, 879, rfl⟩
abbrev main_call6_call0_call0_v164 : Ref sig .tc := ⟨.hbm, 880, rfl⟩
abbrev main_call6_call0_call0_v165 : Ref sig .tc := ⟨.hbm, 881, rfl⟩
abbrev main_call6_call0_call0_c_43 : Ref sig .tc := ⟨.hbm, 882, rfl⟩
abbrev main_call6_call0_call0_v166 : Ref sig .tc := ⟨.hbm, 883, rfl⟩
abbrev main_call6_call0_call0_v167 : Ref sig .tc := ⟨.hbm, 884, rfl⟩
abbrev main_call6_call0_call0_v168 : Ref sig .tc := ⟨.hbm, 885, rfl⟩
abbrev main_call6_call0_call0_v169 : Ref sig .tc := ⟨.hbm, 886, rfl⟩
abbrev main_call6_call0_call0_v170 : Ref sig .tc := ⟨.hbm, 887, rfl⟩
abbrev main_call6_call0_v18_0 : Ref sig .tc := ⟨.hbm, 888, rfl⟩
abbrev main_call6_call0_call0_v172 : Ref sig .tc := ⟨.hbm, 889, rfl⟩
abbrev main_call6_call0_call0_v173 : Ref sig .tc := ⟨.hbm, 890, rfl⟩
abbrev main_call6_call0_call0_c_44 : Ref sig .tc := ⟨.hbm, 891, rfl⟩
abbrev main_call6_call0_call0_v174 : Ref sig .tc := ⟨.hbm, 892, rfl⟩
abbrev main_call6_call0_v18_1 : Ref sig .tc := ⟨.hbm, 893, rfl⟩
abbrev main_call6_call0_v19 : Ref sig .tc := ⟨.hbm, 894, rfl⟩
abbrev main_call6_call0_c_2 : Ref sig .tc := ⟨.hbm, 895, rfl⟩
abbrev main_call6_call0_v20 : Ref sig .tc := ⟨.hbm, 896, rfl⟩
abbrev main_call6_call0_v21 : Ref sig .tc := ⟨.hbm, 897, rfl⟩
abbrev main_call6_call0_c_3 : Ref sig .tc := ⟨.hbm, 898, rfl⟩
abbrev main_call6_call0_v22 : Ref sig .tc := ⟨.hbm, 899, rfl⟩
abbrev main_call6_call0_v23 : Ref sig .tc := ⟨.hbm, 900, rfl⟩
abbrev main_call6_call0_v24 : Ref sig .tc := ⟨.hbm, 901, rfl⟩
abbrev main_call6_call0_cst : Ref sig .tc := ⟨.hbm, 902, rfl⟩
abbrev main_call6_call0_v25 : Ref sig .tc := ⟨.hbm, 903, rfl⟩
abbrev main_call6_call0_v26 : Ref sig .tc := ⟨.hbm, 904, rfl⟩
abbrev main_call6_call0_v27 : Ref sig .tc := ⟨.hbm, 905, rfl⟩
abbrev main_call6_call0_v28 : Ref sig .tc := ⟨.hbm, 906, rfl⟩
abbrev main_call6_call0_v29 : Ref sig .tc := ⟨.hbm, 907, rfl⟩
abbrev main_call6_call0_v30 : Ref sig .tc := ⟨.hbm, 908, rfl⟩
abbrev main_call6_call0_v31 : Ref sig .tc := ⟨.hbm, 909, rfl⟩
abbrev main_call6_call0_v32 : Ref sig .tc := ⟨.hbm, 910, rfl⟩
abbrev main_call6_v0 : Ref sig .tc := ⟨.hbm, 911, rfl⟩
abbrev main_call6_v1 : Ref sig .tc := ⟨.hbm, 912, rfl⟩
abbrev main_call6_v2 : Ref sig .tc := ⟨.hbm, 913, rfl⟩
abbrev main_call6_v3 : Ref sig .tc := ⟨.hbm, 914, rfl⟩
abbrev main_v52 : Ref sig .tc := ⟨.hbm, 915, rfl⟩
abbrev main_v53 : Ref sig .tc := ⟨.hbm, 916, rfl⟩
abbrev main_call7_v0 : Ref sig .tc := ⟨.hbm, 917, rfl⟩
abbrev main_call7_cst : Ref sig .tc := ⟨.hbm, 918, rfl⟩
abbrev main_call7_c : Ref sig .tc := ⟨.hbm, 919, rfl⟩
abbrev main_call7_v1_0 : Ref sig .tc := ⟨.hbm, 920, rfl⟩
abbrev main_v54 : Ref sig .tc := ⟨.hbm, 921, rfl⟩
abbrev main_v55 : Ref sig .tc := ⟨.hbm, 922, rfl⟩
abbrev main_v56 : Ref sig .tc := ⟨.hbm, 923, rfl⟩
abbrev main_call8_c : Ref sig .tc := ⟨.hbm, 924, rfl⟩
abbrev main_call8_v0 : Ref sig .tc := ⟨.hbm, 925, rfl⟩
abbrev main_call8_v1 : Ref sig .tc := ⟨.hbm, 926, rfl⟩
abbrev main_call8_c_0 : Ref sig .tc := ⟨.hbm, 927, rfl⟩
abbrev main_call8_v2 : Ref sig .tc := ⟨.hbm, 928, rfl⟩
abbrev main_call8_v3 : Ref sig .tc := ⟨.hbm, 929, rfl⟩
abbrev main_call8_v4 : Ref sig .tc := ⟨.hbm, 930, rfl⟩
abbrev main_call8_v5 : Ref sig .tc := ⟨.hbm, 931, rfl⟩
abbrev main_call8_c_1 : Ref sig .tc := ⟨.hbm, 932, rfl⟩
abbrev main_call8_c_2 : Ref sig .tc := ⟨.hbm, 933, rfl⟩
abbrev main_call8_v6 : Ref sig .tc := ⟨.hbm, 934, rfl⟩
abbrev main_call8_v7 : Ref sig .tc := ⟨.hbm, 935, rfl⟩
abbrev main_call8_v8 : Ref sig .tc := ⟨.hbm, 936, rfl⟩
abbrev main_call8_v9 : Ref sig .tc := ⟨.hbm, 937, rfl⟩
abbrev main_call8_v10 : Ref sig .tc := ⟨.hbm, 938, rfl⟩
abbrev main_call8_v11 : Ref sig .tc := ⟨.hbm, 939, rfl⟩
abbrev main_call8_c_3 : Ref sig .tc := ⟨.hbm, 940, rfl⟩
abbrev main_call8_v12 : Ref sig .tc := ⟨.hbm, 941, rfl⟩
abbrev main_call8_v13 : Ref sig .tc := ⟨.hbm, 942, rfl⟩
abbrev main_call8_cst : Ref sig .tc := ⟨.hbm, 943, rfl⟩
abbrev main_call8_v14 : Ref sig .tc := ⟨.hbm, 944, rfl⟩
abbrev main_v57 : Ref sig .tc := ⟨.hbm, 945, rfl⟩
abbrev main_v58 : Ref sig .tc := ⟨.hbm, 946, rfl⟩
abbrev main_v59 : Ref sig .tc := ⟨.hbm, 947, rfl⟩
abbrev main_v60 : Ref sig .tc := ⟨.hbm, 948, rfl⟩
abbrev main_call9_c : Ref sig .tc := ⟨.hbm, 949, rfl⟩
abbrev main_call9_v0 : Ref sig .tc := ⟨.hbm, 950, rfl⟩
abbrev main_call9_v1 : Ref sig .tc := ⟨.hbm, 951, rfl⟩
abbrev main_call9_c_0 : Ref sig .tc := ⟨.hbm, 952, rfl⟩
abbrev main_call9_v2 : Ref sig .tc := ⟨.hbm, 953, rfl⟩
abbrev main_call9_v3 : Ref sig .tc := ⟨.hbm, 954, rfl⟩
abbrev main_call9_v4 : Ref sig .tc := ⟨.hbm, 955, rfl⟩
abbrev main_call9_v5 : Ref sig .tc := ⟨.hbm, 956, rfl⟩
abbrev main_call9_c_1 : Ref sig .tc := ⟨.hbm, 957, rfl⟩
abbrev main_call9_c_2 : Ref sig .tc := ⟨.hbm, 958, rfl⟩
abbrev main_call9_v6 : Ref sig .tc := ⟨.hbm, 959, rfl⟩
abbrev main_call9_v7 : Ref sig .tc := ⟨.hbm, 960, rfl⟩
abbrev main_call9_v8 : Ref sig .tc := ⟨.hbm, 961, rfl⟩
abbrev main_call9_v9 : Ref sig .tc := ⟨.hbm, 962, rfl⟩
abbrev main_call9_v10 : Ref sig .tc := ⟨.hbm, 963, rfl⟩
abbrev main_call9_v11 : Ref sig .tc := ⟨.hbm, 964, rfl⟩
abbrev main_call9_c_3 : Ref sig .tc := ⟨.hbm, 965, rfl⟩
abbrev main_call9_v12 : Ref sig .tc := ⟨.hbm, 966, rfl⟩
abbrev main_call9_v13 : Ref sig .tc := ⟨.hbm, 967, rfl⟩
abbrev main_call9_c_4 : Ref sig .tc := ⟨.hbm, 968, rfl⟩
abbrev main_call9_v14 : Ref sig .tc := ⟨.hbm, 969, rfl⟩
abbrev main_v61 : Ref sig .tc := ⟨.hbm, 970, rfl⟩
abbrev main_v62 : Ref sig .tc := ⟨.hbm, 971, rfl⟩
abbrev main_v63 : Ref sig .tc := ⟨.hbm, 972, rfl⟩
abbrev main_v64 : Ref sig .tc := ⟨.hbm, 973, rfl⟩
abbrev main_v65 : Ref sig .tc := ⟨.hbm, 974, rfl⟩
abbrev main_v66 : Ref sig .tc := ⟨.hbm, 975, rfl⟩
abbrev main_v67 : Ref sig .tc := ⟨.hbm, 976, rfl⟩
abbrev main_c_18 : Ref sig .tc := ⟨.hbm, 977, rfl⟩
abbrev main_v68 : Ref sig .tc := ⟨.hbm, 978, rfl⟩
abbrev main_c_19 : Ref sig .tc := ⟨.hbm, 979, rfl⟩
abbrev main_c_20 : Ref sig .tc := ⟨.hbm, 980, rfl⟩
abbrev main_v69 : Ref sig .tc := ⟨.hbm, 981, rfl⟩
abbrev main_c_21 : Ref sig .tc := ⟨.hbm, 982, rfl⟩
abbrev main_c_22 : Ref sig .tc := ⟨.hbm, 983, rfl⟩
abbrev main_v70 : Ref sig .tc := ⟨.hbm, 984, rfl⟩
abbrev main_c_23 : Ref sig .tc := ⟨.hbm, 985, rfl⟩
abbrev main_v71 : Ref sig .tc := ⟨.hbm, 986, rfl⟩
abbrev main_c_24 : Ref sig .tc := ⟨.hbm, 987, rfl⟩
abbrev main_c_25 : Ref sig .tc := ⟨.hbm, 988, rfl⟩
abbrev main_v72 : Ref sig .tc := ⟨.hbm, 989, rfl⟩
abbrev main_c_26 : Ref sig .tc := ⟨.hbm, 990, rfl⟩
abbrev main_c_27 : Ref sig .tc := ⟨.hbm, 991, rfl⟩
abbrev main_v73 : Ref sig .tc := ⟨.hbm, 992, rfl⟩
abbrev main_c_28 : Ref sig .tc := ⟨.hbm, 993, rfl⟩
abbrev main_v74 : Ref sig .tc := ⟨.hbm, 994, rfl⟩
abbrev main_c_29 : Ref sig .tc := ⟨.hbm, 995, rfl⟩
abbrev main_v75 : Ref sig .tc := ⟨.hbm, 996, rfl⟩
abbrev main_c_30 : Ref sig .tc := ⟨.hbm, 997, rfl⟩
abbrev main_v76 : Ref sig .tc := ⟨.hbm, 998, rfl⟩
abbrev main_v77 : Ref sig .tc := ⟨.hbm, 999, rfl⟩
abbrev main_v78 : Ref sig .tc := ⟨.hbm, 1000, rfl⟩
abbrev main_v79 : Ref sig .tc := ⟨.hbm, 1001, rfl⟩
abbrev main_call10_c : Ref sig .tc := ⟨.hbm, 1002, rfl⟩
abbrev main_call10_v0 : Ref sig .tc := ⟨.hbm, 1003, rfl⟩
abbrev main_call10_v1 : Ref sig .tc := ⟨.hbm, 1004, rfl⟩
abbrev main_call10_c_0 : Ref sig .tc := ⟨.hbm, 1005, rfl⟩
abbrev main_call10_v2 : Ref sig .tc := ⟨.hbm, 1006, rfl⟩
abbrev main_call10_v3 : Ref sig .tc := ⟨.hbm, 1007, rfl⟩
abbrev main_call10_v4 : Ref sig .tc := ⟨.hbm, 1008, rfl⟩
abbrev main_call10_v5 : Ref sig .tc := ⟨.hbm, 1009, rfl⟩
abbrev main_call10_c_1 : Ref sig .tc := ⟨.hbm, 1010, rfl⟩
abbrev main_call10_c_2 : Ref sig .tc := ⟨.hbm, 1011, rfl⟩
abbrev main_call10_v6 : Ref sig .tc := ⟨.hbm, 1012, rfl⟩
abbrev main_call10_v7 : Ref sig .tc := ⟨.hbm, 1013, rfl⟩
abbrev main_call10_v8 : Ref sig .tc := ⟨.hbm, 1014, rfl⟩
abbrev main_call10_v9 : Ref sig .tc := ⟨.hbm, 1015, rfl⟩
abbrev main_call10_v10 : Ref sig .tc := ⟨.hbm, 1016, rfl⟩
abbrev main_call10_v11 : Ref sig .tc := ⟨.hbm, 1017, rfl⟩
abbrev main_call10_c_3 : Ref sig .tc := ⟨.hbm, 1018, rfl⟩
abbrev main_call10_v12 : Ref sig .tc := ⟨.hbm, 1019, rfl⟩
abbrev main_call10_v13 : Ref sig .tc := ⟨.hbm, 1020, rfl⟩
abbrev main_call10_cst : Ref sig .tc := ⟨.hbm, 1021, rfl⟩
abbrev main_call10_v14 : Ref sig .tc := ⟨.hbm, 1022, rfl⟩
abbrev main_v80 : Ref sig .tc := ⟨.hbm, 1023, rfl⟩
abbrev main_v81 : Ref sig .tc := ⟨.hbm, 1024, rfl⟩

abbrev nD : Nat := 1
abbrev τ : Topo := Topo.v7x

variable {F : FTy → Type} [FloatOps F]
-- ==== Proof.KernelRun.lean ====
module

public import proofs.«01_k».proof.Proof.Gen.KernelIdeal.Frame

@[expose] public section
set_option maxRecDepth 16384
noncomputable section

/-! The idealized kernel's run, with every unscoped buffer's final contents. -/

namespace Cert.Proof.Run
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with the unscoped buffers at the contents after the last stretch and every counter at zero. -/
theorem run : θ_run defs (onTc (τ := τ) (main (F := F))) ⟨m, fun _ => 0, ρ⟩ (fun r => (∀ c : Dev nD, ∀ b : Ref sig .tc,
      ¬ (Proc.devRef .tc b : DevRef τ sig).isScoped → r.2.mem ((c.tc : Thread nD τ).loc b) = W10 m ρ c (Proc.devRef .tc b))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => ⟨fun c b hb => h c _ (mem_uc b hb), funext fun g => hz g (.inr (no_unscoped g.2))⟩)

end Cert.Proof.Run
end
end
-- ==== Proof.Body.lean ====
module

public import proofs.«01_k».proof.Proof.Gen.KernelIdeal.Frame

@[expose] public section
noncomputable section

/-! The kernel's block as whole-vector operations: the network's levels, the extraction loop and the sampling tail, each
    stated once for the two launches, and the generated runs read as these. -/

namespace Cert.Proof.Body
open Idealize Idealize.ShloMosaic Idealize.SL Idealize.SL.Sem Cert.KernelIdeal Cert.KernelIdeal.Gen

variable {F : FTy → Type} [FloatOps F]

/-- One level of the network: a value and a position for every row and lane. -/
abbrev Level (F : FTy → Type) := FVec F S8x128 .f32 × IVec S8x128 32

/-- A chunk goes down the levels: where it exceeds a level it takes its place, and what it displaces goes on. -/
def ins (p : Level F) : List (Level F) → List (Level F)
  | [] => []
  | t :: ts =>
    (select (cmpf .ogt p.1 t.1) p.1 t.1, select (cmpf .ogt p.1 t.1) p.2 t.2)
      :: ins (select (cmpf .ogt p.1 t.1) t.1 p.1, select (cmpf .ogt p.1 t.1) t.2 p.2) ts

/-- The first `n` chunks of a sequence go down the levels, in order. -/
def run (x : ℕ → Level F) : ℕ → List (Level F) → List (Level F)
  | 0, L => L
  | n + 1, L => ins (x n) (run x n L)

/-- What the network's loop carries: fourteen vectors of values, fourteen of positions. -/
abbrev Carry (F : FTy → Type) := FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × IVec S8x128 32 × IVec S8x128 32 × IVec S8x128 32 × IVec S8x128 32 × IVec S8x128 32 × IVec S8x128 32 × IVec S8x128 32 × IVec S8x128 32 × IVec S8x128 32 × IVec S8x128 32 × IVec S8x128 32 × IVec S8x128 32 × IVec S8x128 32 × IVec S8x128 32

/-- The levels that a carried state holds. -/
def pack (acc : Carry F) : List (Level F) :=
  [(acc.1, acc.2.2.2.2.2.2.2.2.2.2.2.2.2.2.1),
   (acc.2.1, acc.2.2.2.2.2.2.2.2.2.2.2.2.2.2.2.1),
   (acc.2.2.1, acc.2.2.2.2.2.2.2.2.2.2.2.2.2.2.2.2.1),
   (acc.2.2.2.1, acc.2.2.2.2.2.2.2.2.2.2.2.2.2.2.2.2.2.1),
   (acc.2.2.2.2.1, acc.2.2.2.2.2.2.2.2.2.2.2.2.2.2.2.2.2.2.1),
   (acc.2.2.2.2.2.1, acc.2.2.2.2.2.2.2.2.2.2.2.2.2.2.2.2.2.2.2.1),
   (acc.2.2.2.2.2.2.1, acc.2.2.2.2.2.2.2.2.2.2.2.2.2.2.2.2.2.2.2.2.1),
   (acc.2.2.2.2.2.2.2.1, acc.2.2.2.2.2.2.2.2.2.2.2.2.2.2.2.2.2.2.2.2.2.1),
   (acc.2.2.2.2.2.2.2.2.1, acc.2.2.2.2.2.2.2.2.2.2.2.2.2.2.2.2.2.2.2.2.2.2.1),
   (acc.2.2.2.2.2.2.2.2.2.1, acc.2.2.2.2.2.2.2.2.2.2.2.2.2.2.2.2.2.2.2.2.2.2.2.1),
   (acc.2.2.2.2.2.2.2.2.2.2.1, acc.2.2.2.2.2.2.2.2.2.2.2.2.2.2.2.2.2.2.2.2.2.2.2.2.1),
   (acc.2.2.2.2.2.2.2.2.2.2.2.1, acc.2.2.2.2.2.2.2.2.2.2.2.2.2.2.2.2.2.2.2.2.2.2.2.2.2.1),
   (acc.2.2.2.2.2.2.2.2.2.2.2.2.1, acc.2.2.2.2.2.2.2.2.2.2.2.2.2.2.2.2.2.2.2.2.2.2.2.2.2.2.1),
   (acc.2.2.2.2.2.2.2.2.2.2.2.2.2.1, acc.2.2.2.2.2.2.2.2.2.2.2.2.2.2.2.2.2.2.2.2.2.2.2.2.2.2.2)]

/-- The lane numbers. -/
abbrev lanes : IVec S8x128 32 := iota Kind.tc S8x128 32 [1] iota_S8x128_d1_w32
/-- The column numbers. -/
abbrev cols : IVec S8x64 32 := iota Kind.tc S8x64 32 [1] iota_S8x64_d1_w32

/-- Chunk `u` of trip `k`: the values and their positions. -/
def chunk (arg1 : Memref sig .tc .vmem S8x100000 .f32) (X : BufTy.Contents (Elt F) arg1.view.ty)
    (k : Fin k0_t1_loop.trips) (u : ℕ) : Level F :=
  (shapeCast S8x128 (View.readAt (Elt F) arg1.view (Rect.unit (s := S8x100000) (k0_off1 k (BitVec.ofNat 32 (Fin.ofNat 16 u).val))
      S8x128.size (k0_off1_inb k (Fin.ofNat 16 u))).toLoadRect X) shapeCasts_S8x128_S8x128,
   addi (broadcast S8x128 (Scalar.muli (Scalar.addi (Scalar.muli (Scf.iv 0#32 1#32 k) 16#32) (BitVec.ofNat 32 u)) 128#32)) lanes)

/-- The levels after `n` trips of the loop. -/
def trips (arg1 : Memref sig .tc .vmem S8x100000 .f32) (X : BufTy.Contents (Elt F) arg1.view.ty) : ℕ → List (Level F) → List (Level F)
  | 0, L => L
  | n + 1, L => if h : n < k0_t1_loop.trips then run (chunk arg1 X ⟨n, h⟩) 16 (trips arg1 X n L) else trips arg1 X n L

theorem lit_inb (n : ℕ) : ∀ a, (![0, 98304 + 128 * (n % 13)] : Fin 2 → ℕ) a + S8x128.size a ≤ S8x100000.size a := by
  intro a
  have := Nat.mod_lt n (by decide : 0 < 13)
  fin_cases a <;> simp <;> omega

/-- The full chunk `n` after the loop. -/
def lit (arg1 : Memref sig .tc .vmem S8x100000 .f32) (X : BufTy.Contents (Elt F) arg1.view.ty) (n : ℕ) : Level F :=
  (shapeCast S8x128 (View.readAt (Elt F) arg1.view (Rect.unit (s := S8x100000) ![0, 98304 + 128 * (n % 13)] S8x128.size
      (lit_inb n)).toLoadRect X) shapeCasts_S8x128_S8x128,
   addi (broadcast S8x128 (BitVec.ofNat 32 (98304 + 128 * (n % 13)))) lanes)

/-- The last, overlapping chunk: only its lanes from 96 on are new. -/
def last (arg1 : Memref sig .tc .vmem S8x100000 .f32) (X : BufTy.Contents (Elt F) arg1.view.ty) : Level F :=
  (select (cmpi .sge lanes (broadcast S8x128 96#32))
      (shapeCast S8x128 (View.readAt (Elt F) arg1.view (Rect.unit (s := S8x100000) ![0, 99872] S8x128.size
        inb_S8x100000_S8x128_0_99872).toLoadRect X) shapeCasts_S8x128_S8x128)
      (broadcast S8x128 (Scalar.ofBits .f32 0xFF800000#32)),
   addi (broadcast S8x128 99872#32) lanes)

/-- The levels before any chunk: −∞ everywhere, at position 0. -/
def start : List (Level F) := List.replicate 14 (broadcast S8x128 (Scalar.ofBits .f32 0xFF800000#32), broadcast S8x128 0#32)

/-- The levels after every chunk. -/
def levels (arg1 : Memref sig .tc .vmem S8x100000 .f32) (X : BufTy.Contents (Elt F) arg1.view.ty) : List (Level F) :=
  ins (last arg1 X) (run (lit arg1 X) 13 (trips arg1 X 48 start))

/-- Level `n` of a list of levels. -/
def lv (L : List (Level F)) (n : ℕ) : Level F :=
  L.getD n (broadcast S8x128 (Scalar.ofBits .f32 0xFF800000#32), broadcast S8x128 0#32)

/-- The candidates' values, level by level. -/
def candV (L : List (Level F)) : FVec F S8x1792 .f32 :=
  concatenate S8x1792 1 [⟨S8x128, (lv L 0).1⟩, ⟨S8x128, (lv L 1).1⟩, ⟨S8x128, (lv L 2).1⟩, ⟨S8x128, (lv L 3).1⟩, ⟨S8x128, (lv L 4).1⟩, ⟨S8x128, (lv L 5).1⟩, ⟨S8x128, (lv L 6).1⟩, ⟨S8x128, (lv L 7).1⟩, ⟨S8x128, (lv L 8).1⟩, ⟨S8x128, (lv L 9).1⟩, ⟨S8x128, (lv L 10).1⟩, ⟨S8x128, (lv L 11).1⟩, ⟨S8x128, (lv L 12).1⟩, ⟨S8x128, (lv L 13).1⟩]
    concatenates_S8x128_S8x128_S8x128_S8x128_S8x128_S8x128_S8x128_S8x128_S8x128_S8x128_S8x128_S8x128_S8x128_S8x128_S8x1792_d1
/-- The candidates' positions, level by level. -/
def candJ (L : List (Level F)) : IVec S8x1792 32 :=
  concatenate S8x1792 1 [⟨S8x128, (lv L 0).2⟩, ⟨S8x128, (lv L 1).2⟩, ⟨S8x128, (lv L 2).2⟩, ⟨S8x128, (lv L 3).2⟩, ⟨S8x128, (lv L 4).2⟩, ⟨S8x128, (lv L 5).2⟩, ⟨S8x128, (lv L 6).2⟩, ⟨S8x128, (lv L 7).2⟩, ⟨S8x128, (lv L 8).2⟩, ⟨S8x128, (lv L 9).2⟩, ⟨S8x128, (lv L 10).2⟩, ⟨S8x128, (lv L 11).2⟩, ⟨S8x128, (lv L 12).2⟩, ⟨S8x128, (lv L 13).2⟩]
    concatenates_S8x128_S8x128_S8x128_S8x128_S8x128_S8x128_S8x128_S8x128_S8x128_S8x128_S8x128_S8x128_S8x128_S8x128_S8x1792_d1

/-- The candidates that come after the last one extracted. -/
def maskOf (cv : FVec F S8x1792 .f32) (cj : IVec S8x1792 32) (v : FVec F S8x1 .f32) (i : IVec S8x1 32) : IVec S8x1792 1 :=
  ori (cmpf .olt cv (broadcastTo S8x1792 v broadcasts_S8x1_S8x1792))
    (andi (cmpf .oeq cv (broadcastTo S8x1792 v broadcasts_S8x1_S8x1792))
      (cmpi .sgt cj (broadcastTo S8x1792 i broadcasts_S8x1_S8x1792)))
/-- The candidates that come after the last one extracted, −∞ elsewhere. -/
def leftV (cv : FVec F S8x1792 .f32) (cj : IVec S8x1792 32) (v : FVec F S8x1 .f32) (i : IVec S8x1 32) : FVec F S8x1792 .f32 :=
  select (maskOf cv cj v i) cv (broadcast S8x1792 (Scalar.ofBits .f32 0xFF800000#32))
/-- The next value. -/
def nextV (cv : FVec F S8x1792 .f32) (cj : IVec S8x1792 32) (v : FVec F S8x1 .f32) (i : IVec S8x1 32) : FVec F S8x1 .f32 :=
  shapeCast S8x1 (multiReduction .maximumf [1] S8 (leftV cv cj v i) 0xFF800000#32 reduces_S8x1792_S8 (.inl rfl) rfl) shapeCasts_S8_S8x1
/-- The next position. -/
def nextJ (cv : FVec F S8x1792 .f32) (cj : IVec S8x1792 32) (v : FVec F S8x1 .f32) (i : IVec S8x1 32) : IVec S8x1 32 :=
  shapeCast S8x1 (multiReductionI .minsi [1] S8
    (select (andi (cmpf .oeq (leftV cv cj v i) (broadcastTo S8x1792 (nextV cv cj v i) broadcasts_S8x1_S8x1792)) (maskOf cv cj v i))
      cj (broadcast S8x1792 100000#32)) 2147483647#32 reduces_S8x1792_S8 rfl) shapeCasts_S8_S8x1

/-- What the extraction carries: the last value and position, and the two tables so far. -/
abbrev Tables (F : FTy → Type) := FVec F S8x1 .f32 × IVec S8x1 32 × FVec F S8x64 .f32 × IVec S8x64 32

/-- One extraction. -/
def extract (cv : FVec F S8x1792 .f32) (cj : IVec S8x1792 32) (k : Fin k0_t2_loop.trips) (s : Tables F) : Tables F :=
  (nextV cv cj s.1 s.2.1, nextJ cv cj s.1 s.2.1,
   select (cmpi .eq cols (broadcast S8x64 (Scf.iv 0#32 1#32 k)))
     (broadcastTo S8x64 (shapeCast S8x1 (nextV cv cj s.1 s.2.1) shapeCasts_S8x1_S8x1) broadcasts_S8x1_S8x64) s.2.2.1,
   select (cmpi .eq cols (broadcast S8x64 (Scf.iv 0#32 1#32 k)))
     (broadcastTo S8x64 (shapeCast S8x1 (nextJ cv cj s.1 s.2.1) shapeCasts_S8x1_S8x1) broadcasts_S8x1_S8x64) s.2.2.2)

/-- The two tables after every extraction. -/
def tables (cv : FVec F S8x1792 .f32) (cj : IVec S8x1792 32) : Tables F :=
  Scf.fold (extract cv cj)
    (broadcast S8x1 (Scalar.ofBits .f32 0x7F800000#32), broadcast S8x1 4294967295#32,
     broadcast S8x64 (Scalar.ofBits .f32 0x00000000#32), broadcast S8x64 0#32)

/-- The perturbed log-probabilities. -/
def noisy (V : FVec F S8x64 .f32) (g : FVec F S8x64 .f32) : FVec F S8x64 .f32 :=
  addf (log (maximumf (exp V) (broadcast S8x64 (Scalar.ofBits .f32 0x0DA24260#32)))) (shapeCast S8x64 g shapeCasts_S8x64_S8x64)
/-- The column drawn, as a mask. -/
def drawn (V : FVec F S8x64 .f32) (g : FVec F S8x64 .f32) : IVec S8x64 1 :=
  cmpi .eq cols (broadcastTo S8x64 (shapeCast S8x1 (multiReductionI .minsi [1] S8
    (select (cmpf .oeq (noisy V g) (broadcastTo S8x64 (shapeCast S8x1
      (multiReduction .maximumf [1] S8 (noisy V g) 0xFF800000#32 reduces_S8x64_S8 (.inl rfl) rfl) shapeCasts_S8_S8x1) broadcasts_S8x1_S8x64))
      cols (broadcast S8x64 64#32)) 2147483647#32 reduces_S8x64_S8 rfl) shapeCasts_S8_S8x1) broadcasts_S8x1_S8x64)
/-- The score stored. -/
def scoreOf (V : FVec F S8x64 .f32) (g : FVec F S8x64 .f32) (p : FVec F S8x1 .f32) : FVec F S8x1 .f32 :=
  addf (log (exp (shapeCast S8x1 (multiReduction .maximumf [1] S8
    (select (drawn V g) V (broadcast S8x64 (Scalar.ofBits .f32 0xFF800000#32))) 0xFF800000#32 reduces_S8x64_S8 (.inl rfl) rfl)
    shapeCasts_S8_S8x1))) (shapeCast S8x1 p shapeCasts_S8x1_S8x1)
/-- The position stored. -/
def indexOf (V : FVec F S8x64 .f32) (J : IVec S8x64 32) (g : FVec F S8x64 .f32) : IVec S8x1 32 :=
  shapeCast S8x1 (multiReductionI .maxsi [1] S8
    (select (drawn V g) J (broadcast S8x64 0#32)) 2147483648#32 reduces_S8x64_S8 rfl) shapeCasts_S8_S8x1

set_option maxHeartbeats 40000000

/-! ## Launch 0 -/

theorem trip0_levels (𝒱 : Variants) (c : Dev nD) (bd : Option 𝒱.V) (i : grid0.Coords) (arg1 : Memref sig .tc .vmem S8x100000 .f32) (harg1 : arg1.IsWhole) (arg2 : Memref sig .tc .vmem S8x64 .f32) (harg2 : arg2.IsWhole) (arg3 : Memref sig .tc .vmem S8x1 .f32) (harg3 : arg3.IsWhole) (arg4 : Memref sig .tc .vmem S8x1 .f32) (harg4 : arg4.IsWhole) (arg5 : Memref sig .tc .vmem S8x1 .i32) (harg5 : arg5.IsWhole) (v2 : FVec F S8x128 .f32) (v3 : FVec F S8x128 .f32) (v4 : FVec F S8x128 .f32) (v5 : FVec F S8x128 .f32) (v6 : FVec F S8x128 .f32) (v7 : FVec F S8x128 .f32) (v8 : FVec F S8x128 .f32) (v9 : FVec F S8x128 .f32) (v10 : FVec F S8x128 .f32) (v11 : FVec F S8x128 .f32) (v12 : FVec F S8x128 .f32) (v13 : FVec F S8x128 .f32) (v14 : FVec F S8x128 .f32) (v15 : FVec F S8x128 .f32) (v16 : IVec S8x128 32) (v17 : IVec S8x128 32) (v18 : IVec S8x128 32) (v19 : IVec S8x128 32) (v20 : IVec S8x128 32) (v21 : IVec S8x128 32) (v22 : IVec S8x128 32) (v23 : IVec S8x128 32) (v24 : IVec S8x128 32) (v25 : IVec S8x128 32) (v26 : IVec S8x128 32) (v27 : IVec S8x128 32) (v28 : IVec S8x128 32) (v29 : IVec S8x128 32) (X_arg1 : BufTy.Contents (Elt F) arg1.view.ty) (k : Fin k0_t1_loop.trips) (acc : Carry F) :
    pack (tripR_k0_t1 (F := F) 𝒱 c bd i arg1 harg1 arg2 harg2 arg3 harg3 arg4 harg4 arg5 harg5 lanes v2 v3 v4 v5 v6 v7 v8 v9 v10 v11 v12 v13 v14 v15 v16 v17 v18 v19 v20 v21 v22 v23 v24 v25 v26 v27 v28 v29 0#32 X_arg1 k acc)
      = run (chunk arg1 X_arg1 k) 16 (pack acc) := by sl_kernel_rfl

/-- The state of the network's loop after `n` trips. -/
def state0 (c : Dev nD) (i : grid0.Coords) (arg1 : Memref sig .tc .vmem S8x100000 .f32) (harg1 : arg1.IsWhole) (arg2 : Memref sig .tc .vmem S8x64 .f32) (harg2 : arg2.IsWhole) (arg3 : Memref sig .tc .vmem S8x1 .f32) (harg3 : arg3.IsWhole) (arg4 : Memref sig .tc .vmem S8x1 .f32) (harg4 : arg4.IsWhole) (arg5 : Memref sig .tc .vmem S8x1 .i32) (harg5 : arg5.IsWhole)
    (x0 : Vec F S8x100000 .f32) (n : ℕ) : Carry F :=
  st_k0_t1 Variants.none c none i arg1 harg1 arg2 harg2 arg3 harg3 arg4 harg4 arg5 harg5 lanes k0_pay1090 k0_pay1091 k0_pay1092 k0_pay1093 k0_pay1094 k0_pay1095 k0_pay1096 k0_pay1097 k0_pay1098 k0_pay1099 k0_pay1100 k0_pay1101 k0_pay1102 k0_pay1103 k0_pay1104 k0_pay1105 k0_pay1106 k0_pay1107 k0_pay1108 k0_pay1109 k0_pay1110 k0_pay1111 k0_pay1112 k0_pay1113 k0_pay1114 k0_pay1115 k0_pay1116 k0_pay1117 0#32 (harg1.unread x0)
    (k0_pay1090, k0_pay1091, k0_pay1092, k0_pay1093, k0_pay1094, k0_pay1095, k0_pay1096, k0_pay1097, k0_pay1098, k0_pay1099, k0_pay1100, k0_pay1101, k0_pay1102, k0_pay1103, k0_pay1104, k0_pay1105, k0_pay1106, k0_pay1107, k0_pay1108, k0_pay1109, k0_pay1110, k0_pay1111, k0_pay1112, k0_pay1113, k0_pay1114, k0_pay1115, k0_pay1116, k0_pay1117) n

section
variable (c : Dev nD) (i : grid0.Coords) (arg1 : Memref sig .tc .vmem S8x100000 .f32) (harg1 : arg1.IsWhole) (arg2 : Memref sig .tc .vmem S8x64 .f32) (harg2 : arg2.IsWhole) (arg3 : Memref sig .tc .vmem S8x1 .f32) (harg3 : arg3.IsWhole) (arg4 : Memref sig .tc .vmem S8x1 .f32) (harg4 : arg4.IsWhole) (arg5 : Memref sig .tc .vmem S8x1 .i32) (harg5 : arg5.IsWhole)
    (x0 : Vec F S8x100000 .f32) (x1 : Vec F S8x64 .f32) (x2 : Vec F S8x1 .f32)

theorem state0_levels (n : ℕ) (hn : n ≤ k0_t1_loop.trips) :
    pack (state0 c i arg1 harg1 arg2 harg2 arg3 harg3 arg4 harg4 arg5 harg5 x0 n) = trips arg1 (harg1.unread x0) n start := by
  induction n with
  | zero => sl_kernel_rfl
  | succ n ih =>
    have h : n < k0_t1_loop.trips := hn
    rw [trips, dif_pos h, ← ih (Nat.le_of_succ_le hn)]
    refine (congrArg pack (st_k0_t1_succ (k := ⟨n, hn⟩) ..)).trans ?_
    exact trip0_levels ..

/-- The levels the extraction of launch 0 reads. -/
def ends0 : List (Level F) :=
  ins (last arg1 (harg1.unread x0)) (run (lit arg1 (harg1.unread x0)) 13 (pack (state0 c i arg1 harg1 arg2 harg2 arg3 harg3 arg4 harg4 arg5 harg5 x0 48)))

theorem ends0_eq : ends0 c i arg1 harg1 arg2 harg2 arg3 harg3 arg4 harg4 arg5 harg5 x0 = levels arg1 (harg1.unread x0) := by
  unfold ends0 levels
  rw [state0_levels c i arg1 harg1 arg2 harg2 arg3 harg3 arg4 harg4 arg5 harg5 x0 48 (by decide)]

theorem pieces0_score : (kernelRun0_A c i arg1 harg1 arg2 harg2 arg3 harg3 arg4 harg4 arg5 harg5 x0 x1 x2).1 = [⟨Rect.unit ![0, 0] ![8, 1] inb_S8x1_S8x1_0_0,
    scoreOf (tables (candV (ends0 c i arg1 harg1 arg2 harg2 arg3 harg3 arg4 harg4 arg5 harg5 x0)) (candJ (ends0 c i arg1 harg1 arg2 harg2 arg3 harg3 arg4 harg4 arg5 harg5 x0))).2.2.1
      (View.readAt (Elt F) arg2.view (Rect.unit (s := S8x64) ![0, 0] S8x64.size inb_S8x64_S8x64_0_0).toLoadRect (harg2.unread x1))
      (View.readAt (Elt F) arg3.view (Rect.unit (s := S8x1) ![0, 0] S8x1.size inb_S8x1_S8x1_0_0).toLoadRect (harg3.unread x2))⟩] := by
  sl_kernel_rfl

theorem pieces0_index : (kernelRun0_A c i arg1 harg1 arg2 harg2 arg3 harg3 arg4 harg4 arg5 harg5 x0 x1 x2).2.1 = [⟨Rect.unit ![0, 0] ![8, 1] inb_S8x1_S8x1_0_0,
    indexOf (tables (candV (ends0 c i arg1 harg1 arg2 harg2 arg3 harg3 arg4 harg4 arg5 harg5 x0)) (candJ (ends0 c i arg1 harg1 arg2 harg2 arg3 harg3 arg4 harg4 arg5 harg5 x0))).2.2.1
      (tables (candV (ends0 c i arg1 harg1 arg2 harg2 arg3 harg3 arg4 harg4 arg5 harg5 x0)) (candJ (ends0 c i arg1 harg1 arg2 harg2 arg3 harg3 arg4 harg4 arg5 harg5 x0))).2.2.2
      (View.readAt (Elt F) arg2.view (Rect.unit (s := S8x64) ![0, 0] S8x64.size inb_S8x64_S8x64_0_0).toLoadRect (harg2.unread x1))⟩] := by
  sl_kernel_rfl

end

/-! ## Launch 1 -/

theorem trip1_levels (𝒱 : Variants) (c : Dev nD) (bd : Option 𝒱.V) (i : grid1.Coords) (arg1 : Memref sig .tc .vmem S8x100000 .f32) (harg1 : arg1.IsWhole) (arg2 : Memref sig .tc .vmem S8x64 .f32) (harg2 : arg2.IsWhole) (arg3 : Memref sig .tc .vmem S8x1 .f32) (harg3 : arg3.IsWhole) (arg4 : Memref sig .tc .vmem S8x1 .f32) (harg4 : arg4.IsWhole) (arg5 : Memref sig .tc .vmem S8x1 .i32) (harg5 : arg5.IsWhole) (v2 : FVec F S8x128 .f32) (v3 : FVec F S8x128 .f32) (v4 : FVec F S8x128 .f32) (v5 : FVec F S8x128 .f32) (v6 : FVec F S8x128 .f32) (v7 : FVec F S8x128 .f32) (v8 : FVec F S8x128 .f32) (v9 : FVec F S8x128 .f32) (v10 : FVec F S8x128 .f32) (v11 : FVec F S8x128 .f32) (v12 : FVec F S8x128 .f32) (v13 : FVec F S8x128 .f32) (v14 : FVec F S8x128 .f32) (v15 : FVec F S8x128 .f32) (v16 : IVec S8x128 32) (v17 : IVec S8x128 32) (v18 : IVec S8x128 32) (v19 : IVec S8x128 32) (v20 : IVec S8x128 32) (v21 : IVec S8x128 32) (v22 : IVec S8x128 32) (v23 : IVec S8x128 32) (v24 : IVec S8x128 32) (v25 : IVec S8x128 32) (v26 : IVec S8x128 32) (v27 : IVec S8x128 32) (v28 : IVec S8x128 32) (v29 : IVec S8x128 32) (X_arg1 : BufTy.Contents (Elt F) arg1.view.ty) (k : Fin k1_t1_loop.trips) (acc : Carry F) :
    pack (tripR_k1_t1 (F := F) 𝒱 c bd i arg1 harg1 arg2 harg2 arg3 harg3 arg4 harg4 arg5 harg5 lanes v2 v3 v4 v5 v6 v7 v8 v9 v10 v11 v12 v13 v14 v15 v16 v17 v18 v19 v20 v21 v22 v23 v24 v25 v26 v27 v28 v29 0#32 X_arg1 k acc)
      = run (chunk arg1 X_arg1 k) 16 (pack acc) := by sl_kernel_rfl

/-- The state of the network's loop after `n` trips. -/
def state1 (c : Dev nD) (i : grid1.Coords) (arg1 : Memref sig .tc .vmem S8x100000 .f32) (harg1 : arg1.IsWhole) (arg2 : Memref sig .tc .vmem S8x64 .f32) (harg2 : arg2.IsWhole) (arg3 : Memref sig .tc .vmem S8x1 .f32) (harg3 : arg3.IsWhole) (arg4 : Memref sig .tc .vmem S8x1 .f32) (harg4 : arg4.IsWhole) (arg5 : Memref sig .tc .vmem S8x1 .i32) (harg5 : arg5.IsWhole)
    (x0 : Vec F S8x100000 .f32) (n : ℕ) : Carry F :=
  st_k1_t1 Variants.none c none i arg1 harg1 arg2 harg2 arg3 harg3 arg4 harg4 arg5 harg5 lanes k1_pay1090 k1_pay1091 k1_pay1092 k1_pay1093 k1_pay1094 k1_pay1095 k1_pay1096 k1_pay1097 k1_pay1098 k1_pay1099 k1_pay1100 k1_pay1101 k1_pay1102 k1_pay1103 k1_pay1104 k1_pay1105 k1_pay1106 k1_pay1107 k1_pay1108 k1_pay1109 k1_pay1110 k1_pay1111 k1_pay1112 k1_pay1113 k1_pay1114 k1_pay1115 k1_pay1116 k1_pay1117 0#32 (harg1.unread x0)
    (k1_pay1090, k1_pay1091, k1_pay1092, k1_pay1093, k1_pay1094, k1_pay1095, k1_pay1096, k1_pay1097, k1_pay1098, k1_pay1099, k1_pay1100, k1_pay1101, k1_pay1102, k1_pay1103, k1_pay1104, k1_pay1105, k1_pay1106, k1_pay1107, k1_pay1108, k1_pay1109, k1_pay1110, k1_pay1111, k1_pay1112, k1_pay1113, k1_pay1114, k1_pay1115, k1_pay1116, k1_pay1117) n

section
variable (c : Dev nD) (i : grid1.Coords) (arg1 : Memref sig .tc .vmem S8x100000 .f32) (harg1 : arg1.IsWhole) (arg2 : Memref sig .tc .vmem S8x64 .f32) (harg2 : arg2.IsWhole) (arg3 : Memref sig .tc .vmem S8x1 .f32) (harg3 : arg3.IsWhole) (arg4 : Memref sig .tc .vmem S8x1 .f32) (harg4 : arg4.IsWhole) (arg5 : Memref sig .tc .vmem S8x1 .i32) (harg5 : arg5.IsWhole)
    (x0 : Vec F S8x100000 .f32) (x1 : Vec F S8x64 .f32) (x2 : Vec F S8x1 .f32)

theorem state1_levels (n : ℕ) (hn : n ≤ k1_t1_loop.trips) :
    pack (state1 c i arg1 harg1 arg2 harg2 arg3 harg3 arg4 harg4 arg5 harg5 x0 n) = trips arg1 (harg1.unread x0) n start := by
  induction n with
  | zero => sl_kernel_rfl
  | succ n ih =>
    have h : n < k0_t1_loop.trips := hn
    rw [trips, dif_pos h, ← ih (Nat.le_of_succ_le hn)]
    refine (congrArg pack (st_k1_t1_succ (k := ⟨n, hn⟩) ..)).trans ?_
    exact trip1_levels ..

/-- The levels the extraction of launch 1 reads. -/
def ends1 : List (Level F) :=
  ins (last arg1 (harg1.unread x0)) (run (lit arg1 (harg1.unread x0)) 13 (pack (state1 c i arg1 harg1 arg2 harg2 arg3 harg3 arg4 harg4 arg5 harg5 x0 48)))

theorem ends1_eq : ends1 c i arg1 harg1 arg2 harg2 arg3 harg3 arg4 harg4 arg5 harg5 x0 = levels arg1 (harg1.unread x0) := by
  unfold ends1 levels
  rw [state1_levels c i arg1 harg1 arg2 harg2 arg3 harg3 arg4 harg4 arg5 harg5 x0 48 (by decide)]

theorem pieces1_score : (kernelRun1_A c i arg1 harg1 arg2 harg2 arg3 harg3 arg4 harg4 arg5 harg5 x0 x1 x2).1 = [⟨Rect.unit ![0, 0] ![8, 1] inb_S8x1_S8x1_0_0,
    scoreOf (tables (candV (ends1 c i arg1 harg1 arg2 harg2 arg3 harg3 arg4 harg4 arg5 harg5 x0)) (candJ (ends1 c i arg1 harg1 arg2 harg2 arg3 harg3 arg4 harg4 arg5 harg5 x0))).2.2.1
      (View.readAt (Elt F) arg2.view (Rect.unit (s := S8x64) ![0, 0] S8x64.size inb_S8x64_S8x64_0_0).toLoadRect (harg2.unread x1))
      (View.readAt (Elt F) arg3.view (Rect.unit (s := S8x1) ![0, 0] S8x1.size inb_S8x1_S8x1_0_0).toLoadRect (harg3.unread x2))⟩] := by
  sl_kernel_rfl

theorem pieces1_index : (kernelRun1_A c i arg1 harg1 arg2 harg2 arg3 harg3 arg4 harg4 arg5 harg5 x0 x1 x2).2.1 = [⟨Rect.unit ![0, 0] ![8, 1] inb_S8x1_S8x1_0_0,
    indexOf (tables (candV (ends1 c i arg1 harg1 arg2 harg2 arg3 harg3 arg4 harg4 arg5 harg5 x0)) (candJ (ends1 c i arg1 harg1 arg2 harg2 arg3 harg3 arg4 harg4 arg5 harg5 x0))).2.2.1
      (tables (candV (ends1 c i arg1 harg1 arg2 harg2 arg3 harg3 arg4 harg4 arg5 harg5 x0)) (candJ (ends1 c i arg1 harg1 arg2 harg2 arg3 harg3 arg4 harg4 arg5 harg5 x0))).2.2.2
      (View.readAt (Elt F) arg2.view (Rect.unit (s := S8x64) ![0, 0] S8x64.size inb_S8x64_S8x64_0_0).toLoadRect (harg2.unread x1))⟩] := by
  sl_kernel_rfl

end

end Cert.Proof.Body
end
end
-- ==== Proof.Net.lean ====
module

public import proofs.«01_k».proof.Proof.Body
public import Idealize.ShloMosaic.Lib.Pointwise

@[expose] public section
noncomputable section

/-! The insertion network in one lane: pairs of a value and a position go down fourteen levels, and the levels keep every
    pair that is high enough. -/

namespace Cert.Proof.Net
open Idealize Idealize.ShloMosaic Cert.KernelIdeal Cert.KernelIdeal.Gen

variable {α β : Type} [LinearOrder α]

/-- A pair goes down the levels. -/
def ins (p : α × β) : List (α × β) → List (α × β)
  | [] => []
  | t :: ts => (if t.1 < p.1 then p else t) :: ins (if t.1 < p.1 then t else p) ts

/-- What falls out below the last level. -/
def out (p : α × β) : List (α × β) → α × β
  | [] => p
  | t :: ts => out (if t.1 < p.1 then t else p) ts

/-- The first `n` pairs of a sequence go down the levels. -/
def run (x : ℕ → α × β) : ℕ → List (α × β) → List (α × β)
  | 0, L => L
  | n + 1, L => ins (x n) (run x n L)

theorem ins_perm (p : α × β) (L : List (α × β)) : (out p L :: ins p L).Perm (p :: L) := by
  induction L generalizing p with
  | nil => exact List.Perm.refl _
  | cons t ts ih =>
    rw [out, ins]
    refine (List.Perm.swap _ _ _).trans (((ih _).cons _).trans ?_)
    by_cases h : t.1 < p.1
    · simp [h]
    · simp only [h, if_false]; exact List.Perm.swap _ _ _

theorem ins_length (p : α × β) (L : List (α × β)) : (ins p L).length = L.length := by
  have := (ins_perm p L).length_eq
  simpa using this

theorem ins_sorted (p : α × β) (L : List (α × β)) (h : L.Pairwise fun a b => b.1 ≤ a.1) :
    (ins p L ++ [out p L]).Pairwise fun a b => b.1 ≤ a.1 := by
  induction L generalizing p with
  | nil => simp [ins]
  | cons t ts ih =>
    rw [List.pairwise_cons] at h
    rw [out, ins, List.cons_append, List.pairwise_cons]
    refine ⟨fun a ha => ?_, ih _ h.2⟩
    have hm : a ∈ (if t.1 < p.1 then t else p) :: ts := by
      refine (ins_perm _ ts).mem_iff.mp ?_
      simp only [List.mem_append, List.mem_cons, List.not_mem_nil, or_false] at ha ⊢
      exact ha.symm
    rcases List.mem_cons.mp hm with rfl | hm
    · split <;> rename_i hc
      · exact hc.le
      · exact not_lt.mp hc
    · refine (h.1 a hm).trans ?_
      split <;> rename_i hc
      · exact hc.le
      · exact le_rfl

/-- Whatever holds of the pairs and of the levels before holds of the levels after. -/
theorem run_forall (P : α × β → Prop) (x : ℕ → α × β) (n : ℕ) (L : List (α × β)) (hx : ∀ m < n, P (x m)) (hL : ∀ t ∈ L, P t) :
    ∀ t ∈ run x n L, P t := by
  induction n with
  | zero => exact hL
  | succ n ih =>
    intro t ht
    have : t ∈ x n :: run x n L := (ins_perm _ _).mem_iff.mp (List.mem_cons_of_mem _ ht)
    rcases List.mem_cons.mp this with rfl | h
    · exact hx n (Nat.lt_succ_self n)
    · exact ih (fun m hm => hx m (by omega)) t h

theorem run_keeps (a : α) (x : ℕ → α × β) (n : ℕ) (L : List (α × β)) (hs : L.Pairwise fun a b => b.1 ≤ a.1)
    (hlow : ∀ t ∈ L, t.1 < a) (hc : ((Finset.range n).filter fun m => a ≤ (x m).1).card ≤ L.length) :
    (run x n L).Pairwise (fun a b => b.1 ≤ a.1) ∧ (run x n L).length = L.length ∧
      (run x n L).countP (fun t => decide (a ≤ t.1)) = ((Finset.range n).filter fun m => a ≤ (x m).1).card ∧
      ∀ m < n, a ≤ (x m).1 → x m ∈ run x n L := by
  induction n with
  | zero =>
    refine ⟨hs, rfl, ?_, by simp⟩
    simp only [run, Finset.range_zero, Finset.filter_empty, Finset.card_empty, List.countP_eq_zero, decide_eq_true_eq, not_le]
    exact hlow
  | succ n ih =>
    have hsplit : ((Finset.range (n + 1)).filter fun m => a ≤ (x m).1).card
        = ((Finset.range n).filter fun m => a ≤ (x m).1).card + if a ≤ (x n).1 then 1 else 0 := by
      rw [Finset.range_add_one, Finset.filter_insert]
      split
      · rw [Finset.card_insert_of_notMem (by simp)]
      · simp
    rw [hsplit] at hc
    obtain ⟨h1, h2, h3, h4⟩ := ih (by omega)
    have hp := ins_perm (x n) (run x n L)
    have hso := ins_sorted (x n) _ h1
    have hcount := hp.countP_eq (fun t => decide (a ≤ t.1))
    rw [List.countP_cons, List.countP_cons, h3] at hcount
    simp only [decide_eq_true_eq] at hcount
    rw [List.pairwise_append] at hso
    have hlen : (ins (x n) (run x n L)).length = L.length := (ins_length _ _).trans h2
    have hd : ¬ a ≤ (out (x n) (run x n L)).1 := by
      intro had
      have hall : (ins (x n) (run x n L)).countP (fun t => decide (a ≤ t.1)) = L.length := by
        rw [← hlen, List.countP_eq_length]
        intro t ht
        exact decide_eq_true (had.trans (hso.2.2 t ht _ (by simp)))
      rw [hall, if_pos had] at hcount
      omega
    rw [if_neg hd] at hcount
    refine ⟨hso.1, hlen, ?_, fun m hm hma => ?_⟩
    · rw [hsplit]; exact hcount
    · have hmem : x m ∈ x n :: run x n L := by
        rcases Nat.lt_succ_iff_lt_or_eq.mp hm with h | rfl
        · exact List.mem_cons_of_mem _ (h4 m h hma)
        · exact List.mem_cons_self ..
      rcases List.mem_cons.mp (hp.mem_iff.mpr hmem) with h | h
      · exact absurd (h ▸ hma) hd
      · exact h

/-! ## The vector network, read at a row and a lane -/

/-- A level read at a row and a lane. -/
def at_ (i : S8x128.Idx) (t : Body.Level Ideal) : EReal × BitVec 32 := (t.1 i, t.2 i)

theorem sel_at {σ : Type} {s : Shape} (c : IVec s 1) (a b : s.Idx → σ) (i : s.Idx) :
    select c a b i = Scalar.select (c i) (a i) (b i) := rfl

theorem sel_ofBool {σ : Type} (p : Prop) [Decidable p] (a b : σ) :
    Scalar.select (BitVec.ofBool (decide p)) a b = if p then a else b := by
  by_cases h : p <;> simp [h, Scalar.select]

theorem ins_at (i : S8x128.Idx) (p : Body.Level Ideal) (L : List (Body.Level Ideal)) :
    (Body.ins p L).map (at_ i) = ins (at_ i p) (L.map (at_ i)) := by
  induction L generalizing p with
  | nil => rfl
  | cons t ts ih =>
    rw [Body.ins, List.map_cons, ih, List.map_cons, ins]
    have hg : cmpf .ogt p.1 t.1 i = BitVec.ofBool (decide (t.1 i < p.1 i)) := rfl
    have h1 : at_ i (select (cmpf .ogt p.1 t.1) p.1 t.1, select (cmpf .ogt p.1 t.1) p.2 t.2)
        = if (at_ i t).1 < (at_ i p).1 then at_ i p else at_ i t := by
      simp only [at_, sel_at, hg, sel_ofBool]
      by_cases h : t.1 i < p.1 i <;> simp only [h, if_true, if_false]
    have h2 : at_ i (select (cmpf .ogt p.1 t.1) t.1 p.1, select (cmpf .ogt p.1 t.1) t.2 p.2)
        = if (at_ i t).1 < (at_ i p).1 then at_ i t else at_ i p := by
      simp only [at_, sel_at, hg, sel_ofBool]
      by_cases h : t.1 i < p.1 i <;> simp only [h, if_true, if_false]
    rw [h1, h2]

theorem run_at (i : S8x128.Idx) (x : ℕ → Body.Level Ideal) (n : ℕ) (L : List (Body.Level Ideal)) :
    (Body.run x n L).map (at_ i) = run (fun m => at_ i (x m)) n (L.map (at_ i)) := by
  induction n with
  | zero => rfl
  | succ n ih => rw [Body.run, ins_at, ih, run]

theorem run_succ (x : ℕ → α × β) (n : ℕ) (L : List (α × β)) : run x (n + 1) L = ins (x n) (run x n L) := rfl

theorem run_add (x : ℕ → α × β) (m n : ℕ) (L : List (α × β)) : run x (m + n) L = run (fun k => x (m + k)) n (run x m L) := by
  induction n with
  | zero => rfl
  | succ n ih => rw [← Nat.add_assoc, run, ih, run]

theorem run_congr (x y : ℕ → α × β) (n : ℕ) (L : List (α × β)) (h : ∀ m < n, x m = y m) : run x n L = run y n L := by
  induction n with
  | zero => rfl
  | succ n ih => rw [run, run, ih fun m hm => h m (by omega), h n (Nat.lt_succ_self n)]

end Cert.Proof.Net
end
end
-- ==== Proof.Order.lean ====
module

public import Idealize.ShloMosaic.Lib.Pointwise
public import Idealize.ShloMosaic.Lib.SortPrefix
public import proofs.«01_k».proof.Proof.Gen.ReferenceIdeal

@[expose] public section
noncomputable section

/-! The order in which the greatest entries of a row are taken: by value, descending, and among equal values by position,
    ascending. -/

namespace Cert.Proof.Order
open Idealize Idealize.ShloMosaic Cert.ReferenceIdeal Cert.ReferenceIdeal.Gen

/-- Entry `j` of a row comes before entry `j'`. -/
def Before {n : ℕ} (x : Fin n → EReal) (j j' : Fin n) : Prop := x j' < x j ∨ x j' = x j ∧ j < j'

/-- The list of a row's positions in order. -/
structure Ranks {n : ℕ} (x : Fin n → EReal) (ρ : Fin n → Fin n) : Prop where
  surj : Function.Surjective ρ
  order : ∀ s t, s < t → Before x (ρ s) (ρ t)

section stable
variable {ι : Type}

theorem stable_of_increasing (R B : ι → ι → Bool) (l : List ι) (h : l.Pairwise fun a b => R b a = B b a) :
    stableSort R l = stableSort B l := by
  induction l with
  | nil => rfl
  | cons a l ih =>
    rw [List.pairwise_cons] at h
    rw [stableSort, stableSort, ih h.2]
    exact insertBefore_congr _ _ _ _ fun b hb => h.1 b ((perm_stableSort B l).mem_iff.mp hb)

end stable

theorem ranks_sort {n : ℕ} (x : Fin n → EReal) :
    Ranks x (sortedFrom fun k k' => Ideal.cmpTotal .gt (x k) (x k') == 1#1) := by
  let B : Fin n → Fin n → Bool := fun k k' => decide (x k' < x k) || (decide (x k = x k') && decide (k < k'))
  have hB : StrictTotalBefore B := StrictTotalBefore.of_key_then_position (fun a b : EReal => decide (b < a)) x
    (by simp) (by simp; intro a b c h1 h2; exact h2.trans h1)
    (by intro a b; rcases lt_trichotomy b a with h | h | h <;> simp [h])
  have hR : ∀ k k', (Ideal.cmpTotal .gt (x k) (x k') == 1#1) = decide (x k' < x k) := by
    intro k k'
    show (BitVec.ofBool (decide (x k' < x k)) == 1#1) = decide (x k' < x k)
    by_cases h : x k' < x k <;> simp [h]
  have hs : sortPositions n (fun k k' => Ideal.cmpTotal .gt (x k) (x k') == 1#1) = sortPositions n B := by
    refine stable_of_increasing _ _ _ ?_
    refine List.Pairwise.imp ?_ (List.pairwise_lt_finRange n)
    intro a b hab
    simp [B, hR, not_lt.mpr hab.le]
  have he : (sortedFrom fun k k' => Ideal.cmpTotal .gt (x k) (x k') == 1#1) = sortedFrom B := by
    funext k
    simp only [sortedFrom, hs, List.get_eq_getElem, Fin.val_cast]
  rw [he]
  refine ⟨sortedFrom_surjective B, fun s t hst => ?_⟩
  have h0 := sortedFrom_noInversion B B (fun a b h => hB.asymm a b h) (fun _ _ h => h) hB.negTrans s t hst
  have hne : sortedFrom B s ≠ sortedFrom B t := fun h => hst.ne (sortedFrom_injective B h)
  rcases hB.total _ _ hne with h | h
  · simp only [B, Bool.or_eq_true, Bool.and_eq_true, decide_eq_true_eq] at h
    exact h.imp id fun h => ⟨h.1.symm, h.2⟩
  · rw [h0] at h; exact absurd h (by decide)

/-- The greatest sixty-four of every row, with their positions. -/
abbrev top (x : FVec Ideal S32x8x100000 .f32) : FVec Ideal S32x8x64 .f32 × IVec S32x8x64 32 :=
  Host.topK S32x8x64 2 (FloatOps.cmpfTotal .gt) x sliceFits_S32x8x100000_S32x8x64

section sort
variable {A B N : ℕ}

theorem along_two (b : Fin A) (c : Fin B) (s k : Fin N) (h : 2 < 3) :
    Shape.Idx.along (s := ⟨3, ![A, B, N]⟩) (ix3 b c s) ⟨2, h⟩ k = ix3 b c k := by
  funext a
  match a with
  | ⟨0, _⟩ => rfl
  | ⟨1, _⟩ => rfl
  | ⟨2, _⟩ => rfl

theorem sort2_at {α β : Type} (gt : α × β → α × β → BitVec 1) (x : Shape.Idx ⟨3, ![A, B, N]⟩ → α) (y : Shape.Idx ⟨3, ![A, B, N]⟩ → β)
    (b : Fin A) (c : Fin B) (s : Fin N) :
    (Host.sort2 ⟨3, ![A, B, N]⟩ 2 gt x y).1 (ix3 b c s)
      = x (ix3 b c (sortedFrom (fun k k' => gt (x (ix3 b c k), y (ix3 b c k)) (x (ix3 b c k'), y (ix3 b c k')) == 1#1) s)) ∧
    (Host.sort2 ⟨3, ![A, B, N]⟩ 2 gt x y).2 (ix3 b c s)
      = y (ix3 b c (sortedFrom (fun k k' => gt (x (ix3 b c k), y (ix3 b c k)) (x (ix3 b c k'), y (ix3 b c k')) == 1#1) s)) := by
  have h : (2 : ℕ) < 3 := by decide
  have hf : (fun k k' : Fin N => gt
        (x (Shape.Idx.along (s := ⟨3, ![A, B, N]⟩) (ix3 b c s) ⟨2, h⟩ k), y (Shape.Idx.along (s := ⟨3, ![A, B, N]⟩) (ix3 b c s) ⟨2, h⟩ k))
        (x (Shape.Idx.along (s := ⟨3, ![A, B, N]⟩) (ix3 b c s) ⟨2, h⟩ k'), y (Shape.Idx.along (s := ⟨3, ![A, B, N]⟩) (ix3 b c s) ⟨2, h⟩ k')) == 1#1)
      = fun k k' => gt (x (ix3 b c k), y (ix3 b c k)) (x (ix3 b c k'), y (ix3 b c k')) == 1#1 := by
    funext k k'
    rw [along_two, along_two]
  constructor
  · refine Eq.trans ?_ (congrArg x (along_two b c s _ h))
    exact congrArg (fun R => x (Shape.Idx.along (s := ⟨3, ![A, B, N]⟩) (ix3 b c s) ⟨2, h⟩ (sortedFrom R s))) hf
  · refine Eq.trans ?_ (congrArg y (along_two b c s _ h))
    exact congrArg (fun R => y (Shape.Idx.along (s := ⟨3, ![A, B, N]⟩) (ix3 b c s) ⟨2, h⟩ (sortedFrom R s))) hf

theorem slice_at {K : ℕ} {α : Type} (q : Shape.Idx ⟨3, ![A, B, N]⟩ → α) (h : Shape.Slices ⟨3, ![A, B, N]⟩ (fun _ => 0) ⟨3, ![A, B, K]⟩)
    (b : Fin A) (c : Fin B) (s : Fin K) (hK : K ≤ N) :
    extractStridedSlice ⟨3, ![A, B, K]⟩ (fun _ => 0) q h (ix3 b c s) = q (ix3 b c (s.castLE hK)) := by
  unfold extractStridedSlice
  congr 1
  funext a
  match a with
  | ⟨0, _⟩ => exact Fin.ext (Nat.zero_add _)
  | ⟨1, _⟩ => exact Fin.ext (Nat.zero_add _)
  | ⟨2, _⟩ => exact Fin.ext (Nat.zero_add _)

theorem topK_at {K : ℕ} (x : Shape.Idx ⟨3, ![A, B, N]⟩ → EReal) (h : Shape.Slices ⟨3, ![A, B, N]⟩ (fun _ => 0) ⟨3, ![A, B, K]⟩)
    (b : Fin A) (c : Fin B) (hK : K ≤ N) :
    ∃ ρ, Ranks (fun j : Fin N => x (ix3 b c j)) ρ ∧ ∀ s : Fin K,
      (Host.topK ⟨3, ![A, B, K]⟩ 2 (Ideal.cmpTotal .gt) x h).1 (ix3 b c s) = x (ix3 b c (ρ (s.castLE hK))) ∧
      (Host.topK ⟨3, ![A, B, K]⟩ 2 (Ideal.cmpTotal .gt) x h).2 (ix3 b c s) = BitVec.ofNat 32 (ρ (s.castLE hK)).val := by
  refine ⟨_, ranks_sort _, fun s => ?_⟩
  have e := sort2_at (fun l r => Ideal.cmpTotal .gt l.1 r.1) x (fun i : Shape.Idx ⟨3, ![A, B, N]⟩ =>
    if hd : 2 < (⟨3, ![A, B, N]⟩ : Shape).rank then iotaInDim ⟨3, ![A, B, N]⟩ 32 ⟨2, hd⟩ i else 0#32) b c (s.castLE hK)
  constructor
  · have e1 := (slice_at _ h b c s hK).trans e.1
    exact e1
  · have e2 := (slice_at _ h b c s hK).trans e.2
    exact e2

end sort

theorem top_ranks (x : FVec Ideal S32x8x100000 .f32) (b : Fin 32) (c : Fin 8) :
    ∃ ρ, Ranks (fun j : Fin 100000 => x (ix3 b c j)) ρ ∧ ∀ s : Fin 64,
      (top x).1 (ix3 b c s) = x (ix3 b c (ρ (s.castLE (by decide)))) ∧
      (top x).2 (ix3 b c s) = BitVec.ofNat 32 (ρ (s.castLE (by decide))).val :=
  topK_at x sliceFits_S32x8x100000_S32x8x64 b c (by decide)

end Cert.Proof.Order
end
end
-- ==== Proof.Extract.lean ====
module

public import proofs.«01_k».proof.Proof.Net
public import proofs.«01_k».proof.Proof.Order

@[expose] public section
noncomputable section

/-! The extraction: from a table of candidates, in any arrangement and with repetitions, the sixty-four entries that come
    first in the order, one by one. -/

namespace Cert.Proof.Extract
open Idealize Idealize.ShloMosaic

/-! ## Folds of the signed minimum and maximum, and of the greatest value -/

theorem toInt_min (a b : BitVec 32) : (IntOp.minsi a b).toInt = min a.toInt b.toInt := by
  unfold IntOp.minsi
  rw [BitVec.slt]
  by_cases h : a.toInt < b.toInt <;> simp [h] <;> omega

theorem toInt_max (a b : BitVec 32) : (IntOp.maxsi a b).toInt = max a.toInt b.toInt := by
  unfold IntOp.maxsi
  rw [BitVec.slt]
  by_cases h : b.toInt < a.toInt <;> simp [h] <;> omega

theorem fold_min_eq {κ : Type} [Fintype κ] (f : κ → BitVec 32) (b a : BitVec 32) (hb : a.toInt ≤ b.toInt)
    (hle : ∀ k, a.toInt ≤ (f k).toInt) (hex : ∃ k, f k = a) : Finset.fold IntOp.minsi b f Finset.univ = a := by
  apply BitVec.eq_of_toInt_eq
  have h : (Finset.univ : Finset κ).fold min b.toInt (fun k => (f k).toInt) = (Finset.fold IntOp.minsi b f Finset.univ).toInt :=
    Finset.fold_hom (op := IntOp.minsi) (op' := min) (m := BitVec.toInt) toInt_min
  rw [← h]
  apply le_antisymm
  · rw [Finset.fold_min_le]
    obtain ⟨k, rfl⟩ := hex
    exact Or.inr ⟨k, Finset.mem_univ _, le_rfl⟩
  · rw [Finset.le_fold_min]
    exact ⟨hb, fun k _ => hle k⟩

theorem fold_maxsi_eq {κ : Type} [Fintype κ] (f : κ → BitVec 32) (b a : BitVec 32) (hb : b.toInt ≤ a.toInt)
    (hle : ∀ k, (f k).toInt ≤ a.toInt) (hex : ∃ k, f k = a) : Finset.fold IntOp.maxsi b f Finset.univ = a := by
  apply BitVec.eq_of_toInt_eq
  have h : (Finset.univ : Finset κ).fold max b.toInt (fun k => (f k).toInt) = (Finset.fold IntOp.maxsi b f Finset.univ).toInt :=
    Finset.fold_hom (op := IntOp.maxsi) (op' := max) (m := BitVec.toInt) toInt_max
  rw [← h]
  apply le_antisymm
  · rw [Finset.fold_max_le]
    exact ⟨hb, fun k _ => hle k⟩
  · rw [Finset.le_fold_max]
    obtain ⟨k, rfl⟩ := hex
    exact Or.inr ⟨k, Finset.mem_univ _, le_rfl⟩

theorem fold_max_eq {κ : Type} [Fintype κ] (f : κ → EReal) (a : EReal) (hle : ∀ k, f k ≤ a) (hex : ∃ k, f k = a) :
    Finset.fold max ⊥ f Finset.univ = a := by
  apply le_antisymm
  · rw [Finset.fold_max_le]
    exact ⟨bot_le, fun k _ => hle k⟩
  · rw [Finset.le_fold_max]
    obtain ⟨k, rfl⟩ := hex
    exact Or.inr ⟨k, Finset.mem_univ _, le_rfl⟩

theorem toInt_small (n : ℕ) (h : n < 2147483648) : (BitVec.ofNat 32 n).toInt = n := by
  rw [BitVec.toInt_eq_toNat_cond, BitVec.toNat_ofNat, Nat.mod_eq_of_lt (by omega), if_pos (by omega)]

theorem toInt_pos (j : Fin 100000) : (BitVec.ofNat 32 j.val).toInt = j.val := toInt_small _ (by omega)

/-! ## One row -/

section row
variable {K : ℕ} (cv : Fin K → EReal) (cj : Fin K → BitVec 32)

/-- Candidate `k` comes after the value `v` at position `i`. -/
def After (v : EReal) (i : BitVec 32) (k : Fin K) : Prop := cv k < v ∨ cv k = v ∧ i.toInt < (cj k).toInt

open Classical in
/-- The candidates still to come, −∞ for the others. -/
def left (v : EReal) (i : BitVec 32) (k : Fin K) : EReal := if After cv cj v i k then cv k else ⊥

/-- The next value. -/
def next (v : EReal) (i : BitVec 32) : EReal := Finset.fold max ⊥ (left cv cj v i) Finset.univ

open Classical in
/-- The next position. -/
def nextAt (v : EReal) (i : BitVec 32) : BitVec 32 :=
  Finset.fold IntOp.minsi 2147483647#32
    (fun k => if left cv cj v i k = next cv cj v i ∧ After cv cj v i k then cj k else 100000#32) Finset.univ

variable (x : Fin 100000 → EReal) (ρ : Fin 100000 → Fin 100000)

/-- The candidates hold the row's first sixty-four entries, and nothing that the row does not hold. -/
structure Holds : Prop where
  ranks : Order.Ranks x ρ
  low : ⊥ < x (ρ 63)
  true_ : ∀ k, ⊥ < cv k → ∃ j : Fin 100000, cv k = x j ∧ cj k = BitVec.ofNat 32 j.val
  all_ : ∀ j, x (ρ 63) ≤ x j → ∃ k, cv k = x j ∧ cj k = BitVec.ofNat 32 j.val

variable {cv cj x ρ}

theorem before_irrefl (j : Fin 100000) : ¬ Order.Before x j j := by
  rintro (h | ⟨-, h⟩)
  · exact lt_irrefl _ h
  · exact lt_irrefl _ h

theorem before_trans {a b c : Fin 100000} (h : Order.Before x a b) (h' : Order.Before x b c) : Order.Before x a c := by
  rcases h with h | ⟨h, l⟩ <;> rcases h' with h' | ⟨h', l'⟩
  · exact Or.inl (h'.trans h)
  · exact Or.inl (h' ▸ h)
  · exact Or.inl (h ▸ h')
  · exact Or.inr ⟨h'.trans h, l.trans l'⟩

theorem before_le {a b : Fin 100000} (h : a = b ∨ Order.Before x a b) : x b ≤ x a := by
  rcases h with rfl | h | h
  · exact le_rfl
  · exact h.le
  · exact h.1.le

/-- The candidates after `(v, i)` are those after the first `s` entries of the row. -/
def Sync (cv : Fin K → EReal) (cj : Fin K → BitVec 32) (x : Fin 100000 → EReal) (ρ : Fin 100000 → Fin 100000)
    (v : EReal) (i : BitVec 32) (s : ℕ) : Prop :=
  ∀ k (j : Fin 100000), ⊥ < cv k → cv k = x j → cj k = BitVec.ofNat 32 j.val →
    (After cv cj v i k ↔ ∀ s' : Fin 100000, s'.val < s → Order.Before x (ρ s') j)

theorem sync_zero : Sync cv cj x ρ ⊤ 4294967295#32 0 := by
  intro k j _ _ hj
  refine ⟨fun _ s' h => absurd h (Nat.not_lt_zero _), fun _ => ?_⟩
  rcases lt_or_eq_of_le (le_top : cv k ≤ ⊤) with h | h
  · exact Or.inl h
  · refine Or.inr ⟨h, ?_⟩
    rw [hj, toInt_pos]
    have : (4294967295#32 : BitVec 32).toInt = -1 := by decide
    omega

theorem sync_succ (R : Order.Ranks x ρ) (s : Fin 100000) : Sync cv cj x ρ (x (ρ s)) (BitVec.ofNat 32 (ρ s).val) (s.val + 1) := by
  intro k j _ hv hj
  have : After cv cj (x (ρ s)) (BitVec.ofNat 32 (ρ s).val) k ↔ Order.Before x (ρ s) j := by
    unfold After Order.Before
    rw [hv, hj, toInt_pos, toInt_pos, Nat.cast_lt, Fin.val_fin_lt]
  rw [this]
  constructor
  · intro h s' hs'
    rcases Nat.lt_succ_iff_lt_or_eq.mp hs' with hlt | heq
    · exact before_trans (R.order s' s hlt) h
    · rw [show s' = s from Fin.ext heq]; exact h
  · intro h
    exact h s (Nat.lt_succ_self _)

theorem rest_of_ranks (R : Order.Ranks x ρ) (s j : Fin 100000) (h : ∀ s' : Fin 100000, s'.val < s.val → Order.Before x (ρ s') j) :
    ρ s = j ∨ Order.Before x (ρ s) j := by
  obtain ⟨t, rfl⟩ := R.surj j
  rcases lt_trichotomy t s with hts | rfl | hst
  · exact absurd (h t hts) (before_irrefl _)
  · exact Or.inl rfl
  · exact Or.inr (R.order s t hst)

theorem step (H : Holds cv cj x ρ) (v : EReal) (i : BitVec 32) (s : Fin 100000) (hs : s.val ≤ 63) (hS : Sync cv cj x ρ v i s.val) :
    next cv cj v i = x (ρ s) ∧ nextAt cv cj v i = BitVec.ofNat 32 (ρ s).val := by
  have R := H.ranks
  have hge : x (ρ 63) ≤ x (ρ s) := by
    refine before_le ?_
    rcases Nat.lt_or_eq_of_le hs with h | h
    · exact Or.inr (R.order s 63 h)
    · exact Or.inl (congrArg ρ (Fin.ext h))
  have hpos : ⊥ < x (ρ s) := H.low.trans_le hge
  obtain ⟨k₀, hk₀, hj₀⟩ := H.all_ (ρ s) hge
  have ha₀ : After cv cj v i k₀ := (hS k₀ (ρ s) (hk₀ ▸ hpos) hk₀ hj₀).mpr fun s' h => R.order s' s h
  have hleft : ∀ k, ⊥ < cv k → After cv cj v i k → ∃ j, cv k = x j ∧ cj k = BitVec.ofNat 32 j.val ∧ (ρ s = j ∨ Order.Before x (ρ s) j) := by
    intro k hb ha
    obtain ⟨j, h1, h2⟩ := H.true_ k hb
    exact ⟨j, h1, h2, rest_of_ranks R s j ((hS k j hb h1 h2).mp ha)⟩
  have hn : next cv cj v i = x (ρ s) := by
    refine fold_max_eq _ _ (fun k => ?_) ⟨k₀, by rw [left, if_pos ha₀, hk₀]⟩
    unfold left
    split
    · rename_i ha
      rcases eq_or_lt_of_le (bot_le : ⊥ ≤ cv k) with h | h
      · rw [← h]; exact bot_le
      · obtain ⟨j, h1, -, h3⟩ := hleft k h ha
        rw [h1]; exact before_le h3
    · exact bot_le
  refine ⟨hn, ?_⟩
  refine fold_min_eq _ _ _ ?_ (fun k => ?_) ⟨k₀, ?_⟩
  · rw [toInt_pos]
    have := (ρ s).isLt
    have h2 : (2147483647#32 : BitVec 32).toInt = 2147483647 := by decide
    omega
  · split
    · rename_i h
      obtain ⟨h, ha⟩ := h
      rw [left, if_pos ha, hn] at h
      obtain ⟨j, h1, h2, h3⟩ := hleft k (h ▸ hpos) ha
      rw [h2, toInt_pos, toInt_pos]
      rcases h3 with rfl | h3 | ⟨-, h3⟩
      · exact le_rfl
      · rw [← h1, h] at h3; exact absurd h3 (lt_irrefl _)
      · exact_mod_cast h3.le
    · rw [toInt_pos]
      have := (ρ s).isLt
      have h2 : (100000#32 : BitVec 32).toInt = 100000 := by decide
      omega
  · rw [left, if_pos ha₀, hn, if_pos ⟨hk₀, ha₀⟩, hj₀]

end row

/-! ## The vectors -/

set_option maxRecDepth 20000

open Cert.KernelIdeal Cert.KernelIdeal.Gen

theorem bits_bot : Ideal.ofBits .f32 4286578688#32 = ⊥ := by simp [Ideal.ofBits, Ideal.ieee]
theorem bits_top : Ideal.ofBits .f32 2139095040#32 = ⊤ := by simp [Ideal.ofBits, Ideal.ieee]

theorem after_bit (a v : EReal) (j i : BitVec 32) [Decidable (a < v)] [Decidable (a = v)] :
    IntOp.ori (BitVec.ofBool (decide (a < v))) (IntOp.andi (BitVec.ofBool (decide (a = v))) (IntOp.cmpi .sgt j i))
      = BitVec.ofBool (@decide (a < v ∨ a = v ∧ i.toInt < j.toInt) (Classical.propDecidable _)) := by
  unfold IntOp.ori IntOp.andi IntOp.cmpi
  simp only [BitVec.slt]
  by_cases h1 : a < v <;> by_cases h2 : a = v <;> by_cases h3 : i.toInt < j.toInt <;> simp [h1, h2, h3]

theorem and_bit (p q : Prop) [Decidable p] [Decidable q] :
    IntOp.andi (BitVec.ofBool (decide p)) (BitVec.ofBool (decide q)) = BitVec.ofBool (decide (p ∧ q)) := by
  unfold IntOp.andi
  by_cases h1 : p <;> by_cases h2 : q <;> simp [h1, h2]

theorem pick_bit {α : Type} (S N : EReal) {D : Decidable (S = N)} (B : BitVec 1) (P Q : Prop) {E : Decidable Q} (a b : α)
    (hB : B = BitVec.ofBool (@decide P (Classical.propDecidable _))) (hQ : (S = N ∧ P) ↔ Q) :
    Scalar.select (IntOp.andi (BitVec.ofBool (@decide (S = N) D)) B) a b = if Q then a else b := by
  classical
  rw [hB, and_bit, Net.sel_ofBool]
  exact if_congr hQ rfl rfl

theorem nextV_at (cv : FVec Ideal S8x1792 .f32) (cj : IVec S8x1792 32) (v : FVec Ideal S8x1 .f32) (i : IVec S8x1 32) (r : Fin 8) :
    Body.nextV cv cj v i (ix2 r 0) = next (fun k => cv (ix2 r k)) (fun k => cj (ix2 r k)) (v (ix2 r 0)) (i (ix2 r 0)) := by
  pointwise [Body.nextV, Body.leftV, Body.maskOf]
  rw [bits_bot]
  refine Finset.fold_congr fun k _ => ?_
  exact (congrArg (fun c => Scalar.select c (cv (ix2 r k)) ⊥) (after_bit _ _ _ _)).trans (@Net.sel_ofBool _ _ (Classical.propDecidable _) _ _)

theorem nextJ_at (cv : FVec Ideal S8x1792 .f32) (cj : IVec S8x1792 32) (v : FVec Ideal S8x1 .f32) (i : IVec S8x1 32) (r : Fin 8) :
    Body.nextJ cv cj v i (ix2 r 0) = nextAt (fun k => cv (ix2 r k)) (fun k => cj (ix2 r k)) (v (ix2 r 0)) (i (ix2 r 0)) := by
  pointwise [Body.nextJ, Body.leftV, Body.maskOf]
  rewrite [bits_bot]
  have hn := nextV_at cv cj v i r
  refine Finset.fold_congr fun k _ => ?_
  have h1 : Scalar.select (IntOp.ori (BitVec.ofBool (decide (cv (ix2 r k) < v (ix2 r 0))))
      (IntOp.andi (BitVec.ofBool (decide (cv (ix2 r k) = v (ix2 r 0)))) (IntOp.cmpi .sgt (cj (ix2 r k)) (i (ix2 r 0))))) (cv (ix2 r k)) ⊥
      = left (fun k => cv (ix2 r k)) (fun k => cj (ix2 r k)) (v (ix2 r 0)) (i (ix2 r 0)) k :=
    (congrArg (fun c => Scalar.select c (cv (ix2 r k)) ⊥) (after_bit _ _ _ _)).trans (@Net.sel_ofBool _ _ (Classical.propDecidable _) _ _)
  have h2 : IntOp.ori (BitVec.ofBool (decide (cv (ix2 r k) < v (ix2 r 0))))
      (IntOp.andi (BitVec.ofBool (decide (cv (ix2 r k) = v (ix2 r 0)))) (IntOp.cmpi .sgt (cj (ix2 r k)) (i (ix2 r 0))))
      = BitVec.ofBool (@decide (After (fun k => cv (ix2 r k)) (fun k => cj (ix2 r k)) (v (ix2 r 0)) (i (ix2 r 0)) k) (Classical.propDecidable _)) :=
    after_bit _ _ _ _
  exact pick_bit _ _ _ _ _ _ _ h2
    (and_congr ⟨fun h => h1.symm.trans (h.trans hn), fun h => h1.trans (h.trans hn.symm)⟩ Iff.rfl)

theorem select_col (m k : ℕ) (hm : m < 64) (hk : k < 64) {α : Type} (a b : α) :
    Scalar.select (IntOp.cmpi .eq (BitVec.ofNat 32 m) (BitVec.ofNat 32 k)) a b = if m = k then a else b := by
  have : IntOp.cmpi .eq (BitVec.ofNat 32 m) (BitVec.ofNat 32 k) = BitVec.ofBool (decide (m = k)) := by
    unfold IntOp.cmpi
    congr 1
    rw [Bool.eq_iff_iff]
    simp only [beq_iff_eq, decide_eq_true_eq]
    refine ⟨fun h => ?_, fun h => by rw [h]⟩
    have := congrArg BitVec.toNat h
    rw [BitVec.toNat_ofNat, BitVec.toNat_ofNat] at this
    omega
  rw [this, Net.sel_ofBool]

theorem extract_at (cv : FVec Ideal S8x1792 .f32) (cj : IVec S8x1792 32) (k : Fin k0_t2_loop.trips) (s : Body.Tables Ideal)
    (r : Fin 8) (m : Fin 64) :
    (Body.extract cv cj k s).2.2.1 (ix2 r m) = (if m.val = k.val then Body.nextV cv cj s.1 s.2.1 (ix2 r 0) else s.2.2.1 (ix2 r m)) ∧
    (Body.extract cv cj k s).2.2.2 (ix2 r m) = (if m.val = k.val then Body.nextJ cv cj s.1 s.2.1 (ix2 r 0) else s.2.2.2 (ix2 r m)) := by
  have hk : k.val < 64 := k.isLt
  have hiv : Scf.iv 0#32 1#32 k.val = BitVec.ofNat 32 k.val := by
    unfold Scf.iv
    simp
  pointwise [Body.extract]
  rw [hiv, select_col _ _ m.isLt hk, select_col _ _ m.isLt hk]
  exact ⟨rfl, rfl⟩

theorem foldl_inv {σ : Type} (N : ℕ) (g : Fin N → σ → σ) (init : σ) (P : ℕ → σ → Prop) (h0 : P 0 init)
    (hs : ∀ (k : Fin N) acc, P k.val acc → P (k.val + 1) (g k acc)) :
    P N ((List.finRange N).foldl (fun acc k => g k acc) init) := by
  induction N with
  | zero => exact h0
  | succ N ih =>
    rw [List.finRange_succ_last, List.foldl_append, List.foldl_map]
    exact hs (Fin.last N) _ (ih (fun k => g k.castSucc) fun k acc h => hs k.castSucc acc h)

/-- The tables hold the row's first sixty-four entries, if the candidates do. -/
theorem tables_at (cv : FVec Ideal S8x1792 .f32) (cj : IVec S8x1792 32) (r : Fin 8) (x : Fin 100000 → EReal)
    (ρ : Fin 100000 → Fin 100000) (H : Holds (fun k => cv (ix2 r k)) (fun k => cj (ix2 r k)) x ρ) (m : Fin 64) :
    (Body.tables cv cj).2.2.1 (ix2 r m) = x (ρ (m.castLE (by decide))) ∧
    (Body.tables cv cj).2.2.2 (ix2 r m) = BitVec.ofNat 32 (ρ (m.castLE (by decide))).val := by
  unfold Body.tables
  rw [Scf.fold_eq]
  have := foldl_inv k0_t2_loop.trips (Body.extract cv cj)
    (broadcast S8x1 (Scalar.ofBits .f32 0x7F800000#32), broadcast S8x1 4294967295#32,
     broadcast S8x64 (Scalar.ofBits .f32 0x00000000#32), broadcast S8x64 0#32)
    (fun n s => Sync (fun k => cv (ix2 r k)) (fun k => cj (ix2 r k)) x ρ (s.1 (ix2 r 0)) (s.2.1 (ix2 r 0)) n ∧
      ∀ m : Fin 64, m.val < n → s.2.2.1 (ix2 r m) = x (ρ (m.castLE (by decide))) ∧
        s.2.2.2 (ix2 r m) = BitVec.ofNat 32 (ρ (m.castLE (by decide))).val) ?_ ?_
  · exact this.2 m m.isLt
  · refine ⟨?_, fun m h => absurd h (Nat.not_lt_zero _)⟩
    have : (broadcast S8x1 (Scalar.ofBits (F := Ideal) .f32 0x7F800000#32) : FVec Ideal S8x1 .f32) (ix2 r 0) = ⊤ := bits_top
    show Sync _ _ x ρ ((broadcast S8x1 (Scalar.ofBits (F := Ideal) .f32 0x7F800000#32) : FVec Ideal S8x1 .f32) (ix2 r 0)) 4294967295#32 0
    rw [this]
    exact sync_zero
  · intro k s hs
    have hk : k.val < 64 := k.isLt
    obtain ⟨h1, h2⟩ := step H _ _ ⟨k.val, by omega⟩ (by simp only; omega) hs.1
    rw [← nextV_at] at h1
    rw [← nextJ_at] at h2
    refine ⟨?_, fun m hm => ?_⟩
    · have h3 := sync_succ (cv := fun k => cv (ix2 r k)) (cj := fun k => cj (ix2 r k)) H.ranks ⟨k.val, by omega⟩
      rw [← h1, ← h2] at h3
      have e1 : (Body.extract cv cj k s).1 = Body.nextV cv cj s.1 s.2.1 := rfl
      have e2 : (Body.extract cv cj k s).2.1 = Body.nextJ cv cj s.1 s.2.1 := by sl_kernel_rfl
      simp only [e1, e2]
      exact h3
    · rw [(extract_at cv cj k s r m).1, (extract_at cv cj k s r m).2]
      by_cases he : m.val = k.val
      · rw [if_pos he, if_pos he, h1, h2]
        have : (⟨k.val, by omega⟩ : Fin 100000) = m.castLE (by decide) := Fin.ext he.symm
        rw [this]
        exact ⟨rfl, rfl⟩
      · rw [if_neg he, if_neg he]
        exact hs.2 m (by omega)

/-! ## The candidates -/

section concat
variable {α : Type} {A N W : ℕ}

theorem concat_at (hW : 0 < W) (d : Shape.Idx ⟨2, ![A, W]⟩ → α) (r : Fin A) (k : Fin N) :
    ∀ (ls : List (Shape.Idx ⟨2, ![A, W]⟩ → α))
      (hs : ∀ s ∈ (ls.map fun x => (⟨⟨2, ![A, W]⟩, x⟩ : (s : Shape) × (s.Idx → α))).map (·.1), s.FitsOff ⟨2, ![A, N]⟩ 1) (c : ℕ)
      (hc : c < (axisSizes ⟨2, ![A, N]⟩ 1 (ls.map fun x => (⟨⟨2, ![A, W]⟩, x⟩ : (s : Shape) × (s.Idx → α)))).sum),
      concatenateAt ⟨2, ![A, N]⟩ 1 (ix2 r k) (ls.map fun x => (⟨⟨2, ![A, W]⟩, x⟩ : (s : Shape) × (s.Idx → α))) hs c hc
        = ls.getD (c / W) d (ix2 r ⟨c % W, Nat.mod_lt _ hW⟩)
  | [], _, _, hc => absurd hc (Nat.not_lt_zero _)
  | [x], hs, c, hc => by
    have hlt : c < W := by
      have := hc
      rw [List.map_cons, List.map_nil, axisSizes_cons _ _ _ _ (hs _ List.mem_cons_self)] at this
      simpa using this
    show concatenateAt _ _ _ [⟨_, x⟩] _ _ _ = _
    rw [concatenateAt_singleton, Nat.div_eq_of_lt hlt]
    show x _ = x _
    congr 1
    funext b
    match b with
    | ⟨0, _⟩ => rfl
    | ⟨1, _⟩ => exact Fin.ext (Nat.mod_eq_of_lt hlt).symm
  | x :: y :: ls, hs, c, hc => by
    show concatenateAt _ _ _ (⟨_, x⟩ :: ⟨_, y⟩ :: ls.map fun x => (⟨⟨2, ![A, W]⟩, x⟩ : (s : Shape) × (s.Idx → α))) _ _ _ = _
    rw [concatenateAt_cons]
    split
    · rename_i hlt
      have hlt : c < W := hlt
      rw [Nat.div_eq_of_lt hlt]
      show x _ = x _
      congr 1
      funext b
      match b with
      | ⟨0, _⟩ => rfl
      | ⟨1, _⟩ => exact Fin.ext (Nat.mod_eq_of_lt hlt).symm
    · rename_i hlt
      have hlt : ¬ c < W := hlt
      have ih := concat_at hW d r k (y :: ls) (fun s h => hs s (List.mem_cons_of_mem _ h)) (c - W) (by
        have := hc
        rw [List.map_cons, axisSizes_cons _ _ _ _ (hs _ List.mem_cons_self), List.sum_cons] at this
        exact Nat.sub_lt_left_of_lt_add (not_lt.mp hlt) this)
      refine ih.trans ?_
      have h1 : c / W = (c - W) / W + 1 := by
        rw [← Nat.sub_add_cancel (not_lt.mp hlt), Nat.add_div_right _ hW, Nat.add_sub_cancel]
      have h2 : c % W = (c - W) % W := by
        conv_lhs => rw [← Nat.sub_add_cancel (not_lt.mp hlt), Nat.add_mod_right]
      rw [h1, List.getD_cons_succ]
      exact congrArg (fun t => (y :: ls).getD ((c - W) / W) d (ix2 r t)) (Fin.ext h2.symm)

end concat

theorem pieces_at {α : Type} (f : ℕ → S8x128.Idx → α) (h) (r : Fin 8) (k : Fin 1792) :
    concatenate S8x1792 1 ([f 0, f 1, f 2, f 3, f 4, f 5, f 6, f 7, f 8, f 9, f 10, f 11, f 12, f 13].map fun x => (⟨S8x128, x⟩ : (s : Shape) × (s.Idx → α))) h (ix2 r k)
      = f (k.val / 128) (ix2 r ⟨k.val % 128, Nat.mod_lt _ (by decide)⟩) := by
  rw [concatenate_apply]
  refine (concat_at (by decide) (f 0) r k _ _ _ _).trans ?_
  have hq : k.val / 128 < 14 := by omega
  show ([f 0, f 1, f 2, f 3, f 4, f 5, f 6, f 7, f 8, f 9, f 10, f 11, f 12, f 13].getD (k.val / 128) (f 0))
    (ix2 r ⟨k.val % 128, Nat.mod_lt _ (by decide)⟩) = _
  refine congrFun ?_ _
  generalize k.val / 128 = q at hq
  interval_cases q <;> rfl

theorem candV_at (L : List (Body.Level Ideal)) (r : Fin 8) (k : Fin 1792) :
    Body.candV L (ix2 r k) = (Net.at_ (ix2 r ⟨k.val % 128, Nat.mod_lt _ (by decide)⟩) (Body.lv L (k.val / 128))).1 :=
  pieces_at (fun l => (Body.lv L l).1) _ r k

theorem candJ_at (L : List (Body.Level Ideal)) (r : Fin 8) (k : Fin 1792) :
    Body.candJ L (ix2 r k) = (Net.at_ (ix2 r ⟨k.val % 128, Nat.mod_lt _ (by decide)⟩) (Body.lv L (k.val / 128))).2 :=
  pieces_at (fun l => (Body.lv L l).2) _ r k

end Cert.Proof.Extract
end
end
-- ==== Proof.Cand.lean ====
module

public import proofs.«01_k».proof.Proof.Extract
public import Idealize.ShloMosaic.Lib.WholeRead

@[expose] public section
noncomputable section

/-! The network's levels in one row and lane: the lane's entries in order of position go down fourteen levels, so the levels
    of all lanes together hold the row's first sixty-four entries whenever no lane has more than fourteen that high. -/

namespace Cert.Proof.Cand
open Idealize Idealize.ShloMosaic Cert.KernelIdeal Cert.KernelIdeal.Gen

variable (arg1 : Memref sig .tc .vmem S8x100000 .f32) (harg1 : arg1.IsWhole) (x0 : FVec Ideal S8x100000 .f32)

theorem read_at (off : Fin 2 → ℕ) (inb : ∀ a, off a + S8x128.size a ≤ S8x100000.size a) (c : ℕ) (hoff : off = ![0, c])
    (r : Fin 8) (l : Fin 128) (hc : c + l.val < 100000) :
    shapeCast S8x128 (View.readAt (Elt Ideal) arg1.view (Rect.unit (s := S8x100000) off S8x128.size inb).toLoadRect
      (harg1.unread x0)) shapeCasts_S8x128_S8x128 (ix2 r l) = x0 (ix2 r ⟨c + l.val, hc⟩) := by
  subst hoff
  have h1 : shapeCast S8x128 (View.readAt (Elt Ideal) arg1.view (Rect.unit (s := S8x100000) ![0, c] S8x128.size inb).toLoadRect
      (harg1.unread x0)) shapeCasts_S8x128_S8x128 (ix2 r l)
      = View.readAt (Elt Ideal) arg1.view (Rect.unit (s := S8x100000) ![0, c] S8x128.size inb).toLoadRect (harg1.unread x0) (ix2 r l) := by
    generalize View.readAt _ _ _ _ = q
    pointwise
  rw [h1, harg1.readAt_unread]
  congr 1
  funext a
  match a with
  | ⟨0, _⟩ => exact Fin.ext (by show 0 + 1 * r.val = r.val; omega)
  | ⟨1, _⟩ => exact Fin.ext (by show c + 1 * l.val = c + l.val; omega)

/-- Entry `n` of a lane: its value and its position. -/
def entry (x : Fin 100000 → EReal) (l : Fin 128) (n : ℕ) : EReal × BitVec 32 :=
  if h : n < 781 then (x ⟨128 * n + l.val, by omega⟩, BitVec.ofNat 32 (128 * n + l.val))
  else (if 96 ≤ l.val then x ⟨99872 + l.val, by omega⟩ else ⊥, BitVec.ofNat 32 (99872 + l.val))

variable (r : Fin 8) (l : Fin 128)

theorem lanes_at : Body.lanes (ix2 r l) = BitVec.ofNat 32 l.val := by
  unfold Body.lanes
  pointwise

theorem chunk_at (k : Fin k0_t1_loop.trips) (u : ℕ) (hu : u < 16) :
    Net.at_ (ix2 r l) (Body.chunk arg1 (harg1.unread x0) k u) = entry (fun j => x0 (ix2 r j)) l (16 * k.val + u) := by
  have hk : k.val < 48 := k.isLt
  rw [entry, dif_pos (by omega)]
  unfold Net.at_ Body.chunk
  congr 1
  · have e := k0_off1_eq k (Fin.ofNat 16 u)
    rw [show (Fin.ofNat 16 u).val = u from Nat.mod_eq_of_lt hu] at e
    have hv : (Fin.ofNat 16 u).val = u := Nat.mod_eq_of_lt hu
    refine (read_at arg1 harg1 x0 _ _ (2048 * k.val + 128 * u) (by rw [hv]; exact e) r l (by omega)).trans ?_
    have : (⟨2048 * k.val + 128 * u + l.val, by omega⟩ : Fin 100000) = ⟨128 * (16 * k.val + u) + l.val, by omega⟩ :=
      Fin.ext (by simp only; omega)
    rw [this]
  · show IntOp.addi (Scalar.muli (Scalar.addi (Scalar.muli (Scf.iv 0#32 1#32 k.val) 16#32) (BitVec.ofNat 32 u)) 128#32)
      (Body.lanes (ix2 r l)) = _
    rw [lanes_at]
    unfold IntOp.addi Scalar.muli Scalar.addi Scf.iv IntOp.muli IntOp.addi
    apply BitVec.eq_of_toNat_eq
    simp only [BitVec.toNat_add, BitVec.toNat_mul, BitVec.toNat_ofNat]
    omega

theorem lit_at (n : ℕ) (hn : n < 13) :
    Net.at_ (ix2 r l) (Body.lit arg1 (harg1.unread x0) n) = entry (fun j => x0 (ix2 r j)) l (768 + n) := by
  rw [entry, dif_pos (by omega)]
  unfold Net.at_ Body.lit
  have hm : n % 13 = n := Nat.mod_eq_of_lt hn
  congr 1
  · refine (read_at arg1 harg1 x0 _ _ (98304 + 128 * n) (by rw [hm]) r l (by omega)).trans ?_
    have : (⟨98304 + 128 * n + l.val, by omega⟩ : Fin 100000) = ⟨128 * (768 + n) + l.val, by omega⟩ :=
      Fin.ext (by simp only; omega)
    rw [this]
  · show IntOp.addi (BitVec.ofNat 32 (98304 + 128 * (n % 13))) (Body.lanes (ix2 r l)) = _
    rw [lanes_at, hm]
    unfold IntOp.addi
    apply BitVec.eq_of_toNat_eq
    simp only [BitVec.toNat_add, BitVec.toNat_ofNat]
    omega

theorem last_at : Net.at_ (ix2 r l) (Body.last arg1 (harg1.unread x0)) = entry (fun j => x0 (ix2 r j)) l 781 := by
  rw [entry, dif_neg (by omega)]
  unfold Net.at_ Body.last
  congr 1
  · show Scalar.select (IntOp.cmpi .sge (Body.lanes (ix2 r l)) 96#32) (shapeCast S8x128 _ _ (ix2 r l)) (Ideal.ofBits .f32 0xFF800000#32) = _
    rw [read_at arg1 harg1 x0 _ _ 99872 rfl r l (by omega), lanes_at, Extract.bits_bot]
    have : IntOp.cmpi .sge (BitVec.ofNat 32 l.val) 96#32 = BitVec.ofBool (decide (96 ≤ l.val)) := by
      unfold IntOp.cmpi
      simp only [BitVec.sle]
      rw [Extract.toInt_small 96 (by omega), Extract.toInt_small l.val (by omega)]
      congr 1
      simp only [decide_eq_decide]
      omega
    rw [this, Net.sel_ofBool]
  · show IntOp.addi (99872#32) (Body.lanes (ix2 r l)) = _
    rw [lanes_at]
    unfold IntOp.addi
    apply BitVec.eq_of_toNat_eq
    simp only [BitVec.toNat_add, BitVec.toNat_ofNat]
    omega

/-- The levels of a lane before any entry. -/
def empty : List (EReal × BitVec 32) := List.replicate 14 (⊥, 0#32)

theorem trips_at (n : ℕ) (hn : n ≤ 48) :
    (Body.trips arg1 (harg1.unread x0) n Body.start).map (Net.at_ (ix2 r l))
      = Net.run (entry (fun j => x0 (ix2 r j)) l) (16 * n) empty := by
  induction n with
  | zero =>
    have : Net.at_ (ix2 r l) ((broadcast S8x128 (Scalar.ofBits .f32 0xFF800000#32), broadcast S8x128 0#32) : Body.Level Ideal)
        = (⊥, 0#32) := congrArg (fun a : EReal => (a, 0#32)) Extract.bits_bot
    show Body.start.map _ = empty
    rw [Body.start, List.map_replicate, this, empty]
  | succ n ih =>
    have h : n < k0_t1_loop.trips := hn
    rw [Body.trips, dif_pos h, Net.run_at, ih (by omega), Nat.mul_succ, Net.run_add]
    exact Net.run_congr _ _ _ _ fun m hm => chunk_at arg1 harg1 x0 r l ⟨n, h⟩ m hm

theorem levels_at : (Body.levels arg1 (harg1.unread x0)).map (Net.at_ (ix2 r l))
    = Net.run (entry (fun j => x0 (ix2 r j)) l) 782 empty := by
  have h : ∀ N, N = 16 * 48 + 13 → Net.run (fun m => Net.at_ (ix2 r l) (Body.lit arg1 (harg1.unread x0) m)) 13
      (Net.run (entry (fun j => x0 (ix2 r j)) l) (16 * 48) empty) = Net.run (entry (fun j => x0 (ix2 r j)) l) N empty := by
    intro N hN
    rw [hN, Net.run_add]
    exact Net.run_congr _ _ _ _ fun m hm => lit_at arg1 harg1 x0 r l m hm
  rw [Body.levels, Net.ins_at, last_at, Net.run_at, trips_at arg1 harg1 x0 r l 48 le_rfl, h 781 (by omega)]
  exact (Net.run_succ _ 781 _).symm

theorem lv_eq {F : FTy → Type} [FloatOps F] (L : List (Body.Level F)) (n : ℕ) (h : n < L.length) : Body.lv L n = L[n] := by
  unfold Body.lv
  simp [h]

theorem cand_pair (L : List (Body.Level Ideal)) (q : ℕ) (hq : q < 14) (h : 128 * q + l.val < 1792) :
    Body.candV L (ix2 r ⟨128 * q + l.val, h⟩) = (Net.at_ (ix2 r l) (Body.lv L q)).1
      ∧ Body.candJ L (ix2 r ⟨128 * q + l.val, h⟩) = (Net.at_ (ix2 r l) (Body.lv L q)).2 := by
  have e1 : (128 * q + l.val) / 128 = q := by omega
  have e2 : ∀ h, (⟨(128 * q + l.val) % 128, h⟩ : Fin 128) = l := fun h => Fin.ext (by simp only; omega)
  refine ⟨(Extract.candV_at L r _).trans ?_, (Extract.candJ_at L r _).trans ?_⟩
  · simp only [e1, e2]
  · simp only [e1, e2]

/-- A row and a lane with few enough high entries, for a threshold `a`. -/
def Fits (x : Fin 100000 → EReal) (a : EReal) : Prop :=
  ∀ l : Fin 128, ((Finset.range 782).filter fun n => a ≤ (entry x l n).1).card ≤ 14

theorem entry_true (x : Fin 100000 → EReal) (n : ℕ) (h : ⊥ < (entry x l n).1) :
    ∃ j : Fin 100000, (entry x l n).1 = x j ∧ (entry x l n).2 = BitVec.ofNat 32 j.val := by
  unfold entry at h ⊢
  split
  · exact ⟨_, rfl, rfl⟩
  · rename_i hn
    rw [dif_neg hn] at h
    by_cases h96 : 96 ≤ l.val
    · simp only [if_pos h96]
      exact ⟨_, rfl, rfl⟩
    · simp only [if_neg h96] at h
      exact absurd h (lt_irrefl _)

theorem entry_all (x : Fin 100000 → EReal) (j : Fin 100000) :
    ∃ (l : Fin 128) (n : ℕ), n < 782 ∧ entry x l n = (x j, BitVec.ofNat 32 j.val) := by
  by_cases h : j.val < 99968
  · refine ⟨⟨j.val % 128, Nat.mod_lt _ (by decide)⟩, j.val / 128, by omega, ?_⟩
    have e : 128 * (j.val / 128) + j.val % 128 = j.val := Nat.div_add_mod _ _
    rw [entry, dif_pos (by omega)]
    simp only [e]
  · refine ⟨⟨j.val - 99872, by omega⟩, 781, by omega, ?_⟩
    have e : 99872 + (j.val - 99872) = j.val := by omega
    rw [entry, dif_neg (by omega)]
    simp only [e]
    rw [if_pos (by omega)]

theorem holds (arg1 : Memref sig .tc .vmem S8x100000 .f32) (harg1 : arg1.IsWhole) (x0 : FVec Ideal S8x100000 .f32) (r : Fin 8)
    (x : Fin 100000 → EReal) (ρ : Fin 100000 → Fin 100000) (hx : x = fun j => x0 (ix2 r j)) (R : Order.Ranks x ρ)
    (hlow : ⊥ < x (ρ 63)) (hfit : Fits x (x (ρ 63))) :
    Extract.Holds (fun k => Body.candV (Body.levels (F := Ideal) arg1 (harg1.unread x0)) (ix2 r k))
      (fun k => Body.candJ (Body.levels (F := Ideal) arg1 (harg1.unread x0)) (ix2 r k)) x ρ := by
  have hlen : (Body.levels (F := Ideal) arg1 (harg1.unread x0)).length = 14 := by
    have := congrArg List.length (levels_at arg1 harg1 x0 r 0)
    rw [List.length_map] at this
    rw [this]
    have hr : ∀ n, (Net.run (entry (fun j => x0 (ix2 r j)) 0) n empty).length = 14 := by
      intro n
      induction n with
      | zero => rfl
      | succ n ih => rw [Net.run, Net.ins_length, ih]
    exact hr _
  have hkeep : ∀ l : Fin 128, ∀ n < 782, x (ρ 63) ≤ (entry x l n).1 → entry x l n ∈ Net.run (entry x l) 782 empty := by
    intro l
    refine (Net.run_keeps (x (ρ 63)) (entry x l) 782 empty ?_ ?_ (hfit l)).2.2.2
    · rw [empty, List.pairwise_replicate]; exact Or.inr le_rfl
    · intro t ht
      rw [empty, List.mem_replicate] at ht
      rw [ht.2]; exact hlow
  have htrue : ∀ l : Fin 128, ∀ t ∈ Net.run (entry x l) 782 empty, ⊥ < t.1 → ∃ j : Fin 100000, t.1 = x j ∧ t.2 = BitVec.ofNat 32 j.val := by
    intro l
    refine Net.run_forall _ _ _ _ (fun m _ => entry_true l x m) ?_
    intro t ht h
    rw [empty, List.mem_replicate] at ht
    rw [ht.2] at h; exact absurd h (lt_irrefl _)
  have hget : ∀ (l : Fin 128) (q : ℕ) (hq : q < 14),
      Net.at_ (ix2 r l) (Body.lv (Body.levels arg1 (harg1.unread x0)) q) ∈ Net.run (entry x l) 782 empty := by
    intro l q hq
    subst hx
    rw [← levels_at arg1 harg1 x0 r l, lv_eq _ _ (hlen.symm ▸ hq)]
    exact List.mem_map_of_mem (List.getElem_mem _)
  refine ⟨R, hlow, fun k hk => ?_, fun j hj => ?_⟩
  · simp only [Extract.candV_at, Extract.candJ_at] at hk ⊢
    exact htrue _ _ (hget _ _ (by omega)) hk
  · obtain ⟨l, n, hn, he⟩ := entry_all x j
    have hm := hkeep l n hn (by rw [he]; exact hj)
    rw [he] at hm
    subst hx
    rw [← levels_at arg1 harg1 x0 r l, List.mem_map] at hm
    obtain ⟨t, ht, he⟩ := hm
    obtain ⟨q, hq, rfl⟩ := List.mem_iff_getElem.mp ht
    have hq' : q < 14 := hlen ▸ hq
    have e3 : Net.at_ (ix2 r l) (Body.lv (Body.levels (F := Ideal) arg1 (harg1.unread x0)) q)
        = (x0 (ix2 r j), BitVec.ofNat 32 j.val) := (congrArg _ (lv_eq _ q hq)).trans he
    have hb : 128 * q + l.val < 1792 := by have := l.isLt; clear * - hq' this; omega
    obtain ⟨c1, c2⟩ := cand_pair r l (Body.levels (F := Ideal) arg1 (harg1.unread x0)) q hq' hb
    exact ⟨⟨128 * q + l.val, hb⟩, c1.trans (congrArg Prod.fst e3), c2.trans (congrArg Prod.snd e3)⟩

end Cert.Proof.Cand
end
end
-- ==== Proof.Sample.lean ====
module

public import proofs.«01_k».proof.Proof.Body
public import proofs.«01_k».proof.Proof.Extract
public import Idealize.ShloMosaic.Lib.Pointwise.Reduce

@[expose] public section
set_option maxRecDepth 20000
noncomputable section

/-! The draw in one row: both programs choose the first column of the greatest noisy log-probability. -/

namespace Cert.Proof.Sample
open Idealize Idealize.ShloMosaic Cert.KernelIdeal Cert.KernelIdeal.Gen

/-- Column `k` is the first of the greatest. -/
structure First (N : Fin 64 → EReal) (k : Fin 64) : Prop where
  le : ∀ j, N j ≤ N k
  lt : ∀ j, j < k → N j < N k

theorem first_exists (N : Fin 64 → EReal) : ∃ k, First N k := by
  obtain ⟨a, -, ha⟩ := Finset.exists_max_image Finset.univ N ⟨0, Finset.mem_univ _⟩
  have hne : (Finset.univ.filter fun k => N k = N a).Nonempty := ⟨a, by simp⟩
  have hm := (Finset.mem_filter.1 (Finset.min'_mem _ hne)).2
  refine ⟨(Finset.univ.filter fun k => N k = N a).min' hne, ⟨fun j => ?_, fun j hj => ?_⟩⟩
  · rw [hm]; exact ha j (Finset.mem_univ _)
  · rw [hm]
    refine lt_of_le_of_ne (ha j (Finset.mem_univ _)) fun e => ?_
    exact absurd (Finset.min'_le _ j (Finset.mem_filter.2 ⟨Finset.mem_univ _, e⟩)) (not_le.2 hj)

variable (V : FVec Ideal S8x64 .f32) (J : IVec S8x64 32) (g : FVec Ideal S8x64 .f32) (p : FVec Ideal S8x1 .f32) (r : Fin 8)

theorem eq_bit (a b : EReal) {D : Decidable (a = b)} {E : Decidable (a = b)} {α : Type} (x y : α) :
    Scalar.select (BitVec.ofBool (@decide (a = b) D)) x y = @ite α (a = b) E x y := by
  rw [Subsingleton.elim D E]
  by_cases h : a = b <;> simp [h, Scalar.select]

theorem noisy_at (k : Fin 64) : Body.noisy V g (ix2 r k)
    = Ideal.log (max (Ideal.exp (V (ix2 r k))) (Ideal.ofBits .f32 0x0DA24260#32)) + g (ix2 r k) := by
  pointwise [Body.noisy]

/-- The first column of the greatest, as the fold finds it. -/
theorem fold_first (N : Fin 64 → EReal) (k₀ : Fin 64) (h : First N k₀) [D : DecidablePred fun k => N k = N k₀] :
    Finset.fold IntOp.minsi (2147483647#32) (fun k : Fin 64 => if N k = N k₀ then BitVec.ofNat 32 k.val else 64#32) Finset.univ
      = BitVec.ofNat 32 k₀.val := by
  refine Extract.fold_min_eq _ _ _ ?_ (fun k => ?_) ⟨k₀, if_pos rfl⟩
  · rw [Extract.toInt_small k₀.val (by omega), show (2147483647#32).toInt = 2147483647 from by decide]; omega
  · rw [Extract.toInt_small k₀.val (by omega)]
    by_cases e : N k = N k₀
    · rw [if_pos e, Extract.toInt_small k.val (by omega)]
      have : ¬ k < k₀ := fun hk => absurd (h.lt k hk) (by rw [e]; exact lt_irrefl _)
      have := not_lt.1 this
      exact_mod_cast this
    · rw [if_neg e, show (64#32).toInt = 64 from by decide]; omega

theorem drawn_at (k₀ : Fin 64) (h : First (fun k => Body.noisy V g (ix2 r k)) k₀) (k : Fin 64) :
    Body.drawn V g (ix2 r k) = BitVec.ofBool (decide (k = k₀)) := by
  unfold Body.drawn
  generalize hN : Body.noisy V g = N at h ⊢
  pointwise [Body.cols]
  have hM : Finset.fold max (Ideal.ofBits FTy.f32 4286578688#32) (fun x => N (ix2 r x)) Finset.univ = N (ix2 r k₀) := by
    rw [Extract.bits_bot]
    exact Extract.fold_max_eq _ _ h.le ⟨k₀, rfl⟩
  rw [hM, fold_first (fun k => N (ix2 r k)) k₀ h]
  unfold IntOp.cmpi
  congr 1
  rw [Bool.eq_iff_iff]
  simp only [beq_iff_eq, decide_eq_true_eq]
  refine ⟨fun e => Fin.ext ?_, fun e => by rw [e]⟩
  have := congrArg BitVec.toNat e
  rw [BitVec.toNat_ofNat, BitVec.toNat_ofNat] at this
  omega

theorem scoreOf_at (k₀ : Fin 64) (h : First (fun k => Body.noisy V g (ix2 r k)) k₀) :
    Body.scoreOf V g p (ix2 r 0) = Ideal.log (Ideal.exp (V (ix2 r k₀))) + p (ix2 r 0) := by
  have hd := drawn_at V g r k₀ h
  unfold Body.scoreOf
  generalize Body.drawn V g = D at hd ⊢
  pointwise
  rw [Extract.bits_bot, Extract.fold_max_eq _ (V (ix2 r k₀))]
  · intro k
    rw [hd, Net.sel_ofBool]
    split
    · rename_i e; rw [e]
    · exact bot_le
  · exact ⟨k₀, by rw [hd, Net.sel_ofBool, if_pos rfl]⟩

theorem indexOf_at (k₀ : Fin 64) (h : First (fun k => Body.noisy V g (ix2 r k)) k₀) (hJ : 0 ≤ (J (ix2 r k₀)).toInt) :
    Body.indexOf V J g (ix2 r 0) = J (ix2 r k₀) := by
  have hd := drawn_at V g r k₀ h
  unfold Body.indexOf
  generalize Body.drawn V g = D at hd ⊢
  pointwise
  refine Extract.fold_maxsi_eq _ _ _ ?_ (fun k => ?_) ⟨k₀, by rw [hd, Net.sel_ofBool, if_pos rfl]⟩
  · rw [show (2147483648#32).toInt = -2147483648 from by decide]; omega
  · rw [hd, Net.sel_ofBool]
    split
    · rename_i e; rw [e]
    · exact hJ

end Cert.Proof.Sample
end
end
-- ==== Proof.RefRun.lean ====
module

public import proofs.«01_k».proof.Defs
public import proofs.«01_k».proof.Proof.Gen.ReferenceIdeal
public import Idealize.ShloMosaic.Lib.Claim
public import Idealize.ShloMosaic.Lib.Quiescent

@[expose] public section
noncomputable section

/-! The run of the reference: a program of host operations only, some of them in called functions. The operations of
    each function are collected with the facts a run asks of them, and the whole program runs to their composed effect. -/

namespace Cert.Proof.Ref
open Idealize Idealize.ShloMosaic Idealize.SL Idealize.SL.Sem Cert.ReferenceIdeal

/-- The programs of the reference. -/
abbrev HProg := Prog (TpuEff nD τ sig (Elt Ideal) (Pipeline.Sig Λ₀ (Fin 0) fun p => (pcfgs (F := Ideal) p).Adm) .tc) PUnit

/-- The host operations a program performs, in order. -/
class Line (p : HProg) where
  ops : List (HloOp τ sig (Elt Ideal))
  eq : p = StableHlo.seq ops
  bufs : ops.Forall fun op => op.bufs ⊆ StableHlo.tcRefs τ sig
  fresh : ops.Forall fun op => op.fresh = ∅

/-- The end of a program performs nothing. -/
instance Line.done : Line (pure ⟨⟩) := ⟨[], rfl, trivial, trivial⟩

/-- One operation. -/
@[instance_reducible] def Line.one (op : HloOp τ sig (Elt Ideal)) (hb : op.bufs ⊆ StableHlo.tcRefs τ sig) (hf : op.fresh = ∅) :
    Line (hlo rfl op fun _ => .ret ⟨⟩) := ⟨[op], rfl, hb, hf⟩

/-- One program after another. -/
instance Line.andThen {p : HProg} {q : HProg} [a : Line p] [b : Line q] : Line (p >>= fun _ => q) where
  ops := a.ops ++ b.ops
  eq := by rw [StableHlo.seq_append, ← a.eq, ← b.eq]
  bufs := List.forall_append.2 ⟨a.bufs, b.bufs⟩
  fresh := List.forall_append.2 ⟨a.fresh, b.fresh⟩

variable {a b c e y : Ref sig .tc}

instance Line.nullary (v : y.ty.Contents (Elt Ideal)) (hy) :
    Line (hlo rfl (StableHlo.nullary y v hy) fun _ => .ret ⟨⟩) := .one _ (StableHlo.nullary_bufs_sub ..) rfl
instance Line.unary (f : a.ty.Contents (Elt Ideal) → y.ty.Contents (Elt Ideal)) (ha hy) :
    Line (hlo rfl (StableHlo.unary a y f ha hy) fun _ => .ret ⟨⟩) := .one _ (StableHlo.unary_bufs_sub ..) rfl
instance Line.binary (f : a.ty.Contents (Elt Ideal) → b.ty.Contents (Elt Ideal) → y.ty.Contents (Elt Ideal)) (ha hb hy) :
    Line (hlo rfl (StableHlo.binary a b y f ha hb hy) fun _ => .ret ⟨⟩) := .one _ (StableHlo.binary_bufs_sub ..) rfl
instance Line.ternary (f : c.ty.Contents (Elt Ideal) → a.ty.Contents (Elt Ideal) → b.ty.Contents (Elt Ideal) →
      y.ty.Contents (Elt Ideal)) (hc ha hb hy) :
    Line (hlo rfl (StableHlo.ternary c a b y f hc ha hb hy) fun _ => .ret ⟨⟩) := .one _ (StableHlo.ternary_bufs_sub ..) rfl
instance Line.quaternary (f : a.ty.Contents (Elt Ideal) → b.ty.Contents (Elt Ideal) → c.ty.Contents (Elt Ideal) →
      e.ty.Contents (Elt Ideal) → y.ty.Contents (Elt Ideal)) (ha hb hc he hy) :
    Line (hlo rfl (StableHlo.quaternary a b c e y f ha hb hc he hy) fun _ => .ret ⟨⟩) :=
  .one _ (StableHlo.quaternary_bufs_sub ..) rfl
instance Line.reshape (he hn ha hy) :
    Line (hlo rfl (StableHlo.reshape a y he hn ha hy) fun _ => .ret ⟨⟩) := .one _ (StableHlo.reshape_bufs_sub ..) rfl
instance Line.unaryIndexed {n : Nat} (ix : Fin n → Ref sig .tc) (T : BufTy)
    (f : a.ty.Contents (Elt Ideal) → (Fin n → T.Contents (Elt Ideal)) → y.ty.Contents (Elt Ideal)) (hT ha hix hy) :
    Line (hlo rfl (StableHlo.unaryIndexed a ix T y f hT ha hix hy) fun _ => .ret ⟨⟩) :=
  .one _ (StableHlo.unaryIndexed_bufs_sub ..) rfl

set_option synthInstance.maxHeartbeats 4000000
set_option synthInstance.maxSize 100000
set_option maxHeartbeats 4000000
set_option maxRecDepth 10000

instance (a b c d) (φ) : Line (fn_threefry2x32.body_part0 (F := Ideal) a b c d φ) := by unfold fn_threefry2x32.body_part0; infer_instance
instance (a b c d) (φ) : Line (fn_threefry2x32.body_part1 (F := Ideal) a b c d φ) := by unfold fn_threefry2x32.body_part1; infer_instance
instance (a b c d) (φ) : Line (fn_threefry2x32.body_part2 (F := Ideal) a b c d φ) := by unfold fn_threefry2x32.body_part2; infer_instance
instance (a b c d) (φ) : Line (fn_threefry2x32.body_part3 (F := Ideal) a b c d φ) := by unfold fn_threefry2x32.body_part3; infer_instance
instance (a b c d) (φ) : Line (fn_threefry2x32.body (F := Ideal) a b c d φ) := by unfold fn_threefry2x32.body; infer_instance
instance (a φ) : Line (fn_threefry_split.body (F := Ideal) a φ) := by unfold fn_threefry_split.body; infer_instance
instance (a b c d) (φ) : Line (fn_threefry2x32_0.body_part0 (F := Ideal) a b c d φ) := by unfold fn_threefry2x32_0.body_part0; infer_instance
instance (a b c d) (φ) : Line (fn_threefry2x32_0.body_part1 (F := Ideal) a b c d φ) := by unfold fn_threefry2x32_0.body_part1; infer_instance
instance (a b c d) (φ) : Line (fn_threefry2x32_0.body_part2 (F := Ideal) a b c d φ) := by unfold fn_threefry2x32_0.body_part2; infer_instance
instance (a b c d) (φ) : Line (fn_threefry2x32_0.body_part3 (F := Ideal) a b c d φ) := by unfold fn_threefry2x32_0.body_part3; infer_instance
instance (a b c d) (φ) : Line (fn_threefry2x32_0.body (F := Ideal) a b c d φ) := by unfold fn_threefry2x32_0.body; infer_instance
instance (a b c φ) : Line (fn_uniform.body (F := Ideal) a b c φ) := by unfold fn_uniform.body; infer_instance
instance (a φ) : Line (fn_gumbel.body (F := Ideal) a φ) := by unfold fn_gumbel.body; infer_instance
instance (a φ) : Line (fn_argmax.body (F := Ideal) a φ) := by unfold fn_argmax.body; infer_instance
instance (a b φ) : Line (fn_take_along_axis.body (F := Ideal) a b φ) := by unfold fn_take_along_axis.body; infer_instance
instance (a b φ) : Line (fn_take_along_axis_1.body (F := Ideal) a b φ) := by unfold fn_take_along_axis_1.body; infer_instance
instance (a b φ) : Line (fn_take_along_axis_2.body (F := Ideal) a b φ) := by unfold fn_take_along_axis_2.body; infer_instance
instance (d : Dev nD) : Line (main_part0 (F := Ideal) d) := by unfold main_part0; infer_instance
instance (d : Dev nD) : Line (main_part1 (F := Ideal) d) := by unfold main_part1; infer_instance
instance line_main (d : Dev nD) : Line (main (F := Ideal) d) := by unfold main; infer_instance

/-- The reference runs to the composed effect of its operations, every counter at zero. -/
theorem ref_run (m : (ℓ : Loc nD τ sig) → Buf (Elt Ideal) ℓ) (g : Dev nD → PrngReg) :
    θ_run (defs (F := Ideal)) (onTc (τ := τ) (main (F := Ideal))) ⟨m, fun _ => 0, g⟩ fun r =>
      (∀ (d : Dev nD) (b : Ref sig .tc), r.2.mem ((d.tc : Thread nD τ).loc b)
        = StableHlo.after (line_main d).ops (StableHlo.launchContents m d) (Proc.devRef .tc b)) ∧ r.2.sem = fun _ => 0 :=
  θ_run_mono (StableHlo.run_seq (by decide) (by decide) defs main (fun d => (line_main d).ops) (fun d => (line_main d).eq)
      (fun d => (line_main d).bufs) m g (fun d => List.forall_iff_forall_mem.1 (line_main d).fresh))
    fun r h => ⟨h, sem_eq_zero_of_no_sems (by decide) _⟩

theorem after_arg0 (d : Dev nD) (V : Valuation τ sig (Elt Ideal)) :
    StableHlo.after (line_main d).ops V (Proc.devRef .tc main_arg0) = V (Proc.devRef .tc main_arg0) := by sl_kernel_rfl
theorem after_arg1 (d : Dev nD) (V : Valuation τ sig (Elt Ideal)) :
    StableHlo.after (line_main d).ops V (Proc.devRef .tc main_arg1) = V (Proc.devRef .tc main_arg1) := by sl_kernel_rfl
theorem after_arg2 (d : Dev nD) (V : Valuation τ sig (Elt Ideal)) :
    StableHlo.after (line_main d).ops V (Proc.devRef .tc main_arg2) = V (Proc.devRef .tc main_arg2) := by sl_kernel_rfl
theorem after_arg3 (d : Dev nD) (V : Valuation τ sig (Elt Ideal)) :
    StableHlo.after (line_main d).ops V (Proc.devRef .tc main_arg3) = V (Proc.devRef .tc main_arg3) := by sl_kernel_rfl
theorem after_arg4 (d : Dev nD) (V : Valuation τ sig (Elt Ideal)) :
    StableHlo.after (line_main d).ops V (Proc.devRef .tc main_arg4) = V (Proc.devRef .tc main_arg4) := by sl_kernel_rfl

/-- The reference runs to its end, leaves its arguments unchanged and every counter at zero. -/
theorem ref_frame : Cert.quiescent_ReferenceIdeal := fun m g _ =>
  θ_run_mono (ref_run m g) fun _ h =>
    ⟨fun c => ⟨(h.1 c _).trans (after_arg0 c _), (h.1 c _).trans (after_arg1 c _), (h.1 c _).trans (after_arg2 c _),
      (h.1 c _).trans (after_arg3 c _), (h.1 c _).trans (after_arg4 c _)⟩, h.2⟩

end Cert.Proof.Ref
end
end
-- ==== Proof.RefDefs.lean ====
module

public import proofs.«01_k».proof.Proof.RefRun
public import proofs.«01_k».proof.Proof.Order

@[expose] public section
noncomputable section

/-! The reference's results as functions of its arguments and of the noise. -/

namespace Cert.Proof.Val
open Idealize Idealize.ShloMosaic Cert.ReferenceIdeal Cert.ReferenceIdeal.Facts₀

/-- A scalar spread over a shape. -/
abbrev spread {α : Type} (s : Shape) (h : S_.BroadcastsInDim s (![] : Fin 0 → Fin s.rank)) (v : S_.Idx → α) : s.Idx → α :=
  broadcastInDim s ![] h v

/-- The noisy log-probabilities of the first sixty-four. -/
def noisy (t : FVec Ideal S32x8x64 .f32) (z : FVec Ideal S256x64 .f32) : FVec Ideal S256x64 .f32 :=
  addf z (Host.log (maximumf (shapeCast S256x64 (Host.exp t) shapeCasts_S32x8x64_S256x64)
    (spread S256x64 bcast_S_S256x64 (constant S_ .f32 0x0DA24260#32))))

/-- The column drawn in each row. -/
def sample (t : FVec Ideal S32x8x64 .f32) (z : FVec Ideal S256x64 .f32) : IVec S32x8 32 :=
  shapeCast S32x8 (fun j => (Host.argReduce reducer_argmax_f32_i32 (noisy t z) (iotaInDim S256x64 32 1)
    (constant S_ .f32 0xFF800000#32) (constantI S_ 32 0#32) reducesTo_S256x64_S256_d1 h_S_ j).2) shapeCasts_S256_S32x8

/-- The drawn column as an index along the last axis. -/
def column (p : IVec S32x8 32) : IVec S32x8x1 32 := broadcastInDim S32x8x1 ![0, 1] bcast_S32x8_S32x8x1_0_1 p

/-- A negative index counted from the end. -/
def wrapped (p : IVec S32x8x1 32) : IVec S32x8x1x1 32 :=
  shapeCast S32x8x1x1 (select (cmpi .slt p (spread S32x8x1 bcast_S_S32x8x1 (constantI S_ 32 0#32)))
    (addi p (spread S32x8x1 bcast_S_S32x8x1 (constantI S_ 32 64#32))) p) shapeCasts_S32x8x1_S32x8x1x1

/-- Whether the index is in range. -/
def inRange (q : IVec S32x8x1x1 32) : IVec S32x8x1 1 :=
  Host.reduce IntOp.andi (andi (cmpi .sge q (spread S32x8x1x1 bcast_S_S32x8x1x1 (constantI S_ 32 0#32)))
    (cmpi .sle q (broadcastInDim S32x8x1x1 ![0, 1, 2, 3] bcast_S1x1x1x1_S32x8x1x1_0_1_2_3
      (broadcastInDim S1x1x1x1 ![3] bcast_S1_S1x1x1x1_3 (constantI S1 32 63#32)))))
    (constantI S_ 1 1#1) reducesTo_S32x8x1x1_S32x8x1_d3 h_S_

/-- The entries at an index along the last axis. -/
def taken {α : Type} (x : S32x8x64.Idx → α) (p : IVec S32x8x1 32) (fill : S_.Idx → α) : S32x8x1.Idx → α :=
  select (inRange (wrapped p)) (Host.gather gather_S32x8x64_S32x8x1x1_S32x8x1_n_2_01_01_2_3_111 x (wrapped p))
    (spread S32x8x1 bcast_S_S32x8x1 fill)

/-- The positions drawn. -/
def index (x : FVec Ideal S32x8x100000 .f32) (z : FVec Ideal S256x64 .f32) : IVec S32x8 32 :=
  shapeCast S32x8 (taken (Order.top x).2 (column (sample (Order.top x).1 z)) (constantI S_ 32 2147483648#32)) shapeCasts_S32x8x1_S32x8

/-- Each row's own number among its eight. -/
def beams : IVec S32x8 32 :=
  shapeCast S32x8 (broadcastInDim S32x1x1x8 ![0, 1, 2, 3] bcast_S1x1x1x8_S32x1x1x8_0_1_2_3
    (shapeCast S1x1x1x8 (broadcastInDim S1x8 ![1] bcast_S8_S1x8_1 (iotaInDim S8 32 0)) shapeCasts_S1x8_S1x1x1x8))
    shapeCasts_S32x1x1x8_S32x8

/-- A negative beam counted from the end. -/
def wrapped8 (p : IVec S32x8 32) : IVec S32x8x1 32 :=
  shapeCast S32x8x1 (select (cmpi .slt p (spread S32x8 bcast_S_S32x8 (constantI S_ 32 0#32)))
    (addi p (spread S32x8 bcast_S_S32x8 (constantI S_ 32 8#32))) p) shapeCasts_S32x8_S32x8x1

/-- Whether the beam is in range. -/
def inRange8 (q : IVec S32x8x1 32) : IVec S32x8 1 :=
  Host.reduce IntOp.andi (andi (cmpi .sge q (spread S32x8x1 bcast_S_S32x8x1 (constantI S_ 32 0#32)))
    (cmpi .sle q (broadcastInDim S32x8x1 ![0, 1, 2] bcast_S1x1x1_S32x8x1_0_1_2
      (broadcastInDim S1x1x1 ![2] bcast_S1_S1x1x1_2 (constantI S1 32 7#32)))))
    (constantI S_ 1 1#1) reducesTo_S32x8x1_S32x8_d2 h_S_

/-- The entries at a beam. -/
def taken8 (x : FVec Ideal S32x8 .f32) (p : IVec S32x8 32) : FVec Ideal S32x8 .f32 :=
  select (inRange8 (wrapped8 p)) (Host.gather gather_S32x8_S32x8x1_S32x8_n_1_0_0_1_2_11 x (wrapped8 p))
    (spread S32x8 bcast_S_S32x8 (constant S_ .f32 0x7FC00000#32))

/-- The scores of the positions drawn, added to the past ones. -/
def score (x : FVec Ideal S32x8x100000 .f32) (z : FVec Ideal S256x64 .f32) (s : FVec Ideal S32x8x1 .f32) :
    FVec Ideal S32x8 .f32 :=
  addf (shapeCast S32x8 (Host.log (taken (Host.exp (Order.top x).1) (column (sample (Order.top x).1 z))
    (constant S_ .f32 0x7FC00000#32))) shapeCasts_S32x8x1_S32x8) (taken8 (shapeCast S32x8 s shapeCasts_S32x8x1_S32x8) beams)

/-- A slice as large as its operand is its operand. -/
theorem whole_slice (x : FVec Ideal S32x8x1 .f32) (st : Fin 3 → Int) :
    Host.dynamicSlice S32x8x1 x st sliceFits_S32x8x1_S32x8x1 = x := by
  funext i
  unfold Host.dynamicSlice
  show x _ = x i
  congr 1
  funext a
  refine Fin.ext ?_
  have key : ∀ (m n : ℕ) (s : ℤ), (min (max s 0) ((n - n : ℕ) : ℤ)).toNat + m = m := fun m n s => by omega
  exact key (i a).val (S32x8x1.size a) (st a)

theorem after_line (V : Valuation τ sig (Elt Ideal)) {l l₁ l₂ : List (HloOp τ sig (Elt Ideal))} {op : HloOp τ sig (Elt Ideal)}
    (h : l = l₁ ++ op :: l₂) : StableHlo.after l V = StableHlo.after l₂ (op.result (StableHlo.after l₁ V)) := by
  subst h
  induction l₁ generalizing V with
  | nil => rfl
  | cons o os ih => exact ih _

end Cert.Proof.Val
end
end
-- ==== Proof.RefSample.lean ====
module

public import proofs.«01_k».proof.Proof.Sample
public import proofs.«01_k».proof.Proof.RefDefs

@[expose] public section
set_option maxRecDepth 20000
noncomputable section

/-! The reference's results at one row. -/

namespace Cert.Proof.Val
open Idealize Idealize.ShloMosaic Cert.ReferenceIdeal Cert.ReferenceIdeal.Facts₀

/-- Row `8 b + c` of the two hundred and fifty-six. -/
def row (b : Fin 32) (c : Fin 8) : Fin 256 := ⟨8 * b.val + c.val, by omega⟩

theorem noisy_at (t : FVec Ideal S32x8x64 .f32) (z : FVec Ideal S256x64 .f32) (b : Fin 32) (c : Fin 8) (k : Fin 64) :
    noisy t z (ix2 (row b c) k)
      = z (ix2 (row b c) k) + Ideal.log (max (Ideal.exp (t (ix3 b c k))) (Ideal.ofBits .f32 0x0DA24260#32)) := by
  pointwise [noisy, row]

theorem reducer_eq (a b : EReal × BitVec 32) :
    (reducer_argmax_f32_i32 (F := Ideal) a b = a ∨ reducer_argmax_f32_i32 (F := Ideal) a b = b)
    ∧ a.1 ≤ (reducer_argmax_f32_i32 (F := Ideal) a b).1 ∧ b.1 ≤ (reducer_argmax_f32_i32 (F := Ideal) a b).1
    ∧ (a.1 = (reducer_argmax_f32_i32 (F := Ideal) a b).1 → (reducer_argmax_f32_i32 (F := Ideal) a b).2.toInt ≤ a.2.toInt)
    ∧ (b.1 = (reducer_argmax_f32_i32 (F := Ideal) a b).1 → (reducer_argmax_f32_i32 (F := Ideal) a b).2.toInt ≤ b.2.toInt) := by
  obtain ⟨v, i⟩ := a
  obtain ⟨w, j⟩ := b
  have e : reducer_argmax_f32_i32 (F := Ideal) (v, i) (w, j)
      = if w < v then (v, i) else if v = w then (if i.toInt < j.toInt then (v, i) else (w, j)) else (w, j) := by
    unfold reducer_argmax_f32_i32
    by_cases h : w < v
    · simp [h, h.ne', Ideal.cmpf_def, Ideal.cmp, Scalar.select, IntOp.ori, IntOp.andi, IntOp.cmpi]
    · by_cases h' : v = w
      · by_cases h'' : i.toInt < j.toInt <;>
          simp [h', h'', Ideal.cmpf_def, Ideal.cmp, Scalar.select, IntOp.ori, IntOp.andi, IntOp.cmpi, BitVec.slt]
      · simp [h, h', Ideal.cmpf_def, Ideal.cmp, Scalar.select, IntOp.ori, IntOp.andi, IntOp.cmpi]
  rw [e]
  clear e
  by_cases h : w < v
  · rw [if_pos h]
    exact ⟨Or.inl rfl, le_rfl, h.le, fun _ => le_rfl, fun hh => absurd hh h.ne⟩
  · rw [if_neg h]
    by_cases h' : v = w
    · rw [if_pos h']
      subst h'
      by_cases h'' : i.toInt < j.toInt
      · rw [if_pos h'']
        exact ⟨Or.inl rfl, le_rfl, le_rfl, fun _ => le_rfl, fun _ => h''.le⟩
      · rw [if_neg h'']
        exact ⟨Or.inr rfl, le_rfl, le_rfl, fun _ => not_lt.1 h'', fun _ => le_rfl⟩
    · rw [if_neg h']
      exact ⟨Or.inr rfl, not_lt.1 h, le_rfl, fun hh => absurd hh h', fun _ => le_rfl⟩

theorem fold_reducer (l : List (EReal × BitVec 32)) (a : EReal × BitVec 32) :
    (l.foldl (reducer_argmax_f32_i32 (F := Ideal)) a = a ∨ l.foldl (reducer_argmax_f32_i32 (F := Ideal)) a ∈ l) ∧
    ∀ p, p = a ∨ p ∈ l → p.1 ≤ (l.foldl (reducer_argmax_f32_i32 (F := Ideal)) a).1 ∧
      (p.1 = (l.foldl (reducer_argmax_f32_i32 (F := Ideal)) a).1 → (l.foldl (reducer_argmax_f32_i32 (F := Ideal)) a).2.toInt ≤ p.2.toInt) := by
  induction l generalizing a with
  | nil => exact ⟨Or.inl rfl, fun p hp => by rcases hp with rfl | hp <;> [exact ⟨le_rfl, fun _ => le_rfl⟩; cases hp]⟩
  | cons b l ih =>
    obtain ⟨h1, h2⟩ := ih (reducer_argmax_f32_i32 (F := Ideal) a b)
    obtain ⟨r1, r2, r3, r4, r5⟩ := reducer_eq a b
    rw [List.foldl_cons]
    generalize reducer_argmax_f32_i32 (F := Ideal) a b = q at *
    generalize l.foldl (reducer_argmax_f32_i32 (F := Ideal)) q = R at *
    obtain ⟨g1, g2⟩ := h2 q (Or.inl rfl)
    refine ⟨?_, fun p hp => ?_⟩
    · rcases h1 with h1 | h1
      · rcases r1 with r1 | r1
        · exact Or.inl (h1.trans r1)
        · exact Or.inr (by rw [h1, r1]; exact List.mem_cons_self ..)
      · exact Or.inr (List.mem_cons_of_mem _ h1)
    · rcases hp with rfl | hp
      · refine ⟨r2.trans g1, fun e => ?_⟩
        have : p.1 = q.1 := le_antisymm r2 (e ▸ g1)
        exact (g2 (this ▸ e)).trans (r4 this)
      · rcases List.mem_cons.1 hp with rfl | hp
        · refine ⟨r3.trans g1, fun e => ?_⟩
          have : p.1 = q.1 := le_antisymm r3 (e ▸ g1)
          exact (g2 (this ▸ e)).trans (r5 this)
        · exact h2 p (Or.inr hp)

theorem drop_at (R : Fin 256) (i : S256x64.Idx) : reducesTo_S256x64_S256_d1.drop i = ix1 R ↔ ∃ k : Fin 64, i = ix2 R k := by
  have h0 : (reducesTo_S256x64_S256_d1.drop i 0).val = (i 0).val :=
    reducesTo_S256x64_S256_d1.drop_apply_val_of_eq i 0 0
  constructor
  · intro h
    refine ⟨i 1, ?_⟩
    have : (i 0).val = R.val := by rw [← h0, h]; rfl
    funext a
    match a with
    | ⟨0, _⟩ => exact Fin.ext this
    | ⟨1, _⟩ => rfl
  · rintro ⟨k, rfl⟩
    funext a
    match a with
    | ⟨0, _⟩ => exact Fin.ext h0

theorem mem_fiber (N : FVec Ideal S256x64 .f32) (R : Fin 256) (p : EReal × BitVec 32) :
    p ∈ Host.argReduceFiber N (iotaInDim S256x64 32 1) reducesTo_S256x64_S256_d1 (ix1 R)
      ↔ ∃ k : Fin 64, p = (N (ix2 R k), BitVec.ofNat 32 k.val) := by
  unfold Host.argReduceFiber
  rw [List.mem_map]
  constructor
  · rintro ⟨n, hn, rfl⟩
    have := (List.mem_filter.1 hn).2
    obtain ⟨k, hk⟩ := (drop_at R _).1 (of_decide_eq_true this)
    refine ⟨k, ?_⟩
    rw [hk]
    rfl
  · rintro ⟨k, rfl⟩
    refine ⟨S256x64.rowMajor (ix2 R k), List.mem_filter.2 ⟨List.mem_finRange _, ?_⟩, ?_⟩
    · rw [Equiv.symm_apply_apply]
      exact decide_eq_true ((drop_at R _).2 ⟨k, rfl⟩)
    · rw [Equiv.symm_apply_apply]
      rfl

theorem first_of_fold (N : FVec Ideal S256x64 .f32) (R : Fin 256) (k₀ : Fin 64) (h : Sample.First (fun k => N (ix2 R k)) k₀) :
    (Host.argReduce reducer_argmax_f32_i32 N (iotaInDim S256x64 32 1) (constant S_ .f32 0xFF800000#32) (constantI S_ 32 0#32)
      reducesTo_S256x64_S256_d1 h_S_ (ix1 R)).2 = BitVec.ofNat 32 k₀.val := by
  rw [Ideal.argReduce_eq_reduce2, Host.reduce2_eq_foldl_fiber]
  have e : (constant (F := Ideal) S_ .f32 0xFF800000#32 (Shape.Idx.first h_S_), constantI S_ 32 0#32 (Shape.Idx.first h_S_)) = ((⊥ : EReal), 0#32) :=
    Prod.ext Extract.bits_bot rfl
  obtain ⟨h1, h2⟩ := fold_reducer (Host.argReduceFiber N (iotaInDim S256x64 32 1) reducesTo_S256x64_S256_d1 (ix1 R)) (⊥, 0#32)
  have key : ∀ q, q = ((⊥ : EReal), 0#32) → (List.foldl (reducer_argmax_f32_i32 (F := Ideal)) q
      (Host.argReduceFiber N (iotaInDim S256x64 32 1) reducesTo_S256x64_S256_d1 (ix1 R))).2 = BitVec.ofNat 32 k₀.val := by
    rintro q rfl
    generalize List.foldl _ _ _ = A at h1 h2 ⊢
    obtain ⟨g1, g2⟩ := h2 (N (ix2 R k₀), BitVec.ofNat 32 k₀.val) (Or.inr ((mem_fiber _ _ _).2 ⟨k₀, rfl⟩))
    rcases h1 with rfl | h1
    · have hb : N (ix2 R k₀) = ⊥ := le_bot_iff.1 g1
      have : k₀.val = 0 := by
        by_contra hne
        have := h.lt ⟨0, by decide⟩ (by show 0 < k₀.val; omega)
        simp only [hb] at this
        exact not_lt_bot this
      rw [this]
    · obtain ⟨k, rfl⟩ := (mem_fiber _ _ _).1 h1
      have hle := h.le k
      have hN : N (ix2 R k₀) = N (ix2 R k) := le_antisymm g1 hle
      have h3 := g2 hN
      simp only [Extract.toInt_small k.val (by omega), Extract.toInt_small k₀.val (by omega)] at h3
      have h4 : ¬ k < k₀ := fun hk => absurd (h.lt k hk) (by simp only [hN]; exact lt_irrefl _)
      have : k = k₀ := le_antisymm (by show k.val ≤ k₀.val; exact_mod_cast h3) (not_lt.1 h4)
      rw [this]
  exact key _ e

theorem sample_at (t : FVec Ideal S32x8x64 .f32) (z : FVec Ideal S256x64 .f32) (b : Fin 32) (c : Fin 8) (k₀ : Fin 64)
    (h : Sample.First (fun k => noisy t z (ix2 (row b c) k)) k₀) :
    sample t z (ix2 b c) = BitVec.ofNat 32 k₀.val := by
  unfold sample
  have h1 : ∀ q : IVec S256 32, shapeCast S32x8 q shapeCasts_S256_S32x8 (ix2 b c) = q (ix1 (row b c)) := by
    intro q
    pointwise [row]
    exact congrArg q (congrArg ix1 (Fin.ext (by show b.val * 8 + c.val = 8 * b.val + c.val; omega)))
  rw [h1]
  exact first_of_fold _ _ _ h

theorem wrapped_at (p : IVec S32x8x1 32) (b : Fin 32) (c : Fin 8) (k : Fin 64) (h : p (ix3 b c 0) = BitVec.ofNat 32 k.val) :
    wrapped p (ix4 b c 0 0) = BitVec.ofNat 32 k.val := by
  have key : ∀ k : Fin 64, Scalar.select (IntOp.cmpi .slt (BitVec.ofNat 32 k.val) 0#32) (IntOp.addi (BitVec.ofNat 32 k.val) 64#32)
      (BitVec.ofNat 32 k.val) = BitVec.ofNat 32 k.val := by decide
  pointwise [wrapped]
  rw [h]
  exact key k

theorem inRange_at (q : IVec S32x8x1x1 32) (b : Fin 32) (c : Fin 8) (k : Fin 64) (h : q (ix4 b c 0 0) = BitVec.ofNat 32 k.val) :
    inRange q (ix3 b c 0) = 1#1 := by
  have key : ∀ k : Fin 64, IntOp.andi (IntOp.andi (IntOp.cmpi .sge (BitVec.ofNat 32 k.val) 0#32)
      (IntOp.cmpi .sle (BitVec.ofNat 32 k.val) 63#32)) 1#1 = 1#1 := by decide
  pointwise [inRange]
  rw [Finset.univ_unique, Finset.fold_singleton]
  refine Eq.trans ?_ (key k)
  rw [← h]
  rfl

theorem wrapped8_at (p : IVec S32x8 32) (b : Fin 32) (c : Fin 8) (k : Fin 8) (h : p (ix2 b c) = BitVec.ofNat 32 k.val) :
    wrapped8 p (ix3 b c 0) = BitVec.ofNat 32 k.val := by
  have key : ∀ k : Fin 8, Scalar.select (IntOp.cmpi .slt (BitVec.ofNat 32 k.val) 0#32) (IntOp.addi (BitVec.ofNat 32 k.val) 8#32)
      (BitVec.ofNat 32 k.val) = BitVec.ofNat 32 k.val := by decide
  pointwise [wrapped8]
  rw [h]
  exact key k

theorem inRange8_at (q : IVec S32x8x1 32) (b : Fin 32) (c : Fin 8) (k : Fin 8) (h : q (ix3 b c 0) = BitVec.ofNat 32 k.val) :
    inRange8 q (ix2 b c) = 1#1 := by
  have key : ∀ k : Fin 8, IntOp.andi (IntOp.andi (IntOp.cmpi .sge (BitVec.ofNat 32 k.val) 0#32)
      (IntOp.cmpi .sle (BitVec.ofNat 32 k.val) 7#32)) 1#1 = 1#1 := by decide
  pointwise [inRange8]
  rw [Finset.univ_unique, Finset.fold_singleton]
  refine Eq.trans ?_ (key k)
  rw [← h]
  rfl

theorem beams_at (b : Fin 32) (c : Fin 8) : beams (ix2 b c) = BitVec.ofNat 32 c.val := by
  pointwise [beams]

/-- The entry at an index in range. -/
theorem gather_at {α : Type} (x : S32x8x64.Idx → α) (q : IVec S32x8x1x1 32) (b : Fin 32) (c : Fin 8) (k : Fin 64)
    (h : q (ix4 b c 0 0) = BitVec.ofNat 32 k.val) :
    Host.gather gather_S32x8x64_S32x8x1x1_S32x8x1_n_2_01_01_2_3_111 x q (ix3 b c 0) = x (ix3 b c k) := by
  unfold Host.gather
  congr 1
  funext a
  refine Fin.ext ?_
  show GatherDims.start _ (ix3 b c 0) q a + GatherDims.batchCoord _ (ix3 b c 0) a + GatherDims.offCoord _ (ix3 b c 0) a = _
  have hk : ∀ a : Fin 3, a ∉ GatherDims.sKept gather_S32x8x64_S32x8x1x1_S32x8x1_n_2_01_01_2_3_111 := by
    intro a ha
    have := (GatherDims.mem_sKept _ _).1 ha
    match a with
    | ⟨0, _⟩ => exact this.2 (List.mem_cons_self ..)
    | ⟨1, _⟩ => exact this.2 (List.mem_cons_of_mem _ (List.mem_cons_self ..))
    | ⟨2, _⟩ => exact this.1 (List.mem_cons_self ..)
  have m0 : (0 : Fin 3) ∈ GatherDims.operandBatchingDims gather_S32x8x64_S32x8x1x1_S32x8x1_n_2_01_01_2_3_111 := List.mem_cons_self ..
  have m1 : (1 : Fin 3) ∈ GatherDims.operandBatchingDims gather_S32x8x64_S32x8x1x1_S32x8x1_n_2_01_01_2_3_111 :=
    List.mem_cons_of_mem _ (List.mem_cons_self ..)
  have m2 : (2 : Fin 3) ∈ GatherDims.startIndexMap gather_S32x8x64_S32x8x1x1_S32x8x1_n_2_01_01_2_3_111 := List.mem_cons_self ..
  rw [GatherDims.offCoord_eq_zero _ _ _ (hk a), Nat.add_zero]
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.start_batching _ _ _ _ m0, Nat.zero_add]
    unfold GatherDims.batchCoord
    rw [dif_pos m0]
    rfl
  · rw [GatherDims.start_batching _ _ _ _ m1, Nat.zero_add]
    unfold GatherDims.batchCoord
    rw [dif_pos m1]
    rfl
  · rw [GatherDims.batchCoord_eq_zero _ _ _ (by show (2 : Fin 3) ∉ [0, 1]; decide), Nat.add_zero]
    unfold GatherDims.start
    rw [dif_pos m2]
    have hsi : ∀ hh, GatherDims.siIdx gather_S32x8x64_S32x8x1x1_S32x8x1_n_2_01_01_2_3_111 (ix3 b c 0)
        ⟨List.idxOf (2 : Fin 3) (GatherDims.startIndexMap gather_S32x8x64_S32x8x1x1_S32x8x1_n_2_01_01_2_3_111), hh⟩ = ix4 b c 0 0 := by
      intro hh
      funext e; refine Fin.ext ?_
      match e with
      | ⟨0, _⟩ => rfl
      | ⟨1, _⟩ => rfl
      | ⟨2, _⟩ => rfl
      | ⟨3, _⟩ => rfl
    rw [hsi, h, Extract.toInt_small k.val (by omega)]
    show min ((k.val : ℤ)).toNat (64 - 1) = k.val
    omega

theorem gather8_at {α : Type} (x : S32x8.Idx → α) (q : IVec S32x8x1 32) (b : Fin 32) (c : Fin 8) (k : Fin 8)
    (h : q (ix3 b c 0) = BitVec.ofNat 32 k.val) :
    Host.gather gather_S32x8_S32x8x1_S32x8_n_1_0_0_1_2_11 x q (ix2 b c) = x (ix2 b k) := by
  unfold Host.gather
  congr 1
  funext a
  refine Fin.ext ?_
  show GatherDims.start _ (ix2 b c) q a + GatherDims.batchCoord _ (ix2 b c) a + GatherDims.offCoord _ (ix2 b c) a = _
  have hk : ∀ a : Fin 2, a ∉ GatherDims.sKept gather_S32x8_S32x8x1_S32x8_n_1_0_0_1_2_11 := by
    intro a ha
    have := (GatherDims.mem_sKept _ _).1 ha
    match a with
    | ⟨0, _⟩ => exact this.2 (List.mem_cons_self ..)
    | ⟨1, _⟩ => exact this.1 (List.mem_cons_self ..)
  have m0 : (0 : Fin 2) ∈ GatherDims.operandBatchingDims gather_S32x8_S32x8x1_S32x8_n_1_0_0_1_2_11 := List.mem_cons_self ..
  have m1 : (1 : Fin 2) ∈ GatherDims.startIndexMap gather_S32x8_S32x8x1_S32x8_n_1_0_0_1_2_11 := List.mem_cons_self ..
  rw [GatherDims.offCoord_eq_zero _ _ _ (hk a), Nat.add_zero]
  have h3 : a = 0 ∨ a = 1 := by
    match a with
    | ⟨0, _⟩ => exact Or.inl rfl
    | ⟨1, _⟩ => exact Or.inr rfl
  rcases h3 with rfl | rfl
  · rw [GatherDims.start_batching _ _ _ _ m0, Nat.zero_add]
    unfold GatherDims.batchCoord
    rw [dif_pos m0]
    rfl
  · rw [GatherDims.batchCoord_eq_zero _ _ _ (by show (1 : Fin 2) ∉ [0]; decide), Nat.add_zero]
    unfold GatherDims.start
    rw [dif_pos m1]
    have hsi : ∀ hh, GatherDims.siIdx gather_S32x8_S32x8x1_S32x8_n_1_0_0_1_2_11 (ix2 b c)
        ⟨List.idxOf (1 : Fin 2) (GatherDims.startIndexMap gather_S32x8_S32x8x1_S32x8_n_1_0_0_1_2_11), hh⟩ = ix3 b c 0 := by
      intro hh
      funext e; refine Fin.ext ?_
      match e with
      | ⟨0, _⟩ => rfl
      | ⟨1, _⟩ => rfl
      | ⟨2, _⟩ => rfl
    rw [hsi, h, Extract.toInt_small k.val (by omega)]
    show min ((k.val : ℤ)).toNat (8 - 1) = k.val
    omega

theorem taken_at {α : Type} (x : S32x8x64.Idx → α) (s : IVec S32x8 32) (fill : S_.Idx → α) (b : Fin 32) (c : Fin 8) (k : Fin 64)
    (h : s (ix2 b c) = BitVec.ofNat 32 k.val) : taken x (column s) fill (ix3 b c 0) = x (ix3 b c k) := by
  have h0 : column s (ix3 b c 0) = BitVec.ofNat 32 k.val := by
    rw [← h]
    pointwise [column]
  have h1 := wrapped_at _ b c k h0
  show Scalar.select (inRange (wrapped (column s)) (ix3 b c 0)) (Host.gather _ x (wrapped (column s)) (ix3 b c 0)) _ = _
  rw [inRange_at _ b c k h1, gather_at x _ b c k h1]
  rfl

theorem taken8_at (x : FVec Ideal S32x8 .f32) (b : Fin 32) (c : Fin 8) : taken8 x beams (ix2 b c) = x (ix2 b c) := by
  have h1 := wrapped8_at _ b c c (beams_at b c)
  show Scalar.select (inRange8 (wrapped8 beams) (ix2 b c)) (Host.gather _ x (wrapped8 beams) (ix2 b c)) _ = _
  rw [inRange8_at _ b c c h1, gather8_at x _ b c c h1]
  rfl

theorem index_at (x : FVec Ideal S32x8x100000 .f32) (z : FVec Ideal S256x64 .f32) (b : Fin 32) (c : Fin 8) (k : Fin 64)
    (h : Sample.First (fun k => noisy (Order.top x).1 z (ix2 (row b c) k)) k) :
    index x z (ix2 b c) = (Order.top x).2 (ix3 b c k) := by
  have hs := sample_at (Order.top x).1 z b c k h
  refine Eq.trans ?_ (taken_at (Order.top x).2 _ (constantI S_ 32 2147483648#32) b c k hs)
  unfold index
  generalize taken _ _ _ = q
  pointwise

theorem score_at (x : FVec Ideal S32x8x100000 .f32) (z : FVec Ideal S256x64 .f32) (s : FVec Ideal S32x8x1 .f32) (b : Fin 32) (c : Fin 8)
    (k : Fin 64) (h : Sample.First (fun k => noisy (Order.top x).1 z (ix2 (row b c) k)) k) :
    score x z s (ix2 b c) = Ideal.log (Ideal.exp ((Order.top x).1 (ix3 b c k))) + s (ix3 b c 0) := by
  have hs := sample_at (Order.top x).1 z b c k h
  have h1 := taken_at (Host.exp (Order.top x).1) _ (constant S_ .f32 0x7FC00000#32) b c k hs
  have h2 := taken8_at (shapeCast S32x8 s shapeCasts_S32x8x1_S32x8) b c
  unfold score
  generalize taken _ _ _ = q at h1 ⊢
  generalize taken8 _ _ = q8 at h2 ⊢
  have h3 : q8 (ix2 b c) = s (ix3 b c 0) := by
    rw [h2]
    pointwise
  pointwise
  rw [h1, h3]
  rfl

end Cert.Proof.Val
end
end
-- ==== Proof.Row.lean ====
module

public import proofs.«01_k».proof.Proof.Cand
public import proofs.«01_k».proof.Proof.RefSample

@[expose] public section
set_option maxRecDepth 20000
noncomputable section

/-! One row: the kernel's score and position are the reference's. -/

namespace Cert.Proof.Row
open Idealize Idealize.ShloMosaic Cert.KernelIdeal Cert.KernelIdeal.Gen

/-- The row's sixty-fourth greatest entry is not minus infinity, and each lane has at most fourteen entries that high. -/
def Good (x : FVec Ideal ReferenceIdeal.S32x8x100000 .f32) (b : Fin 32) (c : Fin 8) : Prop :=
  ⊥ < (Order.top x).1 (ix3 b c 63) ∧ Cand.Fits (fun j => x (ix3 b c j)) ((Order.top x).1 (ix3 b c 63))

variable (x : FVec Ideal ReferenceIdeal.S32x8x100000 .f32) (z : FVec Ideal ReferenceIdeal.S256x64 .f32)
  (s : FVec Ideal ReferenceIdeal.S32x8x1 .f32) (b : Fin 32) (c : Fin 8)
  (arg1 : Memref sig .tc .vmem S8x100000 .f32) (harg1 : arg1.IsWhole) (x0 : FVec Ideal S8x100000 .f32)
  (g : FVec Ideal S8x64 .f32) (p : FVec Ideal S8x1 .f32) (r : Fin 8)

/-- The kernel's first sixty-four of a block. -/
abbrev first : Body.Tables Ideal :=
  Body.tables (Body.candV (Body.levels (F := Ideal) arg1 (harg1.unread x0))) (Body.candJ (Body.levels (F := Ideal) arg1 (harg1.unread x0)))

theorem first_at (hG : Good x b c) (hx : ∀ j, x0 (ix2 r j) = x (ix3 b c j)) (k : Fin 64) :
    (first arg1 harg1 x0).2.2.1 (ix2 r k) = (Order.top x).1 (ix3 b c k) ∧
    (first arg1 harg1 x0).2.2.2 (ix2 r k) = (Order.top x).2 (ix3 b c k) ∧
    0 ≤ ((Order.top x).2 (ix3 b c k)).toInt := by
  obtain ⟨ρ, R, hT⟩ := Order.top_ranks x b c
  have h63 := (hT 63).1
  have e : ((63 : Fin 64).castLE (by decide) : Fin 100000) = 63 := Fin.ext rfl
  rw [e] at h63
  have hH := Cand.holds arg1 harg1 x0 r (fun j => x (ix3 b c j)) ρ (funext fun j => (hx j).symm) R
    (by rw [← h63]; exact hG.1) (by rw [← h63]; exact hG.2)
  have ht := Extract.tables_at _ _ r _ ρ hH k
  refine ⟨ht.1.trans (hT k).1.symm, ht.2.trans (hT k).2.symm, ?_⟩
  rw [(hT k).2, Extract.toInt_pos]
  exact Int.natCast_nonneg _

theorem noisy_eq (hG : Good x b c) (hx : ∀ j, x0 (ix2 r j) = x (ix3 b c j)) (hz : ∀ k, g (ix2 r k) = z (ix2 (Val.row b c) k)) :
    (fun k => Body.noisy (first arg1 harg1 x0).2.2.1 g (ix2 r k)) = fun k => Val.noisy (Order.top x).1 z (ix2 (Val.row b c) k) := by
  funext k
  rw [Sample.noisy_at, Val.noisy_at, (first_at x b c arg1 harg1 x0 r hG hx k).1, hz k]
  exact add_comm _ _

theorem score_eq (hG : Good x b c) (hx : ∀ j, x0 (ix2 r j) = x (ix3 b c j)) (hz : ∀ k, g (ix2 r k) = z (ix2 (Val.row b c) k))
    (hp : p (ix2 r 0) = s (ix3 b c 0)) :
    Body.scoreOf (first arg1 harg1 x0).2.2.1 g p (ix2 r 0) = Val.score x z s (ix2 b c) := by
  obtain ⟨k, hk⟩ := Sample.first_exists (fun k => Val.noisy (Order.top x).1 z (ix2 (Val.row b c) k))
  rw [Val.score_at x z s b c k hk]
  rw [← noisy_eq x z b c arg1 harg1 x0 g r hG hx hz] at hk
  rw [Sample.scoreOf_at _ g p r k hk, (first_at x b c arg1 harg1 x0 r hG hx k).1, hp]

theorem index_eq (hG : Good x b c) (hx : ∀ j, x0 (ix2 r j) = x (ix3 b c j)) (hz : ∀ k, g (ix2 r k) = z (ix2 (Val.row b c) k)) :
    Body.indexOf (first arg1 harg1 x0).2.2.1 (first arg1 harg1 x0).2.2.2 g (ix2 r 0) = Val.index x z (ix2 b c) := by
  obtain ⟨k, hk⟩ := Sample.first_exists (fun k => Val.noisy (Order.top x).1 z (ix2 (Val.row b c) k))
  rw [Val.index_at x z b c k hk]
  rw [← noisy_eq x z b c arg1 harg1 x0 g r hG hx hz] at hk
  have hf := first_at x b c arg1 harg1 x0 r hG hx k
  rw [Sample.indexOf_at _ _ g r k hk (by rw [hf.2.1]; exact hf.2.2), hf.2.1]

end Cert.Proof.Row
end
end
-- ==== Proof.Region0.lean ====
module

public import proofs.«01_k».proof.Proof.Row
public import proofs.«01_k».proof.Proof.Gen.KernelIdeal.Frame
public import Idealize.ShloMosaic.Lib.Pipeline.ValueKit

@[expose] public section
set_option maxRecDepth 20000
noncomputable section

/-! The first launch's output arrays. -/

namespace Cert.Proof.Region0
open Idealize Idealize.ShloMosaic Idealize.ShloMosaic.TcCoe Idealize.ShloMosaic.Tactic Cert.KernelIdeal Cert.KernelIdeal.Gen
open Idealize.ShloMosaic.Pipeline (Dat Cfg Window)

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![t.val, 0] := (by decide +kernel : ∀ t : Fin grid0.N, _)

theorem whole_read {S : Shape} {e : EltTy} (arg : Memref sig .tc .vmem S e) (h : arg.IsWhole) {off : Fin S.rank → Nat}
    (h0 : ∀ a, off a = 0) (inb : ∀ a, off a + S.size a ≤ S.size a) (X : S.Idx → Elt Ideal e) :
    View.readAt (Elt Ideal) arg.view (Rect.unit (s := S) off S.size inb).toLoadRect (h.unread X) = X := by
  funext y
  rw [h.readAt_unread]
  refine congrArg X (funext fun a => Fin.ext ?_)
  show off a + 1 * (y a).val = (y a).val
  rw [h0 a]; omega

theorem zeros : ∀ a : Fin 2, (![0, 0] : Fin 2 → Nat) a = 0 := by decide

section
variable (c : Dev nD) (i : grid0.Coords) (arg1 : Memref sig .tc .vmem S8x100000 .f32) (harg1 : arg1.IsWhole)
  (arg2 : Memref sig .tc .vmem S8x64 .f32) (harg2 : arg2.IsWhole) (arg3 : Memref sig .tc .vmem S8x1 .f32) (harg3 : arg3.IsWhole)
  (arg4 : Memref sig .tc .vmem S8x1 .f32) (harg4 : arg4.IsWhole) (arg5 : Memref sig .tc .vmem S8x1 .i32) (harg5 : arg5.IsWhole)
  (x0 : Vec Ideal S8x100000 .f32) (x1 : Vec Ideal S8x64 .f32) (x2 : Vec Ideal S8x1 .f32)

theorem block3 : out0_A_3 (F := Ideal) c i arg1 harg1 arg2 harg2 arg3 harg3 arg4 harg4 arg5 harg5 x0 x1 x2
    = Body.scoreOf (Row.first arg1 harg1 x0).2.2.1 x1 x2 := by
  unfold out0_A_3
  rw [View.read_writes_eq_canon _ _ _ (cover0_A_3 c i arg1 harg1 arg2 harg2 arg3 harg3 arg4 harg4 arg5 harg5 x0 x1 x2), Body.pieces0_score,
    Body.ends0_eq]
  refine (View.canon_cons_unit_lit (S := S8x1) inb_S8x1_S8x1_0_0 _ [] zeros).trans ?_
  rw [whole_read arg2 harg2 zeros, whole_read arg3 harg3 zeros]

theorem block4 : out0_A_4 (F := Ideal) c i arg1 harg1 arg2 harg2 arg3 harg3 arg4 harg4 arg5 harg5 x0 x1 x2
    = Body.indexOf (Row.first arg1 harg1 x0).2.2.1 (Row.first arg1 harg1 x0).2.2.2 x1 := by
  unfold out0_A_4
  rw [View.read_writes_eq_canon _ _ _ (cover0_A_4 c i arg1 harg1 arg2 harg2 arg3 harg3 arg4 harg4 arg5 harg5 x0 x1 x2), Body.pieces0_index,
    Body.ends0_eq]
  refine (View.canon_cons_unit_lit (S := S8x1) inb_S8x1_S8x1_0_0 _ [] zeros).trans ?_
  rw [whole_read arg2 harg2 zeros]

end

variable (V : (c : Dev nD) → (b : Ref sig .tc) → Buf (Elt Ideal) ((c : Thread nD τ).loc b)) (d : Dev nD)
  (x : FVec Ideal ReferenceIdeal.S32x8x100000 .f32) (z : FVec Ideal ReferenceIdeal.S256x64 .f32)
  (s : FVec Ideal ReferenceIdeal.S32x8x1 .f32)

/-- The batch of a row. -/
def batch (i : S256x1.Idx) : Fin 32 := ⟨(i 0).val / 8, by have := (i 0).isLt; change (i 0).val < 256 at this; omega⟩
/-- The beam of a row. -/
def beam (i : S256x1.Idx) : Fin 8 := ⟨(i 0).val % 8, Nat.mod_lt _ (by decide)⟩

theorem col_zero (y : S8x1.Idx) : y = ix2 (y 0) 0 := by
  funext a
  match a with
  | ⟨0, _⟩ => rfl
  | ⟨1, _⟩ => exact Subsingleton.elim (α := Fin 1) _ _

theorem row_val (b : Fin 32) (c : Fin 8) : b.val * 8 + c.val = (Val.row b c).val := by
  show b.val * 8 + c.val = 8 * b.val + c.val
  omega

section
variable (t : Fin cfg0.N) (ht : t.val < 32) (r : Fin 8)

theorem in0 (hx : ∀ (b : Fin 32) (c : Fin 8) (j : Fin 100000), V d main_v18 (ix2 (Val.row b c) j) = x (ix3 b c j)) (j : Fin 100000) :
    iblk0 V d 0 t (ix2 r j) = x (ix3 ⟨t.val, ht⟩ r j) := by
  rw [← hx]
  have e : (win0_0.blk t).view.emb (ix2 r j) = ix2 (Val.row ⟨t.val, ht⟩ r) j := by
    blk_ext [at0]
    exact row_val ⟨t.val, ht⟩ r
  exact congrArg (V d main_v18) e

theorem in1 (hz : V d main_v12 = z) (k : Fin 64) : iblk0 V d 1 t (ix2 r k) = z (ix2 (Val.row ⟨t.val, ht⟩ r) k) := by
  rw [← hz]
  have e : (win0_1.blk t).view.emb (ix2 r k) = ix2 (Val.row ⟨t.val, ht⟩ r) k := by
    blk_ext [at1]
    exact row_val ⟨t.val, ht⟩ r
  exact congrArg (V d main_v12) e

theorem in2 (hs : ∀ (b : Fin 32) (c : Fin 8), V d main_v15 (ix2 (Val.row b c) 0) = s (ix3 b c 0)) :
    iblk0 V d 2 t (ix2 r 0) = s (ix3 ⟨t.val, ht⟩ r 0) := by
  rw [← hs]
  have e : (win0_2.blk t).view.emb (ix2 r 0) = ix2 (Val.row ⟨t.val, ht⟩ r) 0 := by
    blk_ext [at2]
    exact row_val ⟨t.val, ht⟩ r
  exact congrArg (V d main_v15) e

end

theorem out3 (hG : ∀ b c, Row.Good x b c)
    (hx : ∀ (b : Fin 32) (c : Fin 8) (j : Fin 100000), V d main_v18 (ix2 (Val.row b c) j) = x (ix3 b c j))
    (hz : V d main_v12 = z)
    (hs : ∀ (b : Fin 32) (c : Fin 8), V d main_v15 (ix2 (Val.row b c) 0) = s (ix3 b c 0)) :
    (dat0 (F := Ideal) V d).arrAt 3 cfg0.N = fun i : S256x1.Idx => Val.score x z s (ix2 (batch i) (beam i)) := by
  refine (dat0 (F := Ideal) V d).arrAt_eq_of_covers 3 _ (by decide +kernel) fun t hf y => ?_
  blk_simp
  rw [after0_3]
  have ht : t.val < 32 := lt_of_lt_of_le t.isLt (by decide +kernel)
  obtain ⟨r, rfl⟩ : ∃ r : Fin 8, y = ix2 r 0 := ⟨y 0, col_zero y⟩
  have e : (win0_3.blk t).view.emb (ix2 r 0) = ix2 (Val.row ⟨t.val, ht⟩ r) 0 := by
    blk_ext [at3]
    exact row_val ⟨t.val, ht⟩ r
  have eb : batch (ix2 (Val.row ⟨t.val, ht⟩ r) 0) = ⟨t.val, ht⟩ := Fin.ext (by show (8 * t.val + r.val) / 8 = t.val; omega)
  have ec : beam (ix2 (Val.row ⟨t.val, ht⟩ r) 0) = r := Fin.ext (by show (8 * t.val + r.val) % 8 = r.val; omega)
  rw [e, eb, ec]
  unfold outsAt0
  dsimp only
  rw [block3]
  exact Row.score_eq x z s ⟨t.val, ht⟩ r _ _ _ _ _ r (hG _ _) (in0 V d x t ht r hx) (in1 V d z t ht r hz) (in2 V d s t ht r hs)

theorem out4 (hG : ∀ b c, Row.Good x b c)
    (hx : ∀ (b : Fin 32) (c : Fin 8) (j : Fin 100000), V d main_v18 (ix2 (Val.row b c) j) = x (ix3 b c j))
    (hz : V d main_v12 = z) :
    (dat0 (F := Ideal) V d).arrAt 4 cfg0.N = fun i : S256x1.Idx => Val.index x z (ix2 (batch i) (beam i)) := by
  refine (dat0 (F := Ideal) V d).arrAt_eq_of_covers 4 _ (by decide +kernel) fun t hf y => ?_
  blk_simp
  rw [after0_4]
  have ht : t.val < 32 := lt_of_lt_of_le t.isLt (by decide +kernel)
  obtain ⟨r, rfl⟩ : ∃ r : Fin 8, y = ix2 r 0 := ⟨y 0, col_zero y⟩
  have e : (win0_4.blk t).view.emb (ix2 r 0) = ix2 (Val.row ⟨t.val, ht⟩ r) 0 := by
    blk_ext [at4]
    exact row_val ⟨t.val, ht⟩ r
  have eb : batch (ix2 (Val.row ⟨t.val, ht⟩ r) 0) = ⟨t.val, ht⟩ := Fin.ext (by show (8 * t.val + r.val) / 8 = t.val; omega)
  have ec : beam (ix2 (Val.row ⟨t.val, ht⟩ r) 0) = r := Fin.ext (by show (8 * t.val + r.val) % 8 = r.val; omega)
  rw [e, eb, ec]
  unfold outsAt0
  dsimp only
  rw [block4]
  exact Row.index_eq x z ⟨t.val, ht⟩ r _ _ _ _ r (hG _ _) (in0 V d x t ht r hx) (in1 V d z t ht r hz)

end Cert.Proof.Region0
end
end
-- ==== Proof.Region1.lean ====
module

public import proofs.«01_k».proof.Proof.Row
public import proofs.«01_k».proof.Proof.Gen.KernelIdeal.Frame
public import Idealize.ShloMosaic.Lib.Pipeline.ValueKit

@[expose] public section
set_option maxRecDepth 20000
noncomputable section

/-! The second launch's output arrays. -/

namespace Cert.Proof.Region1
open Idealize Idealize.ShloMosaic Idealize.ShloMosaic.TcCoe Idealize.ShloMosaic.Tactic Cert.KernelIdeal Cert.KernelIdeal.Gen
open Idealize.ShloMosaic.Pipeline (Dat Cfg Window)

theorem at0 : ∀ t : Fin cfg1.N, win1_0.index t = ![t.val, 0] := (by decide +kernel : ∀ t : Fin grid1.N, _)
theorem at1 : ∀ t : Fin cfg1.N, win1_1.index t = ![t.val, 0] := (by decide +kernel : ∀ t : Fin grid1.N, _)
theorem at2 : ∀ t : Fin cfg1.N, win1_2.index t = ![t.val, 0] := (by decide +kernel : ∀ t : Fin grid1.N, _)
theorem at3 : ∀ t : Fin cfg1.N, win1_3.index t = ![t.val, 0] := (by decide +kernel : ∀ t : Fin grid1.N, _)
theorem at4 : ∀ t : Fin cfg1.N, win1_4.index t = ![t.val, 0] := (by decide +kernel : ∀ t : Fin grid1.N, _)

theorem whole_read {S : Shape} {e : EltTy} (arg : Memref sig .tc .vmem S e) (h : arg.IsWhole) {off : Fin S.rank → Nat}
    (h0 : ∀ a, off a = 0) (inb : ∀ a, off a + S.size a ≤ S.size a) (X : S.Idx → Elt Ideal e) :
    View.readAt (Elt Ideal) arg.view (Rect.unit (s := S) off S.size inb).toLoadRect (h.unread X) = X := by
  funext y
  rw [h.readAt_unread]
  refine congrArg X (funext fun a => Fin.ext ?_)
  show off a + 1 * (y a).val = (y a).val
  rw [h0 a]; omega

theorem zeros : ∀ a : Fin 2, (![0, 0] : Fin 2 → Nat) a = 0 := by decide

section
variable (c : Dev nD) (i : grid1.Coords) (arg1 : Memref sig .tc .vmem S8x100000 .f32) (harg1 : arg1.IsWhole)
  (arg2 : Memref sig .tc .vmem S8x64 .f32) (harg2 : arg2.IsWhole) (arg3 : Memref sig .tc .vmem S8x1 .f32) (harg3 : arg3.IsWhole)
  (arg4 : Memref sig .tc .vmem S8x1 .f32) (harg4 : arg4.IsWhole) (arg5 : Memref sig .tc .vmem S8x1 .i32) (harg5 : arg5.IsWhole)
  (x0 : Vec Ideal S8x100000 .f32) (x1 : Vec Ideal S8x64 .f32) (x2 : Vec Ideal S8x1 .f32)

theorem block3 : out1_A_3 (F := Ideal) c i arg1 harg1 arg2 harg2 arg3 harg3 arg4 harg4 arg5 harg5 x0 x1 x2
    = Body.scoreOf (Row.first arg1 harg1 x0).2.2.1 x1 x2 := by
  unfold out1_A_3
  rw [View.read_writes_eq_canon _ _ _ (cover1_A_3 c i arg1 harg1 arg2 harg2 arg3 harg3 arg4 harg4 arg5 harg5 x0 x1 x2), Body.pieces1_score,
    Body.ends1_eq]
  refine (View.canon_cons_unit_lit (S := S8x1) inb_S8x1_S8x1_0_0 _ [] zeros).trans ?_
  rw [whole_read arg2 harg2 zeros, whole_read arg3 harg3 zeros]

theorem block4 : out1_A_4 (F := Ideal) c i arg1 harg1 arg2 harg2 arg3 harg3 arg4 harg4 arg5 harg5 x0 x1 x2
    = Body.indexOf (Row.first arg1 harg1 x0).2.2.1 (Row.first arg1 harg1 x0).2.2.2 x1 := by
  unfold out1_A_4
  rw [View.read_writes_eq_canon _ _ _ (cover1_A_4 c i arg1 harg1 arg2 harg2 arg3 harg3 arg4 harg4 arg5 harg5 x0 x1 x2), Body.pieces1_index,
    Body.ends1_eq]
  refine (View.canon_cons_unit_lit (S := S8x1) inb_S8x1_S8x1_0_0 _ [] zeros).trans ?_
  rw [whole_read arg2 harg2 zeros]

end

variable (V : (c : Dev nD) → (b : Ref sig .tc) → Buf (Elt Ideal) ((c : Thread nD τ).loc b)) (d : Dev nD)
  (x : FVec Ideal ReferenceIdeal.S32x8x100000 .f32) (z : FVec Ideal ReferenceIdeal.S256x64 .f32)
  (s : FVec Ideal ReferenceIdeal.S32x8x1 .f32)

/-- The batch of a row. -/
def batch (i : S256x1.Idx) : Fin 32 := ⟨(i 0).val / 8, by have := (i 0).isLt; change (i 0).val < 256 at this; omega⟩
/-- The beam of a row. -/
def beam (i : S256x1.Idx) : Fin 8 := ⟨(i 0).val % 8, Nat.mod_lt _ (by decide)⟩

theorem col_zero (y : S8x1.Idx) : y = ix2 (y 0) 0 := by
  funext a
  match a with
  | ⟨0, _⟩ => rfl
  | ⟨1, _⟩ => exact Subsingleton.elim (α := Fin 1) _ _

theorem row_val (b : Fin 32) (c : Fin 8) : b.val * 8 + c.val = (Val.row b c).val := by
  show b.val * 8 + c.val = 8 * b.val + c.val
  omega

section
variable (t : Fin cfg1.N) (ht : t.val < 32) (r : Fin 8)

theorem in0 (hx : ∀ (b : Fin 32) (c : Fin 8) (j : Fin 100000), V d main_v20 (ix2 (Val.row b c) j) = x (ix3 b c j)) (j : Fin 100000) :
    iblk1 V d 0 t (ix2 r j) = x (ix3 ⟨t.val, ht⟩ r j) := by
  rw [← hx]
  have e : (win1_0.blk t).view.emb (ix2 r j) = ix2 (Val.row ⟨t.val, ht⟩ r) j := by
    blk_ext [at0]
    exact row_val ⟨t.val, ht⟩ r
  exact congrArg (V d main_v20) e

theorem in1 (hz : V d main_v13 = z) (k : Fin 64) : iblk1 V d 1 t (ix2 r k) = z (ix2 (Val.row ⟨t.val, ht⟩ r) k) := by
  rw [← hz]
  have e : (win1_1.blk t).view.emb (ix2 r k) = ix2 (Val.row ⟨t.val, ht⟩ r) k := by
    blk_ext [at1]
    exact row_val ⟨t.val, ht⟩ r
  exact congrArg (V d main_v13) e

theorem in2 (hs : ∀ (b : Fin 32) (c : Fin 8), V d main_v17 (ix2 (Val.row b c) 0) = s (ix3 b c 0)) :
    iblk1 V d 2 t (ix2 r 0) = s (ix3 ⟨t.val, ht⟩ r 0) := by
  rw [← hs]
  have e : (win1_2.blk t).view.emb (ix2 r 0) = ix2 (Val.row ⟨t.val, ht⟩ r) 0 := by
    blk_ext [at2]
    exact row_val ⟨t.val, ht⟩ r
  exact congrArg (V d main_v17) e

end

theorem out3 (hG : ∀ b c, Row.Good x b c)
    (hx : ∀ (b : Fin 32) (c : Fin 8) (j : Fin 100000), V d main_v20 (ix2 (Val.row b c) j) = x (ix3 b c j))
    (hz : V d main_v13 = z)
    (hs : ∀ (b : Fin 32) (c : Fin 8), V d main_v17 (ix2 (Val.row b c) 0) = s (ix3 b c 0)) :
    (dat1 (F := Ideal) V d).arrAt 3 cfg1.N = fun i : S256x1.Idx => Val.score x z s (ix2 (batch i) (beam i)) := by
  refine (dat1 (F := Ideal) V d).arrAt_eq_of_covers 3 _ (by decide +kernel) fun t hf y => ?_
  blk_simp
  rw [after1_3]
  have ht : t.val < 32 := lt_of_lt_of_le t.isLt (by decide +kernel)
  obtain ⟨r, rfl⟩ : ∃ r : Fin 8, y = ix2 r 0 := ⟨y 0, col_zero y⟩
  have e : (win1_3.blk t).view.emb (ix2 r 0) = ix2 (Val.row ⟨t.val, ht⟩ r) 0 := by
    blk_ext [at3]
    exact row_val ⟨t.val, ht⟩ r
  have eb : batch (ix2 (Val.row ⟨t.val, ht⟩ r) 0) = ⟨t.val, ht⟩ := Fin.ext (by show (8 * t.val + r.val) / 8 = t.val; omega)
  have ec : beam (ix2 (Val.row ⟨t.val, ht⟩ r) 0) = r := Fin.ext (by show (8 * t.val + r.val) % 8 = r.val; omega)
  rw [e, eb, ec]
  unfold outsAt1
  dsimp only
  rw [block3]
  exact Row.score_eq x z s ⟨t.val, ht⟩ r _ _ _ _ _ r (hG _ _) (in0 V d x t ht r hx) (in1 V d z t ht r hz) (in2 V d s t ht r hs)

theorem out4 (hG : ∀ b c, Row.Good x b c)
    (hx : ∀ (b : Fin 32) (c : Fin 8) (j : Fin 100000), V d main_v20 (ix2 (Val.row b c) j) = x (ix3 b c j))
    (hz : V d main_v13 = z) :
    (dat1 (F := Ideal) V d).arrAt 4 cfg1.N = fun i : S256x1.Idx => Val.index x z (ix2 (batch i) (beam i)) := by
  refine (dat1 (F := Ideal) V d).arrAt_eq_of_covers 4 _ (by decide +kernel) fun t hf y => ?_
  blk_simp
  rw [after1_4]
  have ht : t.val < 32 := lt_of_lt_of_le t.isLt (by decide +kernel)
  obtain ⟨r, rfl⟩ : ∃ r : Fin 8, y = ix2 r 0 := ⟨y 0, col_zero y⟩
  have e : (win1_4.blk t).view.emb (ix2 r 0) = ix2 (Val.row ⟨t.val, ht⟩ r) 0 := by
    blk_ext [at4]
    exact row_val ⟨t.val, ht⟩ r
  have eb : batch (ix2 (Val.row ⟨t.val, ht⟩ r) 0) = ⟨t.val, ht⟩ := Fin.ext (by show (8 * t.val + r.val) / 8 = t.val; omega)
  have ec : beam (ix2 (Val.row ⟨t.val, ht⟩ r) 0) = r := Fin.ext (by show (8 * t.val + r.val) % 8 = r.val; omega)
  rw [e, eb, ec]
  unfold outsAt1
  dsimp only
  rw [block4]
  exact Row.index_eq x z ⟨t.val, ht⟩ r _ _ _ _ r (hG _ _) (in0 V d x t ht r hx) (in1 V d z t ht r hz)

end Cert.Proof.Region1
end
end
-- ==== Proof.Noise0.lean ====
module

public import proofs.«01_k».proof.Proof.RefRun
public import proofs.«01_k».proof.Proof.Gen.KernelIdeal.Launch

@[expose] public section
noncomputable section

/-! The noise is drawn from a fixed key: both programs compute one array. -/

namespace Cert.Proof
open Idealize Idealize.ShloMosaic Idealize.SL Idealize.SL.Sem

set_option maxHeartbeats 400000000 in
/-- The noise of the first channel is one array in the two programs. -/
theorem noise0 (d : Dev Cert.ReferenceIdeal.nD) (V : Valuation Cert.KernelIdeal.τ Cert.KernelIdeal.sig (Elt Ideal))
    (V' : Valuation Cert.ReferenceIdeal.τ Cert.ReferenceIdeal.sig (Elt Ideal)) :
    ((StableHlo.after Cert.KernelIdeal.Gen.hostOps0_3 (StableHlo.after Cert.KernelIdeal.Gen.hostOps0_2
      (StableHlo.after Cert.KernelIdeal.Gen.hostOps0_1 (StableHlo.after Cert.KernelIdeal.Gen.hostOps0 V)))
      (Proc.devRef .tc Cert.KernelIdeal.main_v12)) : FVec Ideal Cert.ReferenceIdeal.S256x64 .f32)
    = StableHlo.after (Ref.line_main d).ops V' (Proc.devRef .tc Cert.ReferenceIdeal.main_v17) := by sl_kernel_rfl

end Cert.Proof
end
end
-- ==== Proof.Noise1.lean ====
module

public import proofs.«01_k».proof.Proof.RefRun
public import proofs.«01_k».proof.Proof.Gen.KernelIdeal.Launch

@[expose] public section
noncomputable section

/-! The noise is drawn from a fixed key: both programs compute one array. -/

namespace Cert.Proof
open Idealize Idealize.ShloMosaic Idealize.SL Idealize.SL.Sem

set_option maxHeartbeats 400000000 in
/-- The noise of the second channel is one array in the two programs. -/
theorem noise1 (d : Dev Cert.ReferenceIdeal.nD) (V : Valuation Cert.KernelIdeal.τ Cert.KernelIdeal.sig (Elt Ideal))
    (V' : Valuation Cert.ReferenceIdeal.τ Cert.ReferenceIdeal.sig (Elt Ideal)) :
    ((StableHlo.after Cert.KernelIdeal.Gen.hostOps0_4 (StableHlo.after Cert.KernelIdeal.Gen.hostOps0_3 (StableHlo.after Cert.KernelIdeal.Gen.hostOps0_2
      (StableHlo.after Cert.KernelIdeal.Gen.hostOps0_1 (StableHlo.after Cert.KernelIdeal.Gen.hostOps0 V))))
      (Proc.devRef .tc Cert.KernelIdeal.main_v13)) : FVec Ideal Cert.ReferenceIdeal.S256x64 .f32)
    = StableHlo.after (Ref.line_main d).ops V' (Proc.devRef .tc Cert.ReferenceIdeal.main_v52) := by sl_kernel_rfl

end Cert.Proof
end
end
-- ==== Proof.KernelValue.lean ====
module

public import proofs.«01_k».proof.Proof.Region0
public import proofs.«01_k».proof.Proof.Region1
public import proofs.«01_k».proof.Proof.Noise0
public import proofs.«01_k».proof.Proof.Noise1

@[expose] public section
set_option maxRecDepth 20000
noncomputable section

/-! The idealized kernel's results as functions of its arguments and of the noise. -/

namespace Cert.Proof.Kernel
open Idealize Idealize.ShloMosaic Idealize.ShloMosaic.TcCoe Idealize.SL Idealize.SL.Sem Cert.KernelIdeal Cert.KernelIdeal.Gen

section
variable (W : Valuation τ sig (Elt Ideal))

theorem host18 : (StableHlo.after hostOps0_5 W (Proc.devRef .tc main_v18) : FVec Ideal S256x100000 .f32)
    = shapeCast S256x100000 (W (Proc.devRef .tc main_arg1) : FVec Ideal S32x8x100000 .f32) shapeCasts_S32x8x100000_S256x100000 := by sl_kernel_rfl
theorem host15 : (StableHlo.after hostOps0_5 W (Proc.devRef .tc main_v15) : FVec Ideal S256x1 .f32)
    = shapeCast S256x1 (shapeCast S32x8 (W (Proc.devRef .tc main_arg3) : FVec Ideal S32x8x1 .f32) shapeCasts_S32x8x1_S32x8) shapeCasts_S32x8_S256x1 := by
  sl_kernel_rfl
theorem host17 : (StableHlo.after hostOps0_5 W (Proc.devRef .tc main_v17) : FVec Ideal S256x1 .f32)
    = shapeCast S256x1 (shapeCast S32x8 (W (Proc.devRef .tc main_arg4) : FVec Ideal S32x8x1 .f32) shapeCasts_S32x8x1_S32x8) shapeCasts_S32x8_S256x1 := by
  sl_kernel_rfl
theorem host20 : (StableHlo.after hostOps1 W (Proc.devRef .tc main_v20) : FVec Ideal S256x100000 .f32)
    = shapeCast S256x100000 (W (Proc.devRef .tc main_arg2) : FVec Ideal S32x8x100000 .f32) shapeCasts_S32x8x100000_S256x100000 := by sl_kernel_rfl
theorem host22 : (StableHlo.after hostOps2 W (Proc.devRef .tc main_v22) : FVec Ideal S32x8 .f32)
    = shapeCast S32x8 (W (Proc.devRef .tc main_v19_0) : FVec Ideal S256x1 .f32) shapeCasts_S256x1_S32x8 := by sl_kernel_rfl
theorem host23 : (StableHlo.after hostOps2 W (Proc.devRef .tc main_v23) : FVec Ideal S32x8 .f32)
    = shapeCast S32x8 (W (Proc.devRef .tc main_v21_0) : FVec Ideal S256x1 .f32) shapeCasts_S256x1_S32x8 := by sl_kernel_rfl
theorem host24 : (StableHlo.after hostOps2 W (Proc.devRef .tc main_v24) : IVec S32x8 32)
    = shapeCast S32x8 (W (Proc.devRef .tc main_v19_1) : IVec S256x1 32) shapeCasts_S256x1_S32x8 := by sl_kernel_rfl
theorem host25 : (StableHlo.after hostOps2 W (Proc.devRef .tc main_v25) : IVec S32x8 32)
    = shapeCast S32x8 (W (Proc.devRef .tc main_v21_1) : IVec S256x1 32) shapeCasts_S256x1_S32x8 := by sl_kernel_rfl
theorem host30 : (StableHlo.after hostOps2 W (Proc.devRef .tc main_v30) : IVec S32x8 32) = Val.beams := by sl_kernel_rfl

end

/-- The probabilities laid out in rows. -/
theorem rows_at (x : FVec Ideal S32x8x100000 .f32) (b : Fin 32) (c : Fin 8) (j : Fin 100000) :
    shapeCast S256x100000 x shapeCasts_S32x8x100000_S256x100000 (ix2 (Val.row b c) j) = x (ix3 b c j) := by
  pointwise [Val.row]

/-- The past scores laid out in rows. -/
theorem past_at (s : FVec Ideal S32x8x1 .f32) (b : Fin 32) (c : Fin 8) :
    shapeCast S256x1 (shapeCast S32x8 s shapeCasts_S32x8x1_S32x8) shapeCasts_S32x8_S256x1 (ix2 (Val.row b c) 0) = s (ix3 b c 0) := by
  pointwise [Val.row]

/-- A column of rows laid out by batch and beam. -/
theorem back_at {α : Type} (f : S32x8.Idx → α) :
    shapeCast S32x8 (fun i : S256x1.Idx => f (ix2 (Region0.batch i) (Region0.beam i))) shapeCasts_S256x1_S32x8 = f := by
  have h : ∀ (q : S256x1.Idx → α) (b : Fin 32) (c : Fin 8), shapeCast S32x8 q shapeCasts_S256x1_S32x8 (ix2 b c) = q (ix2 (Val.row b c) 0) := by
    intro q b c
    pointwise
    exact congrArg q (congrArg (fun r => ix2 r 0) (Fin.ext (Region0.row_val b c)))
  funext i
  obtain ⟨b, c, rfl⟩ : ∃ b c, i = ix2 (n0 := 32) (n1 := 8) b c := ⟨i 0, i 1, by
    funext a
    match a with
    | ⟨0, _⟩ => rfl
    | ⟨1, _⟩ => rfl⟩
  rw [h]
  have eb : Region0.batch (ix2 (Val.row b c) 0) = b := Fin.ext (by show (8 * b.val + c.val) / 8 = b.val; omega)
  have ec : Region0.beam (ix2 (Val.row b c) 0) = c := Fin.ext (by show (8 * b.val + c.val) % 8 = c.val; omega)
  rw [eb, ec]

variable (m : (ℓ : Loc nD τ sig) → Buf (Elt Ideal) ℓ) (ρ : Dev nD → PrngReg) (d : Dev nD)
  (V' : Valuation Cert.ReferenceIdeal.τ Cert.ReferenceIdeal.sig (Elt Ideal))
  (x1 x2 : FVec Ideal ReferenceIdeal.S32x8x100000 .f32) (s1 s2 : FVec Ideal ReferenceIdeal.S32x8x1 .f32)

/-- The first channel's noise. -/
abbrev z1 : FVec Ideal ReferenceIdeal.S256x64 .f32 := StableHlo.after (Ref.line_main d).ops V' (Proc.devRef .tc Cert.ReferenceIdeal.main_v17)
/-- The second channel's noise. -/
abbrev z2 : FVec Ideal ReferenceIdeal.S256x64 .f32 := StableHlo.after (Ref.line_main d).ops V' (Proc.devRef .tc Cert.ReferenceIdeal.main_v52)

theorem x_in0 (h : m ((d : Thread nD τ).loc main_arg1) = x1) (b : Fin 32) (c : Fin 8) (j : Fin 100000) :
    V6 m ρ d main_v18 (ix2 (Val.row b c) j) = x1 (ix3 b c j) := by
  refine (congrFun (host18 (W5 m ρ d)) _).trans ?_
  rw [W5_args m ρ d main_arg1 (by decide), h]
  exact rows_at x1 b c j

theorem z_in0 : V6 m ρ d main_v12 = z1 d V' :=
  (W6_of m ρ d main_v12 (by decide)).trans ((W5_of m ρ d main_v12 (by decide)).trans (noise0 d (W0 m ρ d) V'))

theorem s_in0 (h : m ((d : Thread nD τ).loc main_arg3) = s1) (b : Fin 32) (c : Fin 8) :
    V6 m ρ d main_v15 (ix2 (Val.row b c) 0) = s1 (ix3 b c 0) := by
  refine (congrFun (host15 (W5 m ρ d)) _).trans ?_
  rw [W5_args m ρ d main_arg3 (by decide), h]
  exact past_at s1 b c

theorem x_in1 (h : m ((d : Thread nD τ).loc main_arg2) = x2) (b : Fin 32) (c : Fin 8) (j : Fin 100000) :
    V8 m ρ d main_v20 (ix2 (Val.row b c) j) = x2 (ix3 b c j) := by
  refine (congrFun (host20 (W7 m ρ d)) _).trans ?_
  rw [W7_args m ρ d main_arg2 (by decide), h]
  exact rows_at x2 b c j

theorem z_in1 : V8 m ρ d main_v13 = z2 d V' :=
  (W8_of m ρ d main_v13 (by decide)).trans ((W7_of m ρ d main_v13 (by decide)).trans
    ((W6_of m ρ d main_v13 (by decide)).trans (noise1 d (W0 m ρ d) V')))

theorem s_in1 (h : m ((d : Thread nD τ).loc main_arg4) = s2) (b : Fin 32) (c : Fin 8) :
    V8 m ρ d main_v17 (ix2 (Val.row b c) 0) = s2 (ix3 b c 0) := by
  refine (congrFun ((W8_of m ρ d main_v17 (by decide)).trans ((W7_of m ρ d main_v17 (by decide)).trans (host17 (W5 m ρ d)))) _).trans ?_
  rw [W5_args m ρ d main_arg4 (by decide), h]
  exact past_at s2 b c

theorem out22 (hG : ∀ b c, Row.Good x1 b c) (h1 : m ((d : Thread nD τ).loc main_arg1) = x1) (h3 : m ((d : Thread nD τ).loc main_arg3) = s1) :
    (W10 m ρ d (Proc.devRef .tc main_v22) : FVec Ideal S32x8 .f32) = Val.score x1 (z1 d V') s1 := by
  refine (host22 (W9 m ρ d)).trans ?_
  rw [(W9_of m ρ d main_v19_0 (by decide)).trans ((W8_of m ρ d main_v19_0 (by decide)).trans (W7_arr m ρ d 3)),
    Region0.out3 (V6 m ρ) d x1 (z1 d V') s1 hG (x_in0 m ρ d x1 h1) (z_in0 m ρ d V') (s_in0 m ρ d s1 h3)]
  exact back_at _

theorem out24 (hG : ∀ b c, Row.Good x1 b c) (h1 : m ((d : Thread nD τ).loc main_arg1) = x1) :
    (W10 m ρ d (Proc.devRef .tc main_v24) : IVec S32x8 32) = Val.index x1 (z1 d V') := by
  refine (host24 (W9 m ρ d)).trans ?_
  rw [(W9_of m ρ d main_v19_1 (by decide)).trans ((W8_of m ρ d main_v19_1 (by decide)).trans (W7_arr m ρ d 4)),
    Region0.out4 (V6 m ρ) d x1 (z1 d V') hG (x_in0 m ρ d x1 h1) (z_in0 m ρ d V')]
  exact back_at _

theorem out23 (hG : ∀ b c, Row.Good x2 b c) (h2 : m ((d : Thread nD τ).loc main_arg2) = x2) (h4 : m ((d : Thread nD τ).loc main_arg4) = s2) :
    (W10 m ρ d (Proc.devRef .tc main_v23) : FVec Ideal S32x8 .f32) = Val.score x2 (z2 d V') s2 := by
  refine (host23 (W9 m ρ d)).trans ?_
  rw [W9_arr m ρ d 3,
    Region1.out3 (V8 m ρ) d x2 (z2 d V') s2 hG (x_in1 m ρ d x2 h2) (z_in1 m ρ d V') (s_in1 m ρ d s2 h4)]
  exact back_at _

theorem out25 (hG : ∀ b c, Row.Good x2 b c) (h2 : m ((d : Thread nD τ).loc main_arg2) = x2) :
    (W10 m ρ d (Proc.devRef .tc main_v25) : IVec S32x8 32) = Val.index x2 (z2 d V') := by
  refine (host25 (W9 m ρ d)).trans ?_
  rw [W9_arr m ρ d 4,
    Region1.out4 (V8 m ρ) d x2 (z2 d V') hG (x_in1 m ρ d x2 h2) (z_in1 m ρ d V')]
  exact back_at _

theorem out30 : (W10 m ρ d (Proc.devRef .tc main_v30) : IVec S32x8 32) = Val.beams := host30 (W9 m ρ d)

end Cert.Proof.Kernel
end
end
-- ==== Proof.RefIndex0.lean ====
module

public import proofs.«01_k».proof.Proof.RefDefs

@[expose] public section
noncomputable section

/-! The first channel's positions and the beams, in the reference. -/

namespace Cert.Proof.Val
open Idealize Idealize.ShloMosaic Idealize.SL Idealize.SL.Sem Cert.ReferenceIdeal

variable (d : Dev nD) (V : Valuation τ sig (Elt Ideal))

set_option maxHeartbeats 400000000
theorem v32 : (StableHlo.after (Ref.line_main d).ops V (Proc.devRef .tc main_v32) : IVec S32x8 32) = beams := by sl_kernel_rfl

theorem v27 : (StableHlo.after (Ref.line_main d).ops V (Proc.devRef .tc main_v27) : IVec S32x8 32) = index (V (Proc.devRef .tc main_arg1)) (StableHlo.after (Ref.line_main d).ops V (Proc.devRef .tc main_v17)) := by sl_kernel_rfl

end Cert.Proof.Val
end
end
-- ==== Proof.RefIndex1.lean ====
module

public import proofs.«01_k».proof.Proof.RefDefs

@[expose] public section
noncomputable section

/-! The second channel's positions, in the reference. -/

namespace Cert.Proof.Val
open Idealize Idealize.ShloMosaic Idealize.SL Idealize.SL.Sem Cert.ReferenceIdeal

variable (d : Dev nD) (V : Valuation τ sig (Elt Ideal))

set_option maxHeartbeats 400000000
theorem v62 : (StableHlo.after (Ref.line_main d).ops V (Proc.devRef .tc main_v62) : IVec S32x8 32) = index (V (Proc.devRef .tc main_arg2)) (StableHlo.after (Ref.line_main d).ops V (Proc.devRef .tc main_v52)) := by sl_kernel_rfl

end Cert.Proof.Val
end
end
-- ==== Proof.RefScore0.lean ====
module

public import proofs.«01_k».proof.Proof.RefDefs

@[expose] public section
set_option maxRecDepth 100000
noncomputable section

/-! The first channel's scores, in the reference. -/

namespace Cert.Proof.Val
open Idealize Idealize.ShloMosaic Idealize.SL Idealize.SL.Sem Cert.ReferenceIdeal Cert.ReferenceIdeal.Facts₀

variable (d : Dev nD) (V : Valuation τ sig (Elt Ideal))

set_option maxHeartbeats 400000000

/-- The operation that slices the past scores. -/
abbrev slice0 : HloOp τ sig (Elt Ideal) :=
  StableHlo.unaryIndexed main_arg3 ![main_v36, main_v39, main_v42] ⟨S_, .i32⟩ main_v43
    (fun x i => Host.dynamicSlice S32x8x1 x (fun k => (i k (Shape.Idx.first h_S_)).toInt) sliceFits_S32x8x1_S32x8x1)

theorem split0 : (Ref.line_main d).ops
    = (Ref.line_main d).ops.take 611 ++ slice0 :: (Ref.line_main d).ops.drop (611 + 1) := by sl_kernel_rfl

theorem rest0 (W : Valuation τ sig (Elt Ideal)) :
    StableHlo.after ((Ref.line_main d).ops.drop (611 + 1)) W (Proc.devRef .tc main_v43) = W (Proc.devRef .tc main_v43) := by
  sl_kernel_rfl

theorem before0 :
    StableHlo.after ((Ref.line_main d).ops.take 611) V (Proc.devRef .tc main_arg3) = V (Proc.devRef .tc main_arg3) := by
  sl_kernel_rfl

theorem sliced0 : (StableHlo.after (Ref.line_main d).ops V (Proc.devRef .tc main_v43) : FVec Ideal S32x8x1 .f32)
    = V (Proc.devRef .tc main_arg3) :=
  ((congrFun (after_line V (split0 d)) _).trans (rest0 d _)).trans
    ((StableHlo.unaryIndexed_result _ _ _ _ _ _ _ _ _ _).trans ((whole_slice _ _).trans (before0 d V)))

theorem v46 : (StableHlo.after (Ref.line_main d).ops V (Proc.devRef .tc main_v46) : FVec Ideal S32x8 .f32)
    = score (V (Proc.devRef .tc main_arg1)) (StableHlo.after (Ref.line_main d).ops V (Proc.devRef .tc main_v17))
      (StableHlo.after (Ref.line_main d).ops V (Proc.devRef .tc main_v43)) := by sl_kernel_rfl

end Cert.Proof.Val
end
end
-- ==== Proof.RefScore1.lean ====
module

public import proofs.«01_k».proof.Proof.RefDefs

@[expose] public section
set_option maxRecDepth 100000
noncomputable section

/-! The second channel's scores, in the reference. -/

namespace Cert.Proof.Val
open Idealize Idealize.ShloMosaic Idealize.SL Idealize.SL.Sem Cert.ReferenceIdeal Cert.ReferenceIdeal.Facts₀

variable (d : Dev nD) (V : Valuation τ sig (Elt Ideal))

set_option maxHeartbeats 400000000

/-- The operation that slices the past scores. -/
abbrev slice1 : HloOp τ sig (Elt Ideal) :=
  StableHlo.unaryIndexed main_arg4 ![main_v71, main_v74, main_v77] ⟨S_, .i32⟩ main_v78
    (fun x i => Host.dynamicSlice S32x8x1 x (fun k => (i k (Shape.Idx.first h_S_)).toInt) sliceFits_S32x8x1_S32x8x1)

theorem split1 : (Ref.line_main d).ops
    = (Ref.line_main d).ops.take 995 ++ slice1 :: (Ref.line_main d).ops.drop (995 + 1) := by sl_kernel_rfl

theorem rest1 (W : Valuation τ sig (Elt Ideal)) :
    StableHlo.after ((Ref.line_main d).ops.drop (995 + 1)) W (Proc.devRef .tc main_v78) = W (Proc.devRef .tc main_v78) := by
  sl_kernel_rfl

theorem before1 :
    StableHlo.after ((Ref.line_main d).ops.take 995) V (Proc.devRef .tc main_arg4) = V (Proc.devRef .tc main_arg4) := by
  sl_kernel_rfl

theorem sliced1 : (StableHlo.after (Ref.line_main d).ops V (Proc.devRef .tc main_v78) : FVec Ideal S32x8x1 .f32)
    = V (Proc.devRef .tc main_arg4) :=
  ((congrFun (after_line V (split1 d)) _).trans (rest1 d _)).trans
    ((StableHlo.unaryIndexed_result _ _ _ _ _ _ _ _ _ _).trans ((whole_slice _ _).trans (before1 d V)))

theorem v81 : (StableHlo.after (Ref.line_main d).ops V (Proc.devRef .tc main_v81) : FVec Ideal S32x8 .f32)
    = score (V (Proc.devRef .tc main_arg2)) (StableHlo.after (Ref.line_main d).ops V (Proc.devRef .tc main_v52))
      (StableHlo.after (Ref.line_main d).ops V (Proc.devRef .tc main_v78)) := by sl_kernel_rfl

end Cert.Proof.Val
end
end
-- ==== Proof.Pre.lean ====
module

public import proofs.«01_k».proof.Defs
public import proofs.«01_k».proof.Proof.Cand
public import Idealize.ShloMosaic.Lib.IndicatorCount
public import Idealize.ShloMosaic.Lib.Pointwise.Reduce

@[expose] public section
set_option maxRecDepth 20000
noncomputable section

/-! The precondition, read: in each row every lane has at most fourteen entries as great as the sixty-fourth, and the
    sixty-fourth is above the least value. -/

namespace Cert.Proof.Pre
open Idealize Idealize.ShloMosaic Cert.Pre_top_fits_lanes

theorem facts : Cert.Pre_top_fits_lanes.Facts := by constructor <;> decide

variable [Facts]
open Facts

/-- One where an entry is at least the row's sixty-fourth. -/
def high (x : FVec Ideal S32x8x100000 .f32) : IVec S32x8x100000 32 :=
  extui 32 (cmpf .oge x (broadcastInDim S32x8x100000 ![0, 1, 2] bcast_S32x8x1_S32x8x100000_0_1_2
    (extractStridedSlice S32x8x1 ![0, 0, 63] (Order.top x).1 slices_S32x8x64_S32x8x1_0_0_63))) natLt_1_32

/-- The sum over each lane. -/
def sums (y : IVec S32x8x100000 32) : IVec S32x8x128 32 :=
  addi (Host.reduce IntOp.addi (shapeCast S32x8x781x128
      (extractStridedSlice S32x8x99968 ![0, 0, 0] y slices_S32x8x100000_S32x8x99968_0_0_0) shapeCasts_S32x8x99968_S32x8x781x128)
      (constantI S_ 32 0#32) reducesTo_S32x8x781x128_S32x8x128_d2 h_S_)
    (pad S32x8x128 ![0, 0, 96] ![0, 0, 0] ![0, 0, 0]
      (extractStridedSlice S32x8x32 ![0, 0, 99968] y slices_S32x8x100000_S32x8x32_0_0_99968) (constantI S_ 32 0#32)
      pads_S32x8x32_S32x8x128_000_000_9600 h_S_)

variable (b : Fin 32) (c : Fin 8)

theorem high_at (x : FVec Ideal S32x8x100000 .f32) (j : Fin 100000) :
    high x (ix3 b c j) = (BitVec.ofBool (decide ((Order.top x).1 (ix3 b c 63) ≤ x (ix3 b c j)))).setWidth 32 := by
  unfold high
  generalize (Order.top x).1 = t
  pointwise

theorem sums_at (y : IVec S32x8x100000 32) (l : Fin 128) :
    sums y (ix3 b c l) = Finset.univ.fold IntOp.addi 0#32 (fun k : Fin 781 => y (ix3 b c ⟨128 * k.val + l.val, by omega⟩))
      + (if h : 96 ≤ l.val then y (ix3 b c ⟨99872 + l.val, by omega⟩) else 0#32) := by
  unfold sums
  pointwise
  refine congrArg₂ (fun u v : BitVec 32 => u + v) ?_ ?_
  · refine Finset.fold_congr fun k _ => ?_
    have : ∀ h, (⟨k.val * 128 + l.val, h⟩ : Fin 100000) = ⟨128 * k.val + l.val, by omega⟩ :=
      fun h => Fin.ext (by simp only; omega)
    rw [this]
  · by_cases h : 96 ≤ l.val
    · rw [dif_pos ⟨h, by omega⟩, dif_pos h]
      have : ∀ h, (⟨99968 + (l.val - 96), h⟩ : Fin 100000) = ⟨99872 + l.val, by omega⟩ :=
        fun h => Fin.ext (by simp only; omega)
      rw [this]
    · rw [dif_neg (fun e => h e.1), dif_neg h]

theorem bit_true {p : Prop} [Decidable p] (h : BitVec.ofBool (decide p) = 1#1) : p := by
  by_contra hp
  rw [decide_eq_false hp] at h
  exact absurd h (by decide)

theorem word_one (p : Prop) [Decidable p] : (BitVec.ofBool (decide p)).setWidth 32 = BitVec.ofNat 32 (if p then 1 else 0) := by
  by_cases h : p <;> simp [h]

/-- The count over the lane's entries, as the sum has it. -/
theorem card_entries (x : Fin 100000 → EReal) (a : EReal) (ha : ⊥ < a) (l : Fin 128) :
    ((Finset.range 782).filter fun n => a ≤ (Cand.entry x l n).1).card
      = (Finset.univ.filter fun k : Fin 781 => BitVec.ofBool (decide (a ≤ x ⟨128 * k.val + l.val, by omega⟩)) = 1#1).card
        + (if h : 96 ≤ l.val then (if a ≤ x ⟨99872 + l.val, by omega⟩ then 1 else 0) else 0) := by
  rw [Finset.range_add_one (n := 781), Finset.filter_insert]
  have e : ((Finset.range 781).filter fun n => a ≤ (Cand.entry x l n).1).card
      = (Finset.univ.filter fun k : Fin 781 => BitVec.ofBool (decide (a ≤ x ⟨128 * k.val + l.val, by omega⟩)) = 1#1).card := by
    symm
    refine Finset.card_bij (fun k _ => k.val) ?_ ?_ ?_
    · intro k hk
      have hk := (Finset.mem_filter.mp hk).2
      refine Finset.mem_filter.mpr ⟨Finset.mem_range.mpr k.isLt, ?_⟩
      rw [Cand.entry, dif_pos k.isLt]
      exact bit_true hk
    · intro k _ k' _ h
      exact Fin.ext h
    · intro n hn
      obtain ⟨h1, h2⟩ := Finset.mem_filter.mp hn
      have h1 := Finset.mem_range.mp h1
      rw [Cand.entry, dif_pos h1] at h2
      refine ⟨⟨n, h1⟩, Finset.mem_filter.mpr ⟨Finset.mem_univ _, ?_⟩, rfl⟩
      rw [decide_eq_true h2]; rfl
  have hl : (Cand.entry x l 781).1 = if 96 ≤ l.val then x ⟨99872 + l.val, by omega⟩ else ⊥ := by
    rw [Cand.entry, dif_neg (by omega)]
  rw [hl]
  by_cases h : 96 ≤ l.val
  · rw [if_pos h, dif_pos h]
    by_cases h2 : a ≤ x ⟨99872 + l.val, by omega⟩
    · rw [if_pos h2, if_pos h2, Finset.card_insert_of_notMem (fun hm => ?_), e]
      exact absurd (Finset.mem_range.mp (Finset.mem_filter.mp hm).1) (lt_irrefl _)
    · rw [if_neg h2, if_neg h2, e, Nat.add_zero]
  · rw [if_neg h, dif_neg h, if_neg (not_le.mpr ha), e, Nat.add_zero]

theorem fits (x : FVec Ideal S32x8x100000 .f32)
    (h : cmpi .sle (sums (high x)) (broadcastInDim S32x8x128 ![] bcast_S_S32x8x128 (constantI S_ 32 14#32)) = fun _ => 1#1)
    (hl : cmpf .ogt (extractStridedSlice S32x8x1 ![0, 0, 63] (Order.top x).1 slices_S32x8x64_S32x8x1_0_0_63)
      (broadcastInDim S32x8x1 ![] bcast_S_S32x8x1 (constant S_ .f32 0xFF800000#32)) = fun _ => 1#1) :
    ⊥ < (Order.top x).1 (ix3 b c 63) ∧ Cand.Fits (fun j => x (ix3 b c j)) ((Order.top x).1 (ix3 b c 63)) := by
  have low : ⊥ < (Order.top x).1 (ix3 b c 63) := by
    have := congrFun hl (ix3 b c 0)
    revert this
    generalize (Order.top x).1 = t
    pointwise
    intro h
    have := bit_true h
    exact Extract.bits_bot ▸ this
  refine ⟨low, fun l => ?_⟩
  have hs := congrFun h (ix3 b c l)
  have hb : cmpi .sle (sums (high x)) (broadcastInDim S32x8x128 ![] bcast_S_S32x8x128 (constantI S_ 32 14#32)) (ix3 b c l)
      = BitVec.ofBool ((sums (high x) (ix3 b c l)).sle 14#32) := by
    generalize sums (high x) = q
    pointwise
    rfl
  rw [hb, sums_at] at hs
  simp only [high_at] at hs
  rw [IndicatorCount.fold_addi_setWidth_eq_card] at hs
  rw [card_entries (fun j => x (ix3 b c j)) _ low l]
  have hn : (Finset.univ.filter fun k : Fin 781 => BitVec.ofBool (decide ((Order.top x).1 (ix3 b c 63)
      ≤ x (ix3 b c ⟨128 * k.val + l.val, by omega⟩))) = 1#1).card ≤ 781 :=
    (Finset.card_filter_le _ _).trans (by simp)
  generalize (Finset.univ.filter fun k : Fin 781 => BitVec.ofBool (decide ((Order.top x).1 (ix3 b c 63)
      ≤ x (ix3 b c ⟨128 * k.val + l.val, by omega⟩))) = 1#1).card = n at hs hn ⊢
  have key : ∀ m : ℕ, m ≤ 1 → BitVec.ofBool ((BitVec.ofNat 32 n + BitVec.ofNat 32 m).sle 14#32) = 1#1 → n + m ≤ 14 := by
    intro m hm h
    rw [← BitVec.ofNat_add] at h
    have h := bit_true (p := (BitVec.ofNat 32 (n + m)).sle 14#32 = true) (by simpa using h)
    rw [BitVec.sle] at h
    have h := of_decide_eq_true h
    rw [Extract.toInt_small (n + m) (by omega), Extract.toInt_small 14 (by omega)] at h
    omega
  by_cases h96 : 96 ≤ l.val
  · rw [dif_pos h96]
    rw [dif_pos h96, word_one] at hs
    refine key _ ?_ hs
    split <;> omega
  · rw [dif_neg h96]
    rw [dif_neg h96] at hs
    exact key 0 (by omega) hs

theorem read (a0 : IVec S_ 32) (a1 a2 : FVec Ideal S32x8x100000 .f32) (a3 a4 : FVec Ideal S32x8x1 .f32)
    (h : (fn (F := Ideal) a0 a1 a2 a3 a4).1 = (fun _ => 1#1) ∧ (fn (F := Ideal) a0 a1 a2 a3 a4).2.1 = (fun _ => 1#1)
      ∧ (fn (F := Ideal) a0 a1 a2 a3 a4).2.2.1 = (fun _ => 1#1) ∧ (fn (F := Ideal) a0 a1 a2 a3 a4).2.2.2 = (fun _ => 1#1)) :
    (⊥ < (Order.top a1).1 (ix3 b c 63) ∧ Cand.Fits (fun j => a1 (ix3 b c j)) ((Order.top a1).1 (ix3 b c 63)))
    ∧ (⊥ < (Order.top a2).1 (ix3 b c 63) ∧ Cand.Fits (fun j => a2 (ix3 b c j)) ((Order.top a2).1 (ix3 b c 63))) :=
  ⟨fits b c a1 h.1 h.2.2.1, fits b c a2 h.2.1 h.2.2.2⟩

end Cert.Proof.Pre
end
end
-- ==== Proof.Final.lean ====
module

public import proofs.«01_k».proof.Proof.KernelRun
public import proofs.«01_k».proof.Proof.KernelValue
public import proofs.«01_k».proof.Proof.RefRun
public import proofs.«01_k».proof.Proof.RefIndex0
public import proofs.«01_k».proof.Proof.RefIndex1
public import proofs.«01_k».proof.Proof.RefScore0
public import proofs.«01_k».proof.Proof.RefScore1
public import proofs.«01_k».proof.Proof.Pre
public import proofs.«01_k».proof.Proof.Gen.Kernel
public import proofs.«01_k».proof.Proof.Gen.KernelIdeal
public import proofs.«01_k».proof.Proof.Gen.ReferenceIdeal
public import proofs.«01_k».proof.Defs

@[expose] public section
set_option maxRecDepth 20000
noncomputable section

/-! The idealized kernel and the idealized reference leave the same five results. -/

namespace Cert.Proof.Final
open Idealize Idealize.ShloMosaic Idealize.ShloMosaic.TcCoe Idealize.SL Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_top_fits_lanes.Facts := Pre.facts

theorem algebraic : Cert.algebraic_KernelIdeal_ReferenceIdeal_pre_top_fits_lanes := by
  intro m g m' g' hpre hargs
  have hG1 : ∀ (d : Dev Cert.KernelIdeal.nD) (b : Fin 32) (c : Fin 8), Row.Good (m ((d.tc : Thread Cert.KernelIdeal.nD Cert.KernelIdeal.τ).loc Cert.KernelIdeal.main_arg1)) b c :=
    fun d b c => (Pre.read b c _ _ _ _ _ (hpre d)).1
  have hG2 : ∀ (d : Dev Cert.KernelIdeal.nD) (b : Fin 32) (c : Fin 8), Row.Good (m ((d.tc : Thread Cert.KernelIdeal.nD Cert.KernelIdeal.τ).loc Cert.KernelIdeal.main_arg2)) b c :=
    fun d b c => (Pre.read b c _ _ _ _ _ (hpre d)).2
  refine ⟨fun d => Val.score (m ((d.tc : Thread Cert.KernelIdeal.nD Cert.KernelIdeal.τ).loc Cert.KernelIdeal.main_arg1)) (Kernel.z1 d (StableHlo.launchContents m' d)) (m ((d.tc : Thread Cert.KernelIdeal.nD Cert.KernelIdeal.τ).loc Cert.KernelIdeal.main_arg3)),
    fun d => Val.score (m ((d.tc : Thread Cert.KernelIdeal.nD Cert.KernelIdeal.τ).loc Cert.KernelIdeal.main_arg2)) (Kernel.z2 d (StableHlo.launchContents m' d)) (m ((d.tc : Thread Cert.KernelIdeal.nD Cert.KernelIdeal.τ).loc Cert.KernelIdeal.main_arg4)),
    fun d => Val.index (m ((d.tc : Thread Cert.KernelIdeal.nD Cert.KernelIdeal.τ).loc Cert.KernelIdeal.main_arg1)) (Kernel.z1 d (StableHlo.launchContents m' d)),
    fun d => Val.index (m ((d.tc : Thread Cert.KernelIdeal.nD Cert.KernelIdeal.τ).loc Cert.KernelIdeal.main_arg2)) (Kernel.z2 d (StableHlo.launchContents m' d)),
    fun _ => Val.beams,
    θ_run_mono (Run.run m g) fun r h d => ?_, θ_run_mono (Ref.ref_run m' g') fun r h d => ?_⟩
  · have hr := h.1 d
    refine ⟨?_, ?_, ?_, ?_, ?_, ?_, ?_, ?_, ?_, ?_⟩
    · exact (hr Cert.KernelIdeal.main_v22 (by decide)).trans (Kernel.out22 m g d _ _ _ (hG1 d) rfl rfl)
    · exact (hr Cert.KernelIdeal.main_v23 (by decide)).trans (Kernel.out23 m g d _ _ _ (hG2 d) rfl rfl)
    · exact (hr Cert.KernelIdeal.main_v24 (by decide)).trans (Kernel.out24 m g d _ _ (hG1 d) rfl)
    · exact (hr Cert.KernelIdeal.main_v25 (by decide)).trans (Kernel.out25 m g d _ _ (hG2 d) rfl)
    · exact (hr Cert.KernelIdeal.main_v30 (by decide)).trans (Kernel.out30 m g d)
    · exact (hr Cert.KernelIdeal.main_arg0 (by decide)).trans (Cert.KernelIdeal.Gen.W10_main_arg0 m g d)
    · exact (hr Cert.KernelIdeal.main_arg1 (by decide)).trans (Cert.KernelIdeal.Gen.W10_main_arg1 m g d)
    · exact (hr Cert.KernelIdeal.main_arg2 (by decide)).trans (Cert.KernelIdeal.Gen.W10_main_arg2 m g d)
    · exact (hr Cert.KernelIdeal.main_arg3 (by decide)).trans (Cert.KernelIdeal.Gen.W10_main_arg3 m g d)
    · exact (hr Cert.KernelIdeal.main_arg4 (by decide)).trans (Cert.KernelIdeal.Gen.W10_main_arg4 m g d)
  · have hr := h.1 d
    obtain ⟨_, e1, e2, e3, e4⟩ := hargs d
    have a1 : StableHlo.launchContents m' d (Proc.devRef .tc Cert.ReferenceIdeal.main_arg1) = m ((d.tc : Thread Cert.KernelIdeal.nD Cert.KernelIdeal.τ).loc Cert.KernelIdeal.main_arg1) := e1
    have a2 : StableHlo.launchContents m' d (Proc.devRef .tc Cert.ReferenceIdeal.main_arg2) = m ((d.tc : Thread Cert.KernelIdeal.nD Cert.KernelIdeal.τ).loc Cert.KernelIdeal.main_arg2) := e2
    have a3 : StableHlo.launchContents m' d (Proc.devRef .tc Cert.ReferenceIdeal.main_arg3) = m ((d.tc : Thread Cert.KernelIdeal.nD Cert.KernelIdeal.τ).loc Cert.KernelIdeal.main_arg3) := e3
    have a4 : StableHlo.launchContents m' d (Proc.devRef .tc Cert.ReferenceIdeal.main_arg4) = m ((d.tc : Thread Cert.KernelIdeal.nD Cert.KernelIdeal.τ).loc Cert.KernelIdeal.main_arg4) := e4
    refine ⟨?_, ?_, ?_, ?_, ?_, ?_, ?_, ?_, ?_, ?_⟩
    · refine (hr Cert.ReferenceIdeal.main_v46).trans ((Val.v46 d _).trans ?_)
      rw [Val.sliced0 d, a1, a3]
    · refine (hr Cert.ReferenceIdeal.main_v81).trans ((Val.v81 d _).trans ?_)
      rw [Val.sliced1 d, a2, a4]
    · refine (hr Cert.ReferenceIdeal.main_v27).trans ((Val.v27 d _).trans ?_)
      rw [a1]
    · refine (hr Cert.ReferenceIdeal.main_v62).trans ((Val.v62 d _).trans ?_)
      rw [a2]
    · exact (hr Cert.ReferenceIdeal.main_v32).trans (Val.v32 d _)
    · exact (hr Cert.ReferenceIdeal.main_arg0).trans (Ref.after_arg0 d _)
    · exact (hr Cert.ReferenceIdeal.main_arg1).trans (Ref.after_arg1 d _)
    · exact (hr Cert.ReferenceIdeal.main_arg2).trans (Ref.after_arg2 d _)
    · exact (hr Cert.ReferenceIdeal.main_arg3).trans (Ref.after_arg3 d _)
    · exact (hr Cert.ReferenceIdeal.main_arg4).trans (Ref.after_arg4 d _)

end Cert.Proof.Final
end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Final
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Pre.facts,
    fun m ρ _ => Cert.Kernel.Gen.frame m ρ,
    fun m ρ _ => Cert.KernelIdeal.Gen.frame m ρ,
    fun m ρ _ => Cert.KernelIdeal.Gen.frame m ρ,
    Ref.ref_frame,
    fun m g _ => Ref.ref_frame m g trivial,
    trivial,
    Final.algebraic⟩

end Cert.Proof

end
end
